-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite [hPre_finite : Cert.Pre_finite.Facts] (m : (ℓ : Loc Cert.FirstIdeal.nD Cert.FirstIdeal.τ Cert.FirstIdeal.sig) → Buf (Elt Ideal) ℓ) : Prop :=
  ∀ c : Dev Cert.FirstIdeal.nD,
    (Cert.Pre_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_finite [hPre_finite : Cert.Pre_finite.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_finite.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstIdeal_pre_finite [hFirstIdeal : Cert.FirstIdeal.Facts] [hPre_finite : Cert.Pre_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def quiescent_FirstReferenceIdeal_pre_finite [hFirstReferenceIdeal : Cert.FirstReferenceIdeal.Facts] [hPre_finite : Cert.Pre_finite.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_finite m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_First_FirstIdeal : Prop :=
  True

def algebraic_FirstIdeal_FirstReferenceIdeal_pre_finite [hFirstIdeal : Cert.FirstIdeal.Facts] [hFirstReferenceIdeal : Cert.FirstReferenceIdeal.Facts] [hPre_finite : Cert.Pre_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_finite m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v4_0)) (v1 : (c : Dev Cert.FirstIdeal.nD) → Buf (Elt Ideal) ((c.tc : Thread Cert.FirstIdeal.nD Cert.FirstIdeal.τ).loc Cert.FirstIdeal.main_v4_1)) (v2 : (c : Dev Cert.FirstIdeal.nD) → Buf (Elt Ideal) ((c.tc : Thread Cert.FirstIdeal.nD Cert.FirstIdeal.τ).loc Cert.FirstIdeal.main_v1_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4_0) = v0 c
          ∧ r.2.mem ((c.tc : Thread Cert.FirstIdeal.nD Cert.FirstIdeal.τ).loc Cert.FirstIdeal.main_v4_1) = v1 c
          ∧ r.2.mem ((c.tc : Thread Cert.FirstIdeal.nD Cert.FirstIdeal.τ).loc Cert.FirstIdeal.main_v1_1) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_indices) = v0 c
          ∧ r.2.mem ((c.tc : Thread Cert.FirstReferenceIdeal.nD Cert.FirstReferenceIdeal.τ).loc Cert.FirstReferenceIdeal.main_v28) = v1 c
          ∧ r.2.mem ((c.tc : Thread Cert.FirstReferenceIdeal.nD Cert.FirstReferenceIdeal.τ).loc Cert.FirstReferenceIdeal.main_v30) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hPre_in_range : Cert.Pre_in_range.Facts) (hPre_in_range_finite : Cert.Pre_in_range_finite.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ quiescent_First (hFirst := hFirst)
    ∧ quiescent_FirstIdeal (hFirstIdeal := hFirstIdeal)
    ∧ quiescent_FirstIdeal_pre_finite (hFirstIdeal := hFirstIdeal) (hPre_finite := hPre_finite)
    ∧ quiescent_FirstReferenceIdeal (hFirstReferenceIdeal := hFirstReferenceIdeal)
    ∧ quiescent_FirstReferenceIdeal_pre_finite (hFirstReferenceIdeal := hFirstReferenceIdeal) (hPre_finite := hPre_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
    ∧ preserves_First_FirstIdeal
    ∧ algebraic_FirstIdeal_FirstReferenceIdeal_pre_finite (hFirstIdeal := hFirstIdeal) (hFirstReferenceIdeal := hFirstReferenceIdeal) (hPre_finite := hPre_finite)
-- ==== Pre_finite.lean ====
abbrev S2048x1024 : Shape := ⟨2, ![2048, 1024]⟩
abbrev S1024x256 : Shape := ⟨2, ![1024, 256]⟩
abbrev S256 : Shape := ⟨1, ![256]⟩
abbrev S4096x128 : Shape := ⟨2, ![4096, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S2048x1024 .f32) (main_arg1 : FVec F S1024x256 .f32) (main_arg2 : FVec F S256 .f32) (main_arg3 : FVec F S4096x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Pre_in_range.lean ====
abbrev S2048x16 : Shape := ⟨2, ![2048, 16]⟩
abbrev S2048x128 : Shape := ⟨2, ![2048, 128]⟩
abbrev S4096x16x128 : Shape := ⟨3, ![4096, 16, 128]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel

variable [Facts]

def fn {F : FTy → Type} [FloatOps F] (main_arg0 : IVec S2048x16 32) (main_arg1 : FVec F S2048x16 .f32) (main_arg2 : FVec F S2048x128 .f32) (main_arg3 : FVec F S4096x16x128 .f32) : IVec S_ 1 :=
  let main_c : IVec S_ 32 := constantI S_ 32 0#32
  let main_v0 : IVec S2048x16 32 := broadcastInDim S2048x16 ![] bcast_S_S2048x16 main_c
  let main_v1 : IVec S2048x16 1 := cmpi .sge main_arg0 main_v0
  let main_c_0 : IVec S_ 32 := constantI S_ 32 4096#32
  let main_v2 : IVec S2048x16 32 := broadcastInDim S2048x16 ![] bcast_S_S2048x16 main_c_0
  let main_v3 : IVec S2048x16 1 := cmpi .slt main_arg0 main_v2
  let main_v4 : IVec S2048x16 1 := andi main_v1 main_v3
  let main_c_1 : IVec S_ 1 := constantI S_ 1 1#1
  let main_v5 : IVec S_ 1 := (fun x v => Host.reduce IntOp.andi x v reducesTo_S2048x16_S_d0_1 h_S_) main_v4 main_c_1
  main_v5
-- ==== Pre_in_range_finite.lean ====
abbrev S2048x16 : Shape := ⟨2, ![2048, 16]⟩
abbrev S2048x128 : Shape := ⟨2, ![2048, 128]⟩
abbrev S4096x16x128 : Shape := ⟨3, ![4096, 16, 128]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S4096x16x128 : S_.BroadcastsInDim S4096x16x128 (![] : Fin 0 → Fin S4096x16x128.rank)
  reducesTo_S4096x16x128_S_d0_1_2 : S4096x16x128.ReducesTo [0, 1, 2] S_

variable [Facts]

def fn_part1 {F : FTy → Type} [FloatOps F] (main_arg0 : IVec S2048x16 32) (main_v13 : IVec S_ 1) (main_v15 : IVec S2048x16 1) (main_c_5 : IVec S_ 32) : IVec S_ 1 :=
  let main_v16 : IVec S2048x16 32 := broadcastInDim S2048x16 ![] bcast_S_S2048x16 main_c_5
  let main_v17 : IVec S2048x16 1 := cmpi .slt main_arg0 main_v16
  let main_v18 : IVec S2048x16 1 := andi main_v15 main_v17
  let main_c_6 : IVec S_ 1 := constantI S_ 1 1#1
  let main_v19 : IVec S_ 1 := (fun x v => Host.reduce IntOp.andi x v reducesTo_S2048x16_S_d0_1 h_S_) main_v18 main_c_6
  let main_v20 : IVec S_ 1 := andi main_v19 main_v13
  main_v20

def fn {F : FTy → Type} [FloatOps F] (main_arg0 : IVec S2048x16 32) (main_arg1 : FVec F S2048x16 .f32) (main_arg2 : FVec F S2048x128 .f32) (main_arg3 : FVec F S4096x16x128 .f32) : IVec S_ 1 :=
  let main_v0 : FVec F S2048x16 .f32 := Host.absf main_arg1
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S4096x16x128 .f32 := Host.absf main_arg3
  let main_cst_2 : FVec F S_ .f32 := constant S_ .f32 0x7F800000#32
  let main_v10 : FVec F S4096x16x128 .f32 := broadcastInDim S4096x16x128 ![] bcast_S_S4096x16x128 main_cst_2
  let main_v11 : IVec S4096x16x128 1 := cmpf .olt main_v9 main_v10
  let main_c_3 : IVec S_ 1 := constantI S_ 1 1#1
  let main_v12 : IVec S_ 1 := (fun x v => Host.reduce IntOp.andi x v reducesTo_S4096x16x128_S_d0_1_2 h_S_) main_v11 main_c_3
  let main_v13 : IVec S_ 1 := andi main_v8 main_v12
  let main_c_4 : IVec S_ 32 := constantI S_ 32 0#32
  let main_v14 : IVec S2048x16 32 := broadcastInDim S2048x16 ![] bcast_S_S2048x16 main_c_4
  let main_v15 : IVec S2048x16 1 := cmpi .sge main_arg0 main_v14
  let main_c_5 : IVec S_ 32 := constantI S_ 32 4096#32
  fn_part1 (F := F) main_arg0 main_v13 main_v15 main_c_5
-- ==== Kernel.lean ====
abbrev S2048x16 : Shape := ⟨2, ![2048, 16]⟩
abbrev S2048x128 : Shape := ⟨2, ![2048, 128]⟩
abbrev S4096x16x128 : Shape := ⟨3, ![4096, 16, 128]⟩
abbrev S4096x128x16 : Shape := ⟨3, ![4096, 128, 16]⟩
abbrev S32768x2x128 : Shape := ⟨3, ![32768, 2, 128]⟩
abbrev S2048x16x1 : Shape := ⟨3, ![2048, 16, 1]⟩
abbrev S_ : Shape := ⟨0, ![]⟩
abbrev S8 : Shape := ⟨1, ![8]⟩
abbrev S1x1x8 : Shape := ⟨3, ![1, 1, 8]⟩
abbrev S2048x16x8 : Shape := ⟨3, ![2048, 16, 8]⟩
abbrev S2048x256 : Shape := ⟨2, ![2048, 256]⟩
abbrev S64x128 : Shape := ⟨2, ![64, 128]⟩
abbrev S128x2x128 : Shape := ⟨3, ![128, 2, 128]⟩
abbrev S64x256 : Shape := ⟨2, ![64, 256]⟩
abbrev S1x128 : Shape := ⟨2, ![1, 128]⟩
abbrev S128 : Shape := ⟨1, ![128]⟩
abbrev S1x16 : Shape := ⟨2, ![1, 16]⟩
abbrev S16 : Shape := ⟨1, ![16]⟩
abbrev S1x1x16 : Shape := ⟨3, ![1, 1, 16]⟩
abbrev S1 : Shape := ⟨1, ![1]⟩
abbrev S256x256 : Shape := ⟨2, ![256, 256]⟩
abbrev S256x16 : Shape := ⟨2, ![256, 16]⟩
abbrev S256x16x16 : Shape := ⟨3, ![256, 16, 16]⟩
abbrev S256x16x1 : Shape := ⟨3, ![256, 16, 1]⟩
abbrev S256x16x8 : Shape := ⟨3, ![256, 16, 8]⟩
abbrev S256x16x4 : Shape := ⟨3, ![256, 16, 4]⟩
abbrev S256x16x2 : Shape := ⟨3, ![256, 16, 2]⟩
abbrev S256 : Shape := ⟨1, ![256]⟩
abbrev S256x1 : Shape := ⟨2, ![256, 1]⟩
abbrev S256x8 : Shape := ⟨2, ![256, 8]⟩
abbrev S256x4 : Shape := ⟨2, ![256, 4]⟩
abbrev S256x2 : Shape := ⟨2, ![256, 2]⟩

abbrev nBuf : Table → Nat
  | .hbm => 19
  | .local .tc .vmem => 8
  | .local .scVector .vmem => 5
  | _ => 0

abbrev bufTy : (tb : Table) → Fin (nBuf tb) → BufTy
  | .hbm, ⟨0, _⟩ => ⟨S2048x16, .i32⟩
  | .hbm, ⟨1, _⟩ => ⟨S2048x16, .f32⟩
  | .hbm, ⟨2, _⟩ => ⟨S2048x128, .f32⟩
  | .hbm, ⟨3, _⟩ => ⟨S4096x16x128, .f32⟩
  | .hbm, ⟨4, _⟩ => ⟨S4096x128x16, .f32⟩
  | .hbm, ⟨5, _⟩ => ⟨S32768x2x128, .f32⟩
  | .hbm, ⟨6, _⟩ => ⟨S2048x16x1, .i32⟩
  | .hbm, ⟨7, _⟩ => ⟨S_, .i32⟩
  | .hbm, ⟨8, _⟩ => ⟨S2048x16x1, .i32⟩
  | .hbm, ⟨9, _⟩ => ⟨S2048x16x1, .i32⟩
  | .hbm, ⟨10, _⟩ => ⟨S8, .i32⟩
  | .hbm, ⟨11, _⟩ => ⟨S1x1x8, .i32⟩
  | .hbm, ⟨12, _⟩ => ⟨S2048x16x8, .i32⟩
  | .hbm, ⟨13, _⟩ => ⟨S2048x16x8, .i32⟩
  | .hbm, ⟨14, _⟩ => ⟨S2048x16x8, .i32⟩
  | .hbm, ⟨15, _⟩ => ⟨S2048x128, .i32⟩
  | .hbm, ⟨16, _⟩ => ⟨S2048x256, .f32⟩
  | .hbm, ⟨17, _⟩ => ⟨S2048x16, .f32⟩
  | .hbm, ⟨18, _⟩ => ⟨S2048x16, .i32⟩
  | .local .tc .vmem, ⟨0, _⟩ => ⟨S256x256, .f32⟩
  | .local .tc .vmem, ⟨1, _⟩ => ⟨S256x256, .f32⟩
  | .local .tc .vmem, ⟨2, _⟩ => ⟨S256x16, .f32⟩
  | .local .tc .vmem, ⟨3, _⟩ => ⟨S256x16, .f32⟩
  | .local .tc .vmem, ⟨4, _⟩ => ⟨S256x16, .f32⟩
  | .local .tc .vmem, ⟨5, _⟩ => ⟨S256x16, .f32⟩
  | .local .tc .vmem, ⟨6, _⟩ => ⟨S256x16, .i32⟩
  | .local .tc .vmem, ⟨7, _⟩ => ⟨S256x16, .i32⟩
  | .local .scVector .vmem, ⟨0, _⟩ => ⟨S64x128, .i32⟩
  | .local .scVector .vmem, ⟨1, _⟩ => ⟨S64x128, .f32⟩
  | .local .scVector .vmem, ⟨2, _⟩ => ⟨S128x2x128, .f32⟩
  | .local .scVector .vmem, ⟨3, _⟩ => ⟨S128x2x128, .f32⟩
  | .local .scVector .vmem, ⟨4, _⟩ => ⟨S64x256, .f32⟩
  | _, _ => ⟨S2048x16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v10_scv : Ref sig .scVector := ⟨.hbm, 15, rfl⟩
abbrev main_arg2_scv : Ref sig .scVector := ⟨.hbm, 2, rfl⟩
abbrev main_v1_scv : Ref sig .scVector := ⟨.hbm, 5, rfl⟩
abbrev main_v11_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_7_r0 : BitVec 32 := 0#32
  ![v2.toNat, 0]
@[reducible] def k0_t1_loop : Scf.Loop 32 :=
  let c0_i32_5 : BitVec 32 := 0#32
  let c32_i32 : BitVec 32 := 32#32
  let v6 : BitVec 32 := Scalar.addi c0_i32_5 c32_i32
  let c1_i32 : BitVec 32 := 1#32
  ⟨c0_i32_5, v6, c1_i32⟩
def k0_off2 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_8 : BitVec 32 := 1#32
  let v8 : BitVec 32 := Scalar.addi v7 c1_i32_8
  let c0_i32_9 : BitVec 32 := 0#32
  ![v8.toNat, 0]
def k0_off3 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c0_i32_13 : BitVec 32 := 0#32
  ![v7.toNat, 0]
@[reducible] def k0_t2_loop : Scf.Loop 32 :=
  let c0_i32_18 : BitVec 32 := 0#32
  let c16_i32 : BitVec 32 := 16#32
  let v15 : BitVec 32 := Scalar.addi c0_i32_18 c16_i32
  let c1_i32_19 : BitVec 32 := 1#32
  ⟨c0_i32_18, v15, c1_i32_19⟩
def k0_off4 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v26 : Index := Scalar.indexCast v7
  let c0 : Index := 0#32
  ![v26.toNat, 0]
def k0_off5 (k0_t2 : Fin k0_t2_loop.trips) (c0_i32_35 : BitVec 32) : Fin 3 → Nat :=
  let c0_i32_18 : BitVec 32 := 0#32
  let c1_i32_19 : BitVec 32 := 1#32
  let arg14 : BitVec 32 := Scf.iv c0_i32_18 c1_i32_19 k0_t2
  let c8_i32 : BitVec 32 := 8#32
  let v29 : BitVec 32 := Scalar.muli arg14 c8_i32
  let v30 : BitVec 32 := Scalar.addi v29 c0_i32_35
  let v31 : Index := Scalar.indexCast v30
  let c0_i32_36 : BitVec 32 := 0#32
  let v32 : Index := Scalar.indexCast c0_i32_36
  let c0_37 : Index := 0#32
  ![v31.toNat, 0, 0]
def k0_off6 (k0_t2 : Fin k0_t2_loop.trips) (c0_i32_39 : BitVec 32) : Fin 3 → Nat :=
  let c0_i32_18 : BitVec 32 := 0#32
  let c1_i32_19 : BitVec 32 := 1#32
  let arg14 : BitVec 32 := Scf.iv c0_i32_18 c1_i32_19 k0_t2
  let c8_i32_38 : BitVec 32 := 8#32
  let v39 : BitVec 32 := Scalar.muli arg14 c8_i32_38
  let v40 : BitVec 32 := Scalar.addi v39 c0_i32_39
  let v41 : Index := Scalar.indexCast v40
  let c0_i32_40 : BitVec 32 := 0#32
  let v42 : Index := Scalar.indexCast c0_i32_40
  let c16 : Index := 16#32
  ![v41.toNat, 0, 16]
def k0_off7 (k0_t2 : Fin k0_t2_loop.trips) (c0_i32_42 : BitVec 32) : Fin 3 → Nat :=
  let c0_i32_18 : BitVec 32 := 0#32
  let c1_i32_19 : BitVec 32 := 1#32
  let arg14 : BitVec 32 := Scf.iv c0_i32_18 c1_i32_19 k0_t2
  let c8_i32_41 : BitVec 32 := 8#32
  let v49 : BitVec 32 := Scalar.muli arg14 c8_i32_41
  let v50 : BitVec 32 := Scalar.addi v49 c0_i32_42
  let v51 : Index := Scalar.indexCast v50
  let c0_i32_43 : BitVec 32 := 0#32
  let v52 : Index := Scalar.indexCast c0_i32_43
  let c32 : Index := 32#32
  ![v51.toNat, 0, 32]
def k0_off8 (k0_t2 : Fin k0_t2_loop.trips) (c0_i32_45 : BitVec 32) : Fin 3 → Nat :=
  let c0_i32_18 : BitVec 32 := 0#32
  let c1_i32_19 : BitVec 32 := 1#32
  let arg14 : BitVec 32 := Scf.iv c0_i32_18 c1_i32_19 k0_t2
  let c8_i32_44 : BitVec 32 := 8#32
  let v59 : BitVec 32 := Scalar.muli arg14 c8_i32_44
  let v60 : BitVec 32 := Scalar.addi v59 c0_i32_45
  let v61 : Index := Scalar.indexCast v60
  let c0_i32_46 : BitVec 32 := 0#32
  let v62 : Index := Scalar.indexCast c0_i32_46
  let c48 : Index := 48#32
  ![v61.toNat, 0, 48]
def k0_off9 (k0_t2 : Fin k0_t2_loop.trips) (c0_i32_48 : BitVec 32) : Fin 3 → Nat :=
  let c0_i32_18 : BitVec 32 := 0#32
  let c1_i32_19 : BitVec 32 := 1#32
  let arg14 : BitVec 32 := Scf.iv c0_i32_18 c1_i32_19 k0_t2
  let c8_i32_47 : BitVec 32 := 8#32
  let v69 : BitVec 32 := Scalar.muli arg14 c8_i32_47
  let v70 : BitVec 32 := Scalar.addi v69 c0_i32_48
  let v71 : Index := Scalar.indexCast v70
  let c0_i32_49 : BitVec 32 := 0#32
  let v72 : Index := Scalar.indexCast c0_i32_49
  let c64 : Index := 64#32
  ![v71.toNat, 0, 64]
def k0_off10 (k0_t2 : Fin k0_t2_loop.trips) (c0_i32_51 : BitVec 32) : Fin 3 → Nat :=
  let c0_i32_18 : BitVec 32 := 0#32
  let c1_i32_19 : BitVec 32 := 1#32
  let arg14 : BitVec 32 := Scf.iv c0_i32_18 c1_i32_19 k0_t2
  let c8_i32_50 : BitVec 32 := 8#32
  let v79 : BitVec 32 := Scalar.muli arg14 c8_i32_50
  let v80 : BitVec 32 := Scalar.addi v79 c0_i32_51
  let v81 : Index := Scalar.indexCast v80
  let c0_i32_52 : BitVec 32 := 0#32
  let v82 : Index := Scalar.indexCast c0_i32_52
  let c80 : Index := 80#32
  ![v81.toNat, 0, 80]
def k0_off11 (k0_t2 : Fin k0_t2_loop.trips) (c0_i32_54 : BitVec 32) : Fin 3 → Nat :=
  let c0_i32_18 : BitVec 32 := 0#32
  let c1_i32_19 : BitVec 32 := 1#32
  let arg14 : BitVec 32 := Scf.iv c0_i32_18 c1_i32_19 k0_t2
  let c8_i32_53 : BitVec 32 := 8#32
  let v89 : BitVec 32 := Scalar.muli arg14 c8_i32_53
  let v90 : BitVec 32 := Scalar.addi v89 c0_i32_54
  let v91 : Index := Scalar.indexCast v90
  let c0_i32_55 : BitVec 32 := 0#32
  let v92 : Index := Scalar.indexCast c0_i32_55
  let c96 : Index := 96#32
  ![v91.toNat, 0, 96]
def k0_off12 (k0_t2 : Fin k0_t2_loop.trips) (c0_i32_57 : BitVec 32) : Fin 3 → Nat :=
  let c0_i32_18 : BitVec 32 := 0#32
  let c1_i32_19 : BitVec 32 := 1#32
  let arg14 : BitVec 32 := Scf.iv c0_i32_18 c1_i32_19 k0_t2
  let c8_i32_56 : BitVec 32 := 8#32
  let v99 : BitVec 32 := Scalar.muli arg14 c8_i32_56
  let v100 : BitVec 32 := Scalar.addi v99 c0_i32_57
  let v101 : Index := Scalar.indexCast v100
  let c0_i32_58 : BitVec 32 := 0#32
  let v102 : Index := Scalar.indexCast c0_i32_58
  let c112 : Index := 112#32
  ![v101.toNat, 0, 112]
def k0_off13 (k0_t2 : Fin k0_t2_loop.trips) (c0_i32_60 : BitVec 32) : Fin 3 → Nat :=
  let c0_i32_18 : BitVec 32 := 0#32
  let c1_i32_19 : BitVec 32 := 1#32
  let arg14 : BitVec 32 := Scf.iv c0_i32_18 c1_i32_19 k0_t2
  let c8_i32_59 : BitVec 32 := 8#32
  let v116 : BitVec 32 := Scalar.muli arg14 c8_i32_59
  let v117 : BitVec 32 := Scalar.addi v116 c0_i32_60
  let v118 : Index := Scalar.indexCast v117
  let c1_i32_61 : BitVec 32 := 1#32
  let v119 : Index := Scalar.indexCast c1_i32_61
  let c0_62 : Index := 0#32
  ![v118.toNat, 1, 0]
def k0_off14 (k0_t2 : Fin k0_t2_loop.trips) (c0_i32_64 : BitVec 32) : Fin 3 → Nat :=
  let c0_i32_18 : BitVec 32 := 0#32
  let c1_i32_19 : BitVec 32 := 1#32
  let arg14 : BitVec 32 := Scf.iv c0_i32_18 c1_i32_19 k0_t2
  let c8_i32_63 : BitVec 32 := 8#32
  let v126 : BitVec 32 := Scalar.muli arg14 c8_i32_63
  let v127 : BitVec 32 := Scalar.addi v126 c0_i32_64
  let v128 : Index := Scalar.indexCast v127
  let c1_i32_65 : BitVec 32 := 1#32
  let v129 : Index := Scalar.indexCast c1_i32_65
  let c16_66 : Index := 16#32
  ![v128.toNat, 1, 16]
def k0_off15 (k0_t2 : Fin k0_t2_loop.trips) (c0_i32_68 : BitVec 32) : Fin 3 → Nat :=
  let c0_i32_18 : BitVec 32 := 0#32
  let c1_i32_19 : BitVec 32 := 1#32
  let arg14 : BitVec 32 := Scf.iv c0_i32_18 c1_i32_19 k0_t2
  let c8_i32_67 : BitVec 32 := 8#32
  let v136 : BitVec 32 := Scalar.muli arg14 c8_i32_67
  let v137 : BitVec 32 := Scalar.addi v136 c0_i32_68
  let v138 : Index := Scalar.indexCast v137
  let c1_i32_69 : BitVec 32 := 1#32
  let v139 : Index := Scalar.indexCast c1_i32_69
  let c32_70 : Index := 32#32
  ![v138.toNat, 1, 32]
def k0_off16 (k0_t2 : Fin k0_t2_loop.trips) (c0_i32_72 : BitVec 32) : Fin 3 → Nat :=
  let c0_i32_18 : BitVec 32 := 0#32
  let c1_i32_19 : BitVec 32 := 1#32
  let arg14 : BitVec 32 := Scf.iv c0_i32_18 c1_i32_19 k0_t2
  let c8_i32_71 : BitVec 32 := 8#32
  let v146 : BitVec 32 := Scalar.muli arg14 c8_i32_71
  let v147 : BitVec 32 := Scalar.addi v146 c0_i32_72
  let v148 : Index := Scalar.indexCast v147
  let c1_i32_73 : BitVec 32 := 1#32
  let v149 : Index := Scalar.indexCast c1_i32_73
  let c48_74 : Index := 48#32
  ![v148.toNat, 1, 48]
def k0_off17 (k0_t2 : Fin k0_t2_loop.trips) (c0_i32_76 : BitVec 32) : Fin 3 → Nat :=
  let c0_i32_18 : BitVec 32 := 0#32
  let c1_i32_19 : BitVec 32 := 1#32
  let arg14 : BitVec 32 := Scf.iv c0_i32_18 c1_i32_19 k0_t2
  let c8_i32_75 : BitVec 32 := 8#32
  let v156 : BitVec 32 := Scalar.muli arg14 c8_i32_75
  let v157 : BitVec 32 := Scalar.addi v156 c0_i32_76
  let v158 : Index := Scalar.indexCast v157
  let c1_i32_77 : BitVec 32 := 1#32
  let v159 : Index := Scalar.indexCast c1_i32_77
  let c64_78 : Index := 64#32
  ![v158.toNat, 1, 64]
def k0_off18 (k0_t2 : Fin k0_t2_loop.trips) (c0_i32_80 : BitVec 32) : Fin 3 → Nat :=
  let c0_i32_18 : BitVec 32 := 0#32
  let c1_i32_19 : BitVec 32 := 1#32
  let arg14 : BitVec 32 := Scf.iv c0_i32_18 c1_i32_19 k0_t2
  let c8_i32_79 : BitVec 32 := 8#32
  let v166 : BitVec 32 := Scalar.muli arg14 c8_i32_79
  let v167 : BitVec 32 := Scalar.addi v166 c0_i32_80
  let v168 : Index := Scalar.indexCast v167
  let c1_i32_81 : BitVec 32 := 1#32
  let v169 : Index := Scalar.indexCast c1_i32_81
  let c80_82 : Index := 80#32
  ![v168.toNat, 1, 80]
def k0_off19 (k0_t2 : Fin k0_t2_loop.trips) (c0_i32_84 : BitVec 32) : Fin 3 → Nat :=
  let c0_i32_18 : BitVec 32 := 0#32
  let c1_i32_19 : BitVec 32 := 1#32
  let arg14 : BitVec 32 := Scf.iv c0_i32_18 c1_i32_19 k0_t2
  let c8_i32_83 : BitVec 32 := 8#32
  let v176 : BitVec 32 := Scalar.muli arg14 c8_i32_83
  let v177 : BitVec 32 := Scalar.addi v176 c0_i32_84
  let v178 : Index := Scalar.indexCast v177
  let c1_i32_85 : BitVec 32 := 1#32
  let v179 : Index := Scalar.indexCast c1_i32_85
  let c96_86 : Index := 96#32
  ![v178.toNat, 1, 96]
def k0_off20 (k0_t2 : Fin k0_t2_loop.trips) (c0_i32_88 : BitVec 32) : Fin 3 → Nat :=
  let c0_i32_18 : BitVec 32 := 0#32
  let c1_i32_19 : BitVec 32 := 1#32
  let arg14 : BitVec 32 := Scf.iv c0_i32_18 c1_i32_19 k0_t2
  let c8_i32_87 : BitVec 32 := 8#32
  let v186 : BitVec 32 := Scalar.muli arg14 c8_i32_87
  let v187 : BitVec 32 := Scalar.addi v186 c0_i32_88
  let v188 : Index := Scalar.indexCast v187
  let c1_i32_89 : BitVec 32 := 1#32
  let v189 : Index := Scalar.indexCast c1_i32_89
  let c112_90 : Index := 112#32
  ![v188.toNat, 1, 112]
def k0_off21 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v204 : Index := Scalar.indexCast v7
  let c16_91 : Index := 16#32
  ![v204.toNat, 16]
def k0_off22 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v383 : Index := Scalar.indexCast v7
  let c32_156 : Index := 32#32
  ![v383.toNat, 32]
def k0_off23 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v562 : Index := Scalar.indexCast v7
  let c48_221 : Index := 48#32
  ![v562.toNat, 48]
def k0_off24 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v741 : Index := Scalar.indexCast v7
  let c64_285 : Index := 64#32
  ![v741.toNat, 64]
def k0_off25 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v920 : Index := Scalar.indexCast v7
  let c80_349 : Index := 80#32
  ![v920.toNat, 80]
def k0_off26 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v1099 : Index := Scalar.indexCast v7
  let c96_413 : Index := 96#32
  ![v1099.toNat, 96]
def k0_off27 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v1278 : Index := Scalar.indexCast v7
  let c112_477 : Index := 112#32
  ![v1278.toNat, 112]
def k0_off28 (k0_t1 : Fin k0_t1_loop.trips) (k0_t2 : Fin k0_t2_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let v1458 : Index := Scalar.indexCast v7
  let c0_i32_18 : BitVec 32 := 0#32
  let c1_i32_19 : BitVec 32 := 1#32
  let arg14 : BitVec 32 := Scf.iv c0_i32_18 c1_i32_19 k0_t2
  let c16_i32_541 : BitVec 32 := 16#32
  let v1457 : BitVec 32 := Scalar.muli arg14 c16_i32_541
  let v1459 : Index := Scalar.indexCast v1457
  ![v1458.toNat, v1459.toNat]
def k0_cond1 (k0_t1 : Fin k0_t1_loop.trips) : BitVec 1 :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c2_i32_21 : BitVec 32 := 2#32
  let v16 : BitVec 32 := Scalar.addi v7 c2_i32_21
  let c64_i32_22 : BitVec 32 := 64#32
  let v17 : BitVec 1 := Scalar.cmpi .slt v16 c64_i32_22
  let v18 : BitVec 32 := Scalar.extui v17
  let c0_i32_23 : BitVec 32 := 0#32
  let v19 : BitVec 1 := Scalar.cmpi .ne v18 c0_i32_23
  v19

def k0_off29 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c2_i32_35 : BitVec 32 := 2#32
  let v26 : BitVec 32 := Scalar.addi v7 c2_i32_35
  let c0_i32_36 : BitVec 32 := 0#32
  ![v26.toNat, 0]
@[reducible] def k0_t3_loop : Scf.Loop 32 :=
  let c0_i32_31 : BitVec 32 := 0#32
  let c16_i32_32 : BitVec 32 := 16#32
  let v25 : BitVec 32 := Scalar.addi c0_i32_31 c16_i32_32
  let c1_i32_33 : BitVec 32 := 1#32
  ⟨c0_i32_31, v25, c1_i32_33⟩
def k0_off30 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v26 : Index := Scalar.indexCast v24
  let c0 : Index := 0#32
  ![v26.toNat, 0]
def k0_off31 (k0_t3 : Fin k0_t3_loop.trips) (c0_i32_35 : BitVec 32) : Fin 3 → Nat :=
  let c0_i32_31 : BitVec 32 := 0#32
  let c1_i32_33 : BitVec 32 := 1#32
  let arg14 : BitVec 32 := Scf.iv c0_i32_31 c1_i32_33 k0_t3
  let c8_i32 : BitVec 32 := 8#32
  let v29 : BitVec 32 := Scalar.muli arg14 c8_i32
  let v30 : BitVec 32 := Scalar.addi v29 c0_i32_35
  let v31 : Index := Scalar.indexCast v30
  let c0_i32_36 : BitVec 32 := 0#32
  let v32 : Index := Scalar.indexCast c0_i32_36
  let c0_37 : Index := 0#32
  ![v31.toNat, 0, 0]
def k0_off32 (k0_t3 : Fin k0_t3_loop.trips) (c0_i32_39 : BitVec 32) : Fin 3 → Nat :=
  let c0_i32_31 : BitVec 32 := 0#32
  let c1_i32_33 : BitVec 32 := 1#32
  let arg14 : BitVec 32 := Scf.iv c0_i32_31 c1_i32_33 k0_t3
  let c8_i32_38 : BitVec 32 := 8#32
  let v39 : BitVec 32 := Scalar.muli arg14 c8_i32_38
  let v40 : BitVec 32 := Scalar.addi v39 c0_i32_39
  let v41 : Index := Scalar.indexCast v40
  let c0_i32_40 : BitVec 32 := 0#32
  let v42 : Index := Scalar.indexCast c0_i32_40
  let c16 : Index := 16#32
  ![v41.toNat, 0, 16]
def k0_off33 (k0_t3 : Fin k0_t3_loop.trips) (c0_i32_42 : BitVec 32) : Fin 3 → Nat :=
  let c0_i32_31 : BitVec 32 := 0#32
  let c1_i32_33 : BitVec 32 := 1#32
  let arg14 : BitVec 32 := Scf.iv c0_i32_31 c1_i32_33 k0_t3
  let c8_i32_41 : BitVec 32 := 8#32
  let v49 : BitVec 32 := Scalar.muli arg14 c8_i32_41
  let v50 : BitVec 32 := Scalar.addi v49 c0_i32_42
  let v51 : Index := Scalar.indexCast v50
  let c0_i32_43 : BitVec 32 := 0#32
  let v52 : Index := Scalar.indexCast c0_i32_43
  let c32 : Index := 32#32
  ![v51.toNat, 0, 32]
def k0_off34 (k0_t3 : Fin k0_t3_loop.trips) (c0_i32_45 : BitVec 32) : Fin 3 → Nat :=
  let c0_i32_31 : BitVec 32 := 0#32
  let c1_i32_33 : BitVec 32 := 1#32
  let arg14 : BitVec 32 := Scf.iv c0_i32_31 c1_i32_33 k0_t3
  let c8_i32_44 : BitVec 32 := 8#32
  let v59 : BitVec 32 := Scalar.muli arg14 c8_i32_44
  let v60 : BitVec 32 := Scalar.addi v59 c0_i32_45
  let v61 : Index := Scalar.indexCast v60
  let c0_i32_46 : BitVec 32 := 0#32
  let v62 : Index := Scalar.indexCast c0_i32_46
  let c48 : Index := 48#32
  ![v61.toNat, 0, 48]
def k0_off35 (k0_t3 : Fin k0_t3_loop.trips) (c0_i32_48 : BitVec 32) : Fin 3 → Nat :=
  let c0_i32_31 : BitVec 32 := 0#32
  let c1_i32_33 : BitVec 32 := 1#32
  let arg14 : BitVec 32 := Scf.iv c0_i32_31 c1_i32_33 k0_t3
  let c8_i32_47 : BitVec 32 := 8#32
  let v69 : BitVec 32 := Scalar.muli arg14 c8_i32_47
  let v70 : BitVec 32 := Scalar.addi v69 c0_i32_48
  let v71 : Index := Scalar.indexCast v70
  let c0_i32_49 : BitVec 32 := 0#32
  let v72 : Index := Scalar.indexCast c0_i32_49
  let c64 : Index := 64#32
  ![v71.toNat, 0, 64]
def k0_off36 (k0_t3 : Fin k0_t3_loop.trips) (c0_i32_51 : BitVec 32) : Fin 3 → Nat :=
  let c0_i32_31 : BitVec 32 := 0#32
  let c1_i32_33 : BitVec 32 := 1#32
  let arg14 : BitVec 32 := Scf.iv c0_i32_31 c1_i32_33 k0_t3
  let c8_i32_50 : BitVec 32 := 8#32
  let v79 : BitVec 32 := Scalar.muli arg14 c8_i32_50
  let v80 : BitVec 32 := Scalar.addi v79 c0_i32_51
  let v81 : Index := Scalar.indexCast v80
  let c0_i32_52 : BitVec 32 := 0#32
  let v82 : Index := Scalar.indexCast c0_i32_52
  let c80 : Index := 80#32
  ![v81.toNat, 0, 80]
def k0_off37 (k0_t3 : Fin k0_t3_loop.trips) (c0_i32_54 : BitVec 32) : Fin 3 → Nat :=
  let c0_i32_31 : BitVec 32 := 0#32
  let c1_i32_33 : BitVec 32 := 1#32
  let arg14 : BitVec 32 := Scf.iv c0_i32_31 c1_i32_33 k0_t3
  let c8_i32_53 : BitVec 32 := 8#32
  let v89 : BitVec 32 := Scalar.muli arg14 c8_i32_53
  let v90 : BitVec 32 := Scalar.addi v89 c0_i32_54
  let v91 : Index := Scalar.indexCast v90
  let c0_i32_55 : BitVec 32 := 0#32
  let v92 : Index := Scalar.indexCast c0_i32_55
  let c96 : Index := 96#32
  ![v91.toNat, 0, 96]
def k0_off38 (k0_t3 : Fin k0_t3_loop.trips) (c0_i32_57 : BitVec 32) : Fin 3 → Nat :=
  let c0_i32_31 : BitVec 32 := 0#32
  let c1_i32_33 : BitVec 32 := 1#32
  let arg14 : BitVec 32 := Scf.iv c0_i32_31 c1_i32_33 k0_t3
  let c8_i32_56 : BitVec 32 := 8#32
  let v99 : BitVec 32 := Scalar.muli arg14 c8_i32_56
  let v100 : BitVec 32 := Scalar.addi v99 c0_i32_57
  let v101 : Index := Scalar.indexCast v100
  let c0_i32_58 : BitVec 32 := 0#32
  let v102 : Index := Scalar.indexCast c0_i32_58
  let c112 : Index := 112#32
  ![v101.toNat, 0, 112]
def k0_off39 (k0_t3 : Fin k0_t3_loop.trips) (c0_i32_60 : BitVec 32) : Fin 3 → Nat :=
  let c0_i32_31 : BitVec 32 := 0#32
  let c1_i32_33 : BitVec 32 := 1#32
  let arg14 : BitVec 32 := Scf.iv c0_i32_31 c1_i32_33 k0_t3
  let c8_i32_59 : BitVec 32 := 8#32
  let v116 : BitVec 32 := Scalar.muli arg14 c8_i32_59
  let v117 : BitVec 32 := Scalar.addi v116 c0_i32_60
  let v118 : Index := Scalar.indexCast v117
  let c1_i32_61 : BitVec 32 := 1#32
  let v119 : Index := Scalar.indexCast c1_i32_61
  let c0_62 : Index := 0#32
  ![v118.toNat, 1, 0]
def k0_off40 (k0_t3 : Fin k0_t3_loop.trips) (c0_i32_64 : BitVec 32) : Fin 3 → Nat :=
  let c0_i32_31 : BitVec 32 := 0#32
  let c1_i32_33 : BitVec 32 := 1#32
  let arg14 : BitVec 32 := Scf.iv c0_i32_31 c1_i32_33 k0_t3
  let c8_i32_63 : BitVec 32 := 8#32
  let v126 : BitVec 32 := Scalar.muli arg14 c8_i32_63
  let v127 : BitVec 32 := Scalar.addi v126 c0_i32_64
  let v128 : Index := Scalar.indexCast v127
  let c1_i32_65 : BitVec 32 := 1#32
  let v129 : Index := Scalar.indexCast c1_i32_65
  let c16_66 : Index := 16#32
  ![v128.toNat, 1, 16]
def k0_off41 (k0_t3 : Fin k0_t3_loop.trips) (c0_i32_68 : BitVec 32) : Fin 3 → Nat :=
  let c0_i32_31 : BitVec 32 := 0#32
  let c1_i32_33 : BitVec 32 := 1#32
  let arg14 : BitVec 32 := Scf.iv c0_i32_31 c1_i32_33 k0_t3
  let c8_i32_67 : BitVec 32 := 8#32
  let v136 : BitVec 32 := Scalar.muli arg14 c8_i32_67
  let v137 : BitVec 32 := Scalar.addi v136 c0_i32_68
  let v138 : Index := Scalar.indexCast v137
  let c1_i32_69 : BitVec 32 := 1#32
  let v139 : Index := Scalar.indexCast c1_i32_69
  let c32_70 : Index := 32#32
  ![v138.toNat, 1, 32]
def k0_off42 (k0_t3 : Fin k0_t3_loop.trips) (c0_i32_72 : BitVec 32) : Fin 3 → Nat :=
  let c0_i32_31 : BitVec 32 := 0#32
  let c1_i32_33 : BitVec 32 := 1#32
  let arg14 : BitVec 32 := Scf.iv c0_i32_31 c1_i32_33 k0_t3
  let c8_i32_71 : BitVec 32 := 8#32
  let v146 : BitVec 32 := Scalar.muli arg14 c8_i32_71
  let v147 : BitVec 32 := Scalar.addi v146 c0_i32_72
  let v148 : Index := Scalar.indexCast v147
  let c1_i32_73 : BitVec 32 := 1#32
  let v149 : Index := Scalar.indexCast c1_i32_73
  let c48_74 : Index := 48#32
  ![v148.toNat, 1, 48]
def k0_off43 (k0_t3 : Fin k0_t3_loop.trips) (c0_i32_76 : BitVec 32) : Fin 3 → Nat :=
  let c0_i32_31 : BitVec 32 := 0#32
  let c1_i32_33 : BitVec 32 := 1#32
  let arg14 : BitVec 32 := Scf.iv c0_i32_31 c1_i32_33 k0_t3
  let c8_i32_75 : BitVec 32 := 8#32
  let v156 : BitVec 32 := Scalar.muli arg14 c8_i32_75
  let v157 : BitVec 32 := Scalar.addi v156 c0_i32_76
  let v158 : Index := Scalar.indexCast v157
  let c1_i32_77 : BitVec 32 := 1#32
  let v159 : Index := Scalar.indexCast c1_i32_77
  let c64_78 : Index := 64#32
  ![v158.toNat, 1, 64]
def k0_off44 (k0_t3 : Fin k0_t3_loop.trips) (c0_i32_80 : BitVec 32) : Fin 3 → Nat :=
  let c0_i32_31 : BitVec 32 := 0#32
  let c1_i32_33 : BitVec 32 := 1#32
  let arg14 : BitVec 32 := Scf.iv c0_i32_31 c1_i32_33 k0_t3
  let c8_i32_79 : BitVec 32 := 8#32
  let v166 : BitVec 32 := Scalar.muli arg14 c8_i32_79
  let v167 : BitVec 32 := Scalar.addi v166 c0_i32_80
  let v168 : Index := Scalar.indexCast v167
  let c1_i32_81 : BitVec 32 := 1#32
  let v169 : Index := Scalar.indexCast c1_i32_81
  let c80_82 : Index := 80#32
  ![v168.toNat, 1, 80]
def k0_off45 (k0_t3 : Fin k0_t3_loop.trips) (c0_i32_84 : BitVec 32) : Fin 3 → Nat :=
  let c0_i32_31 : BitVec 32 := 0#32
  let c1_i32_33 : BitVec 32 := 1#32
  let arg14 : BitVec 32 := Scf.iv c0_i32_31 c1_i32_33 k0_t3
  let c8_i32_83 : BitVec 32 := 8#32
  let v176 : BitVec 32 := Scalar.muli arg14 c8_i32_83
  let v177 : BitVec 32 := Scalar.addi v176 c0_i32_84
  let v178 : Index := Scalar.indexCast v177
  let c1_i32_85 : BitVec 32 := 1#32
  let v179 : Index := Scalar.indexCast c1_i32_85
  let c96_86 : Index := 96#32
  ![v178.toNat, 1, 96]
def k0_off46 (k0_t3 : Fin k0_t3_loop.trips) (c0_i32_88 : BitVec 32) : Fin 3 → Nat :=
  let c0_i32_31 : BitVec 32 := 0#32
  let c1_i32_33 : BitVec 32 := 1#32
  let arg14 : BitVec 32 := Scf.iv c0_i32_31 c1_i32_33 k0_t3
  let c8_i32_87 : BitVec 32 := 8#32
  let v186 : BitVec 32 := Scalar.muli arg14 c8_i32_87
  let v187 : BitVec 32 := Scalar.addi v186 c0_i32_88
  let v188 : Index := Scalar.indexCast v187
  let c1_i32_89 : BitVec 32 := 1#32
  let v189 : Index := Scalar.indexCast c1_i32_89
  let c112_90 : Index := 112#32
  ![v188.toNat, 1, 112]
def k0_off47 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v204 : Index := Scalar.indexCast v24
  let c16_91 : Index := 16#32
  ![v204.toNat, 16]
def k0_off48 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v383 : Index := Scalar.indexCast v24
  let c32_156 : Index := 32#32
  ![v383.toNat, 32]
def k0_off49 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v562 : Index := Scalar.indexCast v24
  let c48_221 : Index := 48#32
  ![v562.toNat, 48]
def k0_off50 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v741 : Index := Scalar.indexCast v24
  let c64_285 : Index := 64#32
  ![v741.toNat, 64]
def k0_off51 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v920 : Index := Scalar.indexCast v24
  let c80_349 : Index := 80#32
  ![v920.toNat, 80]
def k0_off52 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v1099 : Index := Scalar.indexCast v24
  let c96_413 : Index := 96#32
  ![v1099.toNat, 96]
def k0_off53 (k0_t1 : Fin k0_t1_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v1278 : Index := Scalar.indexCast v24
  let c112_477 : Index := 112#32
  ![v1278.toNat, 112]
def k0_off54 (k0_t1 : Fin k0_t1_loop.trips) (k0_t3 : Fin k0_t3_loop.trips) : Fin 2 → Nat :=
  let c2_i32_7 : BitVec 32 := 2#32
  let c0_i32_5 : BitVec 32 := 0#32
  let c1_i32 : BitVec 32 := 1#32
  let arg13 : BitVec 32 := Scf.iv c0_i32_5 c1_i32 k0_t1
  let v7 : BitVec 32 := Scalar.muli c2_i32_7 arg13
  let c1_i32_29 : BitVec 32 := 1#32
  let v24 : BitVec 32 := Scalar.addi v7 c1_i32_29
  let v1458 : Index := Scalar.indexCast v24
  let c0_i32_31 : BitVec 32 := 0#32
  let c1_i32_33 : BitVec 32 := 1#32
  let arg14 : BitVec 32 := Scf.iv c0_i32_31 c1_i32_33 k0_t3
  let c16_i32_541 : BitVec 32 := 16#32
  let v1457 : BitVec 32 := Scalar.muli arg14 c16_i32_541
  let v1459 : Index := Scalar.indexCast v1457
  ![v1458.toNat, v1459.toNat]
def k0_off55 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_7_r2 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x16 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x16 : Shape := ⟨2, ![2048, 16]⟩
abbrev S2048x128 : Shape := ⟨2, ![2048, 128]⟩
abbrev S4096x16x128 : Shape := ⟨3, ![4096, 16, 128]⟩
abbrev S_ : Shape := ⟨0, ![]⟩
abbrev S2048x16x1 : Shape := ⟨3, ![2048, 16, 1]⟩
abbrev S1 : Shape := ⟨1, ![1]⟩
abbrev S1x1x1 : Shape := ⟨3, ![1, 1, 1]⟩
abbrev S2048x16x16x128 : Shape := ⟨4, ![2048, 16, 16, 128]⟩
abbrev S2048x1x128 : Shape := ⟨3, ![2048, 1, 128]⟩
abbrev S2048x1x1x128 : Shape := ⟨4, ![2048, 1, 1, 128]⟩
abbrev S2048x16x128x16 : Shape := ⟨4, ![2048, 16, 128, 16]⟩
abbrev S2048x1x16x16 : Shape := ⟨4, ![2048, 1, 16, 16]⟩
abbrev S2048x16x1x16 : Shape := ⟨4, ![2048, 16, 1, 16]⟩
abbrev S2048x16x16 : Shape := ⟨3, ![2048, 16, 16]⟩
abbrev S2048x256 : Shape := ⟨2, ![2048, 256]⟩
abbrev S2048 : Shape := ⟨1, ![2048]⟩
abbrev S2048x1 : Shape := ⟨2, ![2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x16, .i32⟩
  | .hbm, ⟨1, _⟩ => ⟨S2048x16, .f32⟩
  | .hbm, ⟨2, _⟩ => ⟨S2048x128, .f32⟩
  | .hbm, ⟨3, _⟩ => ⟨S4096x16x128, .f32⟩
  | .hbm, ⟨4, _⟩ => ⟨S_, .i32⟩
  | .hbm, ⟨5, _⟩ => ⟨S2048x16, .i32⟩
  | .hbm, ⟨6, _⟩ => ⟨S2048x16, .i1⟩
  | .hbm, ⟨7, _⟩ => ⟨S_, .i32⟩
  | .hbm, ⟨8, _⟩ => ⟨S2048x16, .i32⟩
  | .hbm, ⟨9, _⟩ => ⟨S2048x16, .i32⟩
  | .hbm, ⟨10, _⟩ => ⟨S2048x16, .i32⟩
  | .hbm, ⟨11, _⟩ => ⟨S2048x16x1, .i32⟩
  | .hbm, ⟨12, _⟩ => ⟨S1, .i32⟩
  | .hbm, ⟨13, _⟩ => ⟨S_, .i32⟩
  | .hbm, ⟨14, _⟩ => ⟨S2048x16x1, .i32⟩
  | .hbm, ⟨15, _⟩ => ⟨S2048x16x1, .i1⟩
  | .hbm, ⟨16, _⟩ => ⟨S1x1x1, .i32⟩
  | .hbm, ⟨17, _⟩ => ⟨S2048x16x1, .i32⟩
  | .hbm, ⟨18, _⟩ => ⟨S2048x16x1, .i1⟩
  | .hbm, ⟨19, _⟩ => ⟨S2048x16x1, .i1⟩
  | .hbm, ⟨20, _⟩ => ⟨S_, .i1⟩
  | .hbm, ⟨21, _⟩ => ⟨S2048x16, .i1⟩
  | .hbm, ⟨22, _⟩ => ⟨S2048x16x16x128, .f32⟩
  | .hbm, ⟨23, _⟩ => ⟨S2048x16x16x128, .i1⟩
  | .hbm, ⟨24, _⟩ => ⟨S_, .f32⟩
  | .hbm, ⟨25, _⟩ => ⟨S2048x16x16x128, .f32⟩
  | .hbm, ⟨26, _⟩ => ⟨S2048x16x16x128, .f32⟩
  | .hbm, ⟨27, _⟩ => ⟨S2048x16x1, .f32⟩
  | .hbm, ⟨28, _⟩ => ⟨S2048x1x128, .f32⟩
  | .hbm, ⟨29, _⟩ => ⟨S2048x1x1x128, .f32⟩
  | .hbm, ⟨30, _⟩ => ⟨S2048x16x128x16, .f32⟩
  | .hbm, ⟨31, _⟩ => ⟨S2048x1x128, .f32⟩
  | .hbm, ⟨32, _⟩ => ⟨S2048x1x16x16, .f32⟩
  | .hbm, ⟨33, _⟩ => ⟨S2048x16x1x16, .f32⟩
  | .hbm, ⟨34, _⟩ => ⟨S2048x16x16, .f32⟩
  | .hbm, ⟨35, _⟩ => ⟨S_, .f32⟩
  | .hbm, ⟨36, _⟩ => ⟨S_, .f32⟩
  | .hbm, ⟨37, _⟩ => ⟨S2048x16x16, .f32⟩
  | .hbm, ⟨38, _⟩ => ⟨S2048x16x16, .f32⟩
  | .hbm, ⟨39, _⟩ => ⟨S_, .f32⟩
  | .hbm, ⟨40, _⟩ => ⟨S2048x16, .f32⟩
  | .hbm, ⟨41, _⟩ => ⟨S_, .f32⟩
  | .hbm, ⟨42, _⟩ => ⟨S2048x16, .f32⟩
  | .hbm, ⟨43, _⟩ => ⟨S2048x16, .f32⟩
  | .hbm, ⟨44, _⟩ => ⟨S2048x16x1, .f32⟩
  | .hbm, ⟨45, _⟩ => ⟨S2048x16x16, .f32⟩
  | .hbm, ⟨46, _⟩ => ⟨S2048x16x16, .f32⟩
  | .hbm, ⟨47, _⟩ => ⟨S2048x16x16, .f32⟩
  | .hbm, ⟨48, _⟩ => ⟨S_, .f32⟩
  | .hbm, ⟨49, _⟩ => ⟨S2048x16, .f32⟩
  | .hbm, ⟨50, _⟩ => ⟨S2048x16x1, .f32⟩
  | .hbm, ⟨51, _⟩ => ⟨S2048x16x16, .f32⟩
  | .hbm, ⟨52, _⟩ => ⟨S2048x16x16, .f32⟩
  | .hbm, ⟨53, _⟩ => ⟨S2048x16x16, .f32⟩
  | .hbm, ⟨54, _⟩ => ⟨S2048x16x16, .f32⟩
  | .hbm, ⟨55, _⟩ => ⟨S2048x256, .f32⟩
  | .hbm, ⟨56, _⟩ => ⟨S2048x16, .f32⟩
  | .hbm, ⟨57, _⟩ => ⟨S2048x16, .i32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x16, .f32⟩
  | .hbm, ⟨62, _⟩ => ⟨S2048x16, .f32⟩
  | _, _ => ⟨S2048x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_0 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_values : Ref sig .tc := ⟨.hbm, 56, rfl⟩
abbrev main_indices : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]
-- ==== First.lean ====
abbrev S2048x1024 : Shape := ⟨2, ![2048, 1024]⟩
abbrev S1024x256 : Shape := ⟨2, ![1024, 256]⟩
abbrev S256 : Shape := ⟨1, ![256]⟩
abbrev S4096x128 : Shape := ⟨2, ![4096, 128]⟩
abbrev S1x256 : Shape := ⟨2, ![1, 256]⟩
abbrev S2048x4096 : Shape := ⟨2, ![2048, 4096]⟩
abbrev S2048x128 : Shape := ⟨2, ![2048, 128]⟩
abbrev S256x1024 : Shape := ⟨2, ![256, 1024]⟩
abbrev S256x4096 : Shape := ⟨2, ![256, 4096]⟩
abbrev S256x128 : Shape := ⟨2, ![256, 128]⟩
abbrev S256x256 : Shape := ⟨2, ![256, 256]⟩
abbrev S256x1 : Shape := ⟨2, ![256, 1]⟩
abbrev S_ : Shape := ⟨0, ![]⟩
abbrev S2048 : Shape := ⟨1, ![2048]⟩
abbrev S2048x1 : Shape := ⟨2, ![2048, 1]⟩
abbrev S2048x16 : Shape := ⟨2, ![2048, 16]⟩
abbrev S256x16 : Shape := ⟨2, ![256, 16]⟩
abbrev S256x8 : Shape := ⟨2, ![256, 8]⟩
abbrev S256x4 : Shape := ⟨2, ![256, 4]⟩
abbrev S256x2 : Shape := ⟨2, ![256, 2]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S256, .f32⟩
  | .hbm, ⟨3, _⟩ => ⟨S4096x128, .f32⟩
  | .hbm, ⟨4, _⟩ => ⟨S1x256, .f32⟩
  | .hbm, ⟨5, _⟩ => ⟨S2048x4096, .f32⟩
  | .hbm, ⟨6, _⟩ => ⟨S2048x128, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16, .i32⟩
  | .hbm, ⟨11, _⟩ => ⟨S2048x16, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1x256, .f32⟩
  | .local _ .vmem, ⟨4, _⟩ => ⟨S4096x128, .f32⟩
  | .local _ .vmem, ⟨5, _⟩ => ⟨S256x4096, .f32⟩
  | .local _ .vmem, ⟨6, _⟩ => ⟨S256x4096, .f32⟩
  | .local _ .vmem, ⟨7, _⟩ => ⟨S256x128, .f32⟩
  | .local _ .vmem, ⟨8, _⟩ => ⟨S256x128, .f32⟩
  | .local _ .vmem, ⟨9, _⟩ => ⟨S256x4096, .f32⟩
  | .local _ .vmem, ⟨10, _⟩ => ⟨S256x4096, .f32⟩
  | .local _ .vmem, ⟨11, _⟩ => ⟨S256x1, .f32⟩
  | .local _ .vmem, ⟨12, _⟩ => ⟨S256x1, .f32⟩
  | .local _ .vmem, ⟨13, _⟩ => ⟨S256x16, .i32⟩
  | .local _ .vmem, ⟨14, _⟩ => ⟨S256x16, .i32⟩
  | .local _ .vmem, ⟨15, _⟩ => ⟨S256x16, .f32⟩
  | .local _ .vmem, ⟨16, _⟩ => ⟨S256x16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== FirstReferenceIdeal.lean ====
abbrev S2048x1024 : Shape := ⟨2, ![2048, 1024]⟩
abbrev S1024x256 : Shape := ⟨2, ![1024, 256]⟩
abbrev S256 : Shape := ⟨1, ![256]⟩
abbrev S4096x128 : Shape := ⟨2, ![4096, 128]⟩
abbrev S2048x256 : Shape := ⟨2, ![2048, 256]⟩
abbrev S1x256 : Shape := ⟨2, ![1, 256]⟩
abbrev S2048x2x128 : Shape := ⟨3, ![2048, 2, 128]⟩
abbrev S2048x1x128 : Shape := ⟨3, ![2048, 1, 128]⟩
abbrev S2048x128 : Shape := ⟨2, ![2048, 128]⟩
abbrev S128x4096 : Shape := ⟨2, ![128, 4096]⟩
abbrev S2048x1x4096 : Shape := ⟨3, ![2048, 1, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S2048x16 : Shape := ⟨2, ![2048, 16]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S256, .f32⟩
  | .hbm, ⟨3, _⟩ => ⟨S4096x128, .f32⟩
  | .hbm, ⟨4, _⟩ => ⟨S2048x256, .f32⟩
  | .hbm, ⟨5, _⟩ => ⟨S1x256, .f32⟩
  | .hbm, ⟨6, _⟩ => ⟨S2048x256, .f32⟩
  | .hbm, ⟨7, _⟩ => ⟨S2048x256, .f32⟩
  | .hbm, ⟨8, _⟩ => ⟨S2048x2x128, .f32⟩
  | .hbm, ⟨9, _⟩ => ⟨S2048x1x128, .f32⟩
  | .hbm, ⟨10, _⟩ => ⟨S2048x128, .f32⟩
  | .hbm, ⟨11, _⟩ => ⟨S2048x1x128, .f32⟩
  | .hbm, ⟨12, _⟩ => ⟨S128x4096, .f32⟩
  | .hbm, ⟨13, _⟩ => ⟨S2048x1x4096, .f32⟩
  | .hbm, ⟨14, _⟩ => ⟨S2048x4096, .f32⟩
  | .hbm, ⟨15, _⟩ => ⟨S_, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S2048x4096, .f32⟩
  | .hbm, ⟨32, _⟩ => ⟨S2048x4096, .f32⟩
  | .hbm, ⟨33, _⟩ => ⟨S2048x16, .f32⟩
  | .hbm, ⟨34, _⟩ => ⟨S2048x16, .i32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x16, .f32⟩
  | .hbm, ⟨39, _⟩ => ⟨S2048x16, .f32⟩
  | .hbm, ⟨40, _⟩ => ⟨S2048x1x128, .f32⟩
  | .hbm, ⟨41, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_values : Ref sig .tc := ⟨.hbm, 33, rfl⟩
abbrev main_indices : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Base.lean ====
/-
  The kernel's launch as the proofs see it: the SparseCore call's configuration, the resource algebra, the
  call's buffers as the TensorCore and as a tile name them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Dots

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the staging pipeline's rounds, the transfers' counters -/

abbrev UH : Type := URounds (GSem nD τ sig) ℕ
abbrev UP : Type := URounds (GSem nD τ sig) Unit
abbrev UU : Type := UH × (UP × Counters)

/-- The model the assertions are over. -/
abbrev MM (F : FTy → Type) : Type := MT nD τ sig (HIx 1) (Elt F) ℕ UU ℕ

abbrev EH : Emb UH (MM F) := embL

def EP : Emb UP (MM F) := (Emb.inl : Emb UP (UP × Counters)).trans embR

instance EP_landsIn : (EP : Emb UP (MM F)).LandsIn (upEmb : UEmb _ (MM F)) := by unfold EP; infer_instance

/-! ## The buffers -/

/-- The index lists, the queries, the table and the result, as a tile names them. -/
abbrev iV : Memref sig .scVector .hbm S2048x128 .i32 := Memref.whole main_v10_scv
abbrev qV : Memref sig .scVector .hbm S2048x128 .f32 := Memref.whole main_arg2_scv
abbrev tV : Memref sig .scVector .hbm S32768x2x128 .f32 := Memref.whole main_v1_scv
abbrev oV : Memref sig .scVector .hbm S2048x256 .f32 := Memref.whole main_v11_scv
/-- A tile's scratch: its index lists, its queries, the two row buffers, its dots. -/
abbrev sI : Memref sig .scVector .vmem S64x128 .i32 := Memref.whole cc0_scratch0
abbrev sQ : Memref sig .scVector .vmem S64x128 .f32 := Memref.whole cc0_scratch1
abbrev sA : Memref sig .scVector .vmem S128x2x128 .f32 := Memref.whole cc0_scratch2
abbrev sB : Memref sig .scVector .vmem S128x2x128 .f32 := Memref.whole cc0_scratch3
abbrev sO : Memref sig .scVector .vmem S64x256 .f32 := Memref.whole cc0_scratch4

abbrev cV (L : grid0.Coords) : Fin τ.nSC := (L 0).castLE hcore0
abbrev jV (L : grid0.Coords) : Fin τ.nSub := (L 1).castLE hsub0
/-- The tile at coordinates `L`. -/
abbrev tile (d : Dev nD) (L : grid0.Coords) : Thread nD τ := V d (cV L) (jV L)

end Cert.Proof.Dots

end
-- ==== Proof.Dot.lean ====
/-
  What one trip of the inner loops computes: sixteen dots of a query with sixteen rows, each lane its own row, the
  hundred and twenty-eight products added in the kernel's order. First the vectors' nest, then one lane of it, then the
  buffer the trip's store leaves.
-/
module

public import proofs.«01_k».proof.Proof.Base
public import Idealize.ShloMosaic.Lib.ValueIdx
public import Idealize.ShloMosaic.Lib.WritesUnit
public import Idealize.ShloMosaic.Lib.VecWindow
public import Idealize.ShloMosaic.Lib.Pipeline.Value
public import Idealize.ShloMosaic.Lib.Pointwise.ShapeOpsCore

@[expose] public section

noncomputable section

namespace Cert.Proof.Dots

open Cert.KernelIdeal Cert.KernelIdeal.Gen

open Idealize.ShloMosaic

variable {F : FTy → Type} [FloatOps F]

/-! ## The order of the additions -/

/-- Eight terms added two by two. -/
def group8 {X : Type} (add : X → X → X) (p : Fin 8 → X) : X :=
  add (add (add (p 0) (p 1)) (add (p 2) (p 3))) (add (add (p 4) (p 5)) (add (p 6) (p 7)))

/-- Sixteen terms added one after the other. -/
def chain16 {X : Type} (add : X → X → X) (G : Fin 8 → Fin 2 → X) : X :=
  add (add (add (add (add (add (add (add (add (add (add (add (add (add (add (G 0 0) (G 0 1)) (G 1 0)) (G 1 1)) (G 2 0)) (G 2 1))
    (G 3 0)) (G 3 1)) (G 4 0)) (G 4 1)) (G 5 0)) (G 5 1)) (G 6 0)) (G 6 1)) (G 7 0)) (G 7 1)

/-- The hundred and twenty-eight products added: groups of eight, the groups one after the other. -/
def dotNest {X : Type} (add : X → X → X) (p : Fin 8 → Fin 2 → Fin 8 → X) : X :=
  chain16 add fun t h => group8 add (p t h)

/-- In a commutative monoid the order is of no account. -/
theorem dotNest_eq_sum {X : Type} [AddCommMonoid X] (p : Fin 8 → Fin 2 → Fin 8 → X) :
    dotNest (· + ·) p = ∑ t, ∑ h, ∑ m, p t h m := by
  simp only [dotNest, chain16, group8, Fin.sum_univ_eight, Fin.sum_univ_two, add_assoc]

/-- The nest of vectors read at an index is the nest of the elements there. -/
theorem dotNest_apply {s : Shape} (p : Fin 8 → Fin 2 → Fin 8 → FVec F s .f32) (j : s.Idx) :
    dotNest addf p j = dotNest FloatOps.addf fun t h m => p t h m j := rfl

/-! ## One lane of a trip -/

/-- One dot, of query row `r` with table row `kk` of the buffer in lane `l`: the row's elements lie lane-interleaved. -/
def dotAt (fq : S64x128.Idx → F .f32) (fa : S128x2x128.Idx → F .f32) (r : Fin 64) (kk : Fin 16) (l : Fin 16) : F .f32 :=
  dotNest FloatOps.addf fun t h m =>
    FloatOps.mulf (fa (ValueIdx.ix3 (⟨8 * kk.val + t.val, by omega⟩ : Fin 128) h (⟨16 * m.val + l.val, by omega⟩ : Fin 128)))
      (fq (ValueIdx.ix2 r (⟨16 * t.val + 8 * h.val + m.val, by omega⟩ : Fin 128)))

theorem slices16 : ∀ c : Fin 16, S16.Slices ![c.val] S1 := by decide

/-- One product: a row piece's sixteen lanes by lane `c` of a query piece. -/
def prodV (qv : Vec F S1x16 .f32) (kv : Vec F S1x1x16 .f32) (c : Fin 16) : FVec F S16 .f32 :=
  mulf (shapeCast S16 kv shapeCasts_S1x1x16_S16)
    (broadcast S16 (extractAt ![0] (extractStridedSlice S1 ![c.val] (shapeCast S16 qv shapeCasts_S1x16_S16) (slices16 c)) inpos_S1_p0))

theorem prodV_apply (qv : Vec F S1x16 .f32) (kv : Vec F S1x1x16 .f32) (c : Fin 16) (l : Fin 16) :
    prodV qv kv c (ValueIdx.ix1 l) = FloatOps.mulf (kv (ValueIdx.ix3 (0 : Fin 1) (0 : Fin 1) l)) (qv (ValueIdx.ix2 (0 : Fin 1) c)) := by
  show FloatOps.mulf _ _ = _
  congr 1
  · exact shapeCast_apply kv _ _ _ (by rw [Shape.rowMajor_val_three, Shape.rowMajor_val_one]; simp)
  · rw [ValueIdx.broadcast_apply, extractAt_eq, extractStridedSlice_apply _ _ _ _ (ValueIdx.ix1 c) (by intro a; fin_cases a; simp [Shape.Idx.norm])]
    exact shapeCast_apply qv _ _ _ (by rw [Shape.rowMajor_val_two, Shape.rowMajor_val_one]; simp)

/-! ## The offsets of a trip's loads -/

theorem trips1 : k0_t1_loop.trips = 32 := by decide
theorem trips2 : k0_t2_loop.trips = 16 := by decide
theorem trips3 : k0_t3_loop.trips = 16 := by decide

/-- The query pieces of an even row. -/
def qOff (t1 : Fin k0_t1_loop.trips) : Fin 8 → Fin 2 → ℕ :=
  ![k0_off4 t1, k0_off21 t1, k0_off22 t1, k0_off23 t1, k0_off24 t1, k0_off25 t1, k0_off26 t1, k0_off27 t1]

theorem qOff_eq (t1 : Fin k0_t1_loop.trips) : ∀ t : Fin 8, qOff t1 t = ![2 * t1.val, 16 * t.val] := by
  intro t
  fin_cases t
  exacts [k0_off4_eq t1, k0_off21_eq t1, k0_off22_eq t1, k0_off23_eq t1, k0_off24_eq t1, k0_off25_eq t1, k0_off26_eq t1, k0_off27_eq t1]

/-- The query pieces of an odd row. -/
def qOff' (t1 : Fin k0_t1_loop.trips) : Fin 8 → Fin 2 → ℕ :=
  ![k0_off30 t1, k0_off47 t1, k0_off48 t1, k0_off49 t1, k0_off50 t1, k0_off51 t1, k0_off52 t1, k0_off53 t1]

theorem qOff'_eq (t1 : Fin k0_t1_loop.trips) : ∀ t : Fin 8, qOff' t1 t = ![2 * t1.val + 1, 16 * t.val] := by
  intro t
  fin_cases t
  exacts [k0_off30_eq t1, k0_off47_eq t1, k0_off48_eq t1, k0_off49_eq t1, k0_off50_eq t1, k0_off51_eq t1, k0_off52_eq t1, k0_off53_eq t1]

/-- The table pieces, first buffer: piece `m` of half `h` of row `t`. -/
def kOff (t2 : Fin k0_t2_loop.trips) (t : Fin 8) : Fin 2 → Fin 8 → Fin 3 → ℕ :=
  ![![k0_off5 t2 (BitVec.ofNat 32 t.val), k0_off6 t2 (BitVec.ofNat 32 t.val), k0_off7 t2 (BitVec.ofNat 32 t.val),
      k0_off8 t2 (BitVec.ofNat 32 t.val), k0_off9 t2 (BitVec.ofNat 32 t.val), k0_off10 t2 (BitVec.ofNat 32 t.val),
      k0_off11 t2 (BitVec.ofNat 32 t.val), k0_off12 t2 (BitVec.ofNat 32 t.val)],
    ![k0_off13 t2 (BitVec.ofNat 32 t.val), k0_off14 t2 (BitVec.ofNat 32 t.val), k0_off15 t2 (BitVec.ofNat 32 t.val),
      k0_off16 t2 (BitVec.ofNat 32 t.val), k0_off17 t2 (BitVec.ofNat 32 t.val), k0_off18 t2 (BitVec.ofNat 32 t.val),
      k0_off19 t2 (BitVec.ofNat 32 t.val), k0_off20 t2 (BitVec.ofNat 32 t.val)]]

theorem kOff_eq (t2 : Fin k0_t2_loop.trips) (t : Fin 8) : ∀ (h : Fin 2) (m : Fin 8),
    kOff t2 t h m = ![8 * t2.val + t.val, h.val, 16 * m.val] := by
  intro h m
  fin_cases h <;> fin_cases m
  exacts [k0_off5_eq t2 t, k0_off6_eq t2 t, k0_off7_eq t2 t, k0_off8_eq t2 t, k0_off9_eq t2 t, k0_off10_eq t2 t, k0_off11_eq t2 t,
    k0_off12_eq t2 t, k0_off13_eq t2 t, k0_off14_eq t2 t, k0_off15_eq t2 t, k0_off16_eq t2 t, k0_off17_eq t2 t, k0_off18_eq t2 t,
    k0_off19_eq t2 t, k0_off20_eq t2 t]

/-- The table pieces, second buffer. -/
def kOff' (t3 : Fin k0_t3_loop.trips) (t : Fin 8) : Fin 2 → Fin 8 → Fin 3 → ℕ :=
  ![![k0_off31 t3 (BitVec.ofNat 32 t.val), k0_off32 t3 (BitVec.ofNat 32 t.val), k0_off33 t3 (BitVec.ofNat 32 t.val),
      k0_off34 t3 (BitVec.ofNat 32 t.val), k0_off35 t3 (BitVec.ofNat 32 t.val), k0_off36 t3 (BitVec.ofNat 32 t.val),
      k0_off37 t3 (BitVec.ofNat 32 t.val), k0_off38 t3 (BitVec.ofNat 32 t.val)],
    ![k0_off39 t3 (BitVec.ofNat 32 t.val), k0_off40 t3 (BitVec.ofNat 32 t.val), k0_off41 t3 (BitVec.ofNat 32 t.val),
      k0_off42 t3 (BitVec.ofNat 32 t.val), k0_off43 t3 (BitVec.ofNat 32 t.val), k0_off44 t3 (BitVec.ofNat 32 t.val),
      k0_off45 t3 (BitVec.ofNat 32 t.val), k0_off46 t3 (BitVec.ofNat 32 t.val)]]

theorem kOff'_eq (t3 : Fin k0_t3_loop.trips) (t : Fin 8) : ∀ (h : Fin 2) (m : Fin 8),
    kOff' t3 t h m = ![8 * t3.val + t.val, h.val, 16 * m.val] := by
  intro h m
  fin_cases h <;> fin_cases m
  exacts [k0_off31_eq t3 t, k0_off32_eq t3 t, k0_off33_eq t3 t, k0_off34_eq t3 t, k0_off35_eq t3 t, k0_off36_eq t3 t, k0_off37_eq t3 t,
    k0_off38_eq t3 t, k0_off39_eq t3 t, k0_off40_eq t3 t, k0_off41_eq t3 t, k0_off42_eq t3 t, k0_off43_eq t3 t, k0_off44_eq t3 t,
    k0_off45_eq t3 t, k0_off46_eq t3 t]

/-- A query piece of row `r` fits the query block. -/
theorem qInb {off : Fin 2 → ℕ} {r t : ℕ} (e : off = ![r, 16 * t]) (hr : r < 64) (ht : t < 8) :
    ∀ a : Fin 2, off a + S1x16.size a ≤ S64x128.size a := by
  subst e
  exact Fin.forall_fin_two.mpr ⟨by show r + 1 ≤ 64; omega, by show 16 * t + 16 ≤ 128; omega⟩

/-- A table piece fits the row buffer. -/
theorem kInb {off : Fin 3 → ℕ} {k h m : ℕ} (e : off = ![k, h, 16 * m]) (hk : k < 128) (hh : h < 2) (hm : m < 8) :
    ∀ a : Fin 3, off a + S1x1x16.size a ≤ S128x2x128.size a := by
  subst e
  intro a
  fin_cases a
  · show k + 1 ≤ 128; omega
  · show h + 1 ≤ 2; omega
  · show 16 * m + 16 ≤ 128; omega

/-- A load of a query piece reads the block at its closed offsets. -/
theorem qLoad {κ : Kind} {sp : Space} {v : View sig κ sp S64x128 .f32} (f : v.ty.Contents (Elt F)) {off : Fin 2 → ℕ} {t : ℕ} (r : Fin 64)
    (e : off = ![r.val, 16 * t]) (ht : t < 8) (inb) (c : Fin 16) :
    v.readAt (Elt F) (Rect.unit (s := S64x128) off S1x16.size inb).toLoadRect f (ValueIdx.ix2 (0 : Fin 1) c)
      = v.read (Elt F) f (ValueIdx.ix2 r (⟨16 * t + c.val, by omega⟩ : Fin 128)) := by
  rw [View.readAt_unit v f inb e (qInb rfl r.isLt ht)]
  refine congrArg (v.read (Elt F) f) (funext fun a => Fin.ext ?_)
  fin_cases a
  · show r.val + 1 * 0 = r.val; omega
  · show 16 * t + 1 * c.val = 16 * t + c.val; omega

/-- A load of a table piece reads the row buffer at its closed offsets. -/
theorem kLoad {κ : Kind} {sp : Space} {v : View sig κ sp S128x2x128 .f32} (f : v.ty.Contents (Elt F)) {off : Fin 3 → ℕ} {m : ℕ} (k : Fin 128)
    (h : Fin 2) (e : off = ![k.val, h.val, 16 * m]) (hm : m < 8) (inb) (l : Fin 16) :
    v.readAt (Elt F) (Rect.unit (s := S128x2x128) off S1x1x16.size inb).toLoadRect f (ValueIdx.ix3 (0 : Fin 1) (0 : Fin 1) l)
      = v.read (Elt F) f (ValueIdx.ix3 k h (⟨16 * m + l.val, by omega⟩ : Fin 128)) := by
  rw [View.readAt_unit v f inb e (kInb rfl k.isLt h.isLt hm)]
  refine congrArg (v.read (Elt F) f) (funext fun a => Fin.ext ?_)
  fin_cases a
  · show k.val + 1 * 0 = k.val; omega
  · show h.val + 1 * 0 = h.val; omega
  · show 16 * m + 1 * l.val = 16 * m + l.val; omega

/-- The vector a trip stores, over the loads at the given offsets. -/
def tripV {vq : View sig .scVector .vmem S64x128 .f32} {vk : View sig .scVector .vmem S128x2x128 .f32}
    (fq : vq.ty.Contents (Elt F)) (fa : vk.ty.Contents (Elt F)) (qo : Fin 8 → Fin 2 → ℕ) (ko : Fin 8 → Fin 2 → Fin 8 → Fin 3 → ℕ)
    (hq : ∀ t, ∀ a : Fin 2, qo t a + S1x16.size a ≤ S64x128.size a) (hk : ∀ t h m, ∀ a : Fin 3, ko t h m a + S1x1x16.size a ≤ S128x2x128.size a) :
    FVec F S16 .f32 :=
  dotNest addf fun t h m =>
    prodV (vq.readAt (Elt F) (Rect.unit (s := S64x128) (qo t) S1x16.size (hq t)).toLoadRect fq)
      (vk.readAt (Elt F) (Rect.unit (s := S128x2x128) (ko t h m) S1x1x16.size (hk t h m)).toLoadRect fa) ⟨8 * h.val + m.val, by omega⟩

theorem tripV_apply {vq : View sig .scVector .vmem S64x128 .f32} {vk : View sig .scVector .vmem S128x2x128 .f32}
    (fq : vq.ty.Contents (Elt F)) (fa : vk.ty.Contents (Elt F)) (qo : Fin 8 → Fin 2 → ℕ) (ko : Fin 8 → Fin 2 → Fin 8 → Fin 3 → ℕ)
    (hq) (hk) (r : Fin 64) (kk : Fin 16) (eq : ∀ t, qo t = ![r.val, 16 * t.val]) (ek : ∀ t h m, ko t h m = ![8 * kk.val + t.val, h.val, 16 * m.val])
    (l : Fin 16) :
    tripV fq fa qo ko hq hk (ValueIdx.ix1 l) = dotAt (vq.read (Elt F) fq) (vk.read (Elt F) fa) r kk l := by
  unfold tripV dotAt
  rw [dotNest_apply]
  refine congrArg (dotNest FloatOps.addf) (funext fun t => funext fun h => funext fun m => ?_)
  rw [prodV_apply, qLoad fq r (eq t) t.isLt, kLoad fa (⟨8 * kk.val + t.val, by omega⟩ : Fin 128) h (ek t h m) m.isLt]
  exact congrArg (fun c => FloatOps.mulf _ (vq.read (Elt F) fq (ValueIdx.ix2 r c))) (Fin.ext (Nat.add_assoc _ _ _).symm)

/-! ## The buffer after a trip -/

/-- Contents `g` are contents `fo` but for sixteen elements of row `r` from column `16 · kk` on, which are `w`. -/
def Put (r : Fin 64) (kk : Fin 16) (w : Fin 16 → F .f32) (fo g : S64x256.Idx → F .f32) : Prop :=
  (∀ l : Fin 16, g (ValueIdx.ix2 r (⟨16 * kk.val + l.val, by omega⟩ : Fin 256)) = w l) ∧
    ∀ y : S64x256.Idx, ((y 0).val ≠ r.val ∨ (y 1).val < 16 * kk.val ∨ 16 * kk.val + 16 ≤ (y 1).val) → g y = fo y

/-- The one store of a trip. -/
theorem put_of_store {v : View sig .scVector .vmem S64x256 .f32} (fo : v.ty.Contents (Elt F)) {off : Fin 2 → ℕ} (r : Fin 64) (kk : Fin 16)
    (e : off = ![r.val, 16 * kk.val]) (inb) (V : FVec F S16 .f32) :
    Put r kk (fun l => V (ValueIdx.ix1 l)) (v.read (Elt F) fo)
      (v.read (Elt F) (v.writes (Elt F) fo [⟨Rect.unit (s := S64x256) off S1x16.size inb, shapeCast S1x16 V shapeCasts_S16_S1x16⟩])) := by
  constructor
  · intro l
    refine (View.read_writes_cons_unit_of_mem v fo inb _ [] _ (ValueIdx.ix2 (0 : Fin 1) l) e ?_).trans ?_
    · intro a
      fin_cases a
      · show r.val = r.val + 0; omega
      · show 16 * kk.val + l.val = 16 * kk.val + l.val; rfl
    · exact shapeCast_apply V _ _ _ (by rw [Shape.rowMajor_val_two, Shape.rowMajor_val_one]; simp)
  · intro y hy
    by_cases h0 : (y 0).val = r.val
    · refine (View.read_writes_cons_unit_of_not_mem v fo inb _ [] y e (1 : Fin 2) ?_).trans rfl
      exact hy.resolve_left (fun h => h h0)
    · refine (View.read_writes_cons_unit_of_not_mem v fo inb _ [] y e (0 : Fin 2) ?_).trans rfl
      show (y 0).val < r.val ∨ r.val + 1 ≤ (y 0).val
      omega

end Cert.Proof.Dots

end
-- ==== Proof.Trip.lean ====
/-
  One trip of each inner loop, run: the loads, the products and sums, the store of sixteen dots.
-/
module

public import proofs.«01_k».proof.Proof.Dot

@[expose] public section

noncomputable section

namespace Cert.Proof.Dots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem row_even (t1 : Fin k0_t1_loop.trips) : 2 * t1.val < 64 := by
  have := lt_of_lt_of_eq t1.isLt trips1
  omega

theorem row_odd (t1 : Fin k0_t1_loop.trips) : 2 * t1.val + 1 < 64 := by
  have := lt_of_lt_of_eq t1.isLt trips1
  omega

theorem qInb_even (t1 : Fin k0_t1_loop.trips) : ∀ t, ∀ a : Fin 2, qOff t1 t a + S1x16.size a ≤ S64x128.size a := fun t =>
  qInb (qOff_eq t1 t) (row_even t1) t.isLt

theorem kInb_even (t2 : Fin k0_t2_loop.trips) : ∀ t h m, ∀ a : Fin 3, kOff t2 t h m a + S1x1x16.size a ≤ S128x2x128.size a := fun t h m =>
  kInb (kOff_eq t2 t h m) (by have := t.isLt; have := lt_of_lt_of_eq t2.isLt trips2; omega) h.isLt m.isLt

theorem put_even (fq : S64x128.Idx → F .f32) (fa : S128x2x128.Idx → F .f32) (fo : S64x256.Idx → F .f32) (t1 : Fin k0_t1_loop.trips)
    (t2 : Fin k0_t2_loop.trips) (w : S1x16.Idx → F .f32)
    (hw : w = shapeCast S1x16 (tripV (vq := sQ.view) (vk := sA.view) fq fa (qOff t1) (kOff t2) (qInb_even t1) (kInb_even t2)) shapeCasts_S16_S1x16) :
    Put (⟨2 * t1.val, row_even t1⟩ : Fin 64) (t2.cast trips2) (dotAt fq fa (⟨2 * t1.val, row_even t1⟩ : Fin 64) (t2.cast trips2)) fo
      (sO.view.writes (Elt F) fo [⟨Rect.unit (s := S64x256) (k0_off28 t1 t2) S1x16.size (k0_off28_inb t1 t2), w⟩]) := by
  subst hw
  rw [← (funext fun l => tripV_apply (vq := sQ.view) (vk := sA.view) fq fa (qOff t1) (kOff t2) (qInb_even t1) (kInb_even t2)
    (⟨2 * t1.val, row_even t1⟩ : Fin 64) (t2.cast trips2) (qOff_eq t1) (kOff_eq t2) l :
    (fun l => tripV (vq := sQ.view) (vk := sA.view) fq fa (qOff t1) (kOff t2) (qInb_even t1) (kInb_even t2) (ValueIdx.ix1 l)) = dotAt fq fa _ _)]
  exact put_of_store (v := sO.view) fo (⟨2 * t1.val, row_even t1⟩ : Fin 64) (t2.cast trips2) (k0_off28_eq t1 t2) (k0_off28_inb t1 t2) _

/-- A trip of an even row's loop. -/
theorem trip_even (d : Dev nD) (L : grid0.Coords) (t1 : Fin k0_t1_loop.trips) (t2 : Fin k0_t2_loop.trips) (w : BitVec 32)
    (fq : Buf (Elt F) ((tile d L).loc cc0_scratch1)) (fa : Buf (Elt F) ((tile d L).loc cc0_scratch2))
    (fo : Buf (Elt F) ((tile d L).loc cc0_scratch4)) :
    (iprop((sQ.view.loc (tile d L) ↦{fullShare} fq) ∗ (sA.view.loc (tile d L) ↦{fullShare} fa) ∗ (sO.view.loc (tile d L) ↦{fullShare} fo)) : sProp (MM F))
      ⊢ wp frame (wpE (defs₀ (F := F)) 𝒱₀ (tile d L) none) Set.univ
          (k0_t2_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2 t1 w t2 ())
          fun _ => iprop(∃ g, (sQ.view.loc (tile d L) ↦{fullShare} fq) ∗ (sA.view.loc (tile d L) ↦{fullShare} fa) ∗
            (sO.view.loc (tile d L) ↦{fullShare} g) ∗ ⌜Put (F := F) (⟨2 * t1.val, row_even t1⟩ : Fin 64) (t2.cast trips2) (dotAt fq fa (⟨2 * t1.val, row_even t1⟩ : Fin 64) (t2.cast trips2)) fo g⌝) := by
  unfold k0_t2_body
  iintro ⟨Hq, Ha, Ho⟩
  sl_exec_parts
  sl_step
  iexists _
  isplitl [Hq]; · iexact Hq
  isplitl [Ha]; · iexact Ha
  isplitl [Ho]; · iexact Ho
  ipureintro
  exact put_even fq fa fo t1 t2 _ (rfl : k0_pay1 (trip_even.sl.r_140 d L t1 t2 fq fa) (trip_even.sl.r_147 d L t1 t2 fq fa) (trip_even.sl.r_148 d L t1 t2 fq fa)
    (trip_even.sl.r_149 d L t1 t2 fq fa) (trip_even.sl.r_150 d L t1 t2 fq fa)
    = shapeCast S1x16 (tripV (vq := sQ.view) (vk := sA.view) fq fa (qOff t1) (kOff t2) _ _) shapeCasts_S16_S1x16)

theorem qInb_odd (t1 : Fin k0_t1_loop.trips) : ∀ t, ∀ a : Fin 2, qOff' t1 t a + S1x16.size a ≤ S64x128.size a := fun t =>
  qInb (qOff'_eq t1 t) (row_odd t1) t.isLt

theorem kInb_odd (t3 : Fin k0_t3_loop.trips) : ∀ t h m, ∀ a : Fin 3, kOff' t3 t h m a + S1x1x16.size a ≤ S128x2x128.size a := fun t h m =>
  kInb (kOff'_eq t3 t h m) (by have := t.isLt; have := lt_of_lt_of_eq t3.isLt trips3; omega) h.isLt m.isLt

theorem put_odd (fq : S64x128.Idx → F .f32) (fa : S128x2x128.Idx → F .f32) (fo : S64x256.Idx → F .f32) (t1 : Fin k0_t1_loop.trips)
    (t3 : Fin k0_t3_loop.trips) (w : S1x16.Idx → F .f32)
    (hw : w = shapeCast S1x16 (tripV (vq := sQ.view) (vk := sB.view) fq fa (qOff' t1) (kOff' t3) (qInb_odd t1) (kInb_odd t3)) shapeCasts_S16_S1x16) :
    Put (⟨2 * t1.val + 1, row_odd t1⟩ : Fin 64) (t3.cast trips3) (dotAt fq fa (⟨2 * t1.val + 1, row_odd t1⟩ : Fin 64) (t3.cast trips3)) fo
      (sO.view.writes (Elt F) fo [⟨Rect.unit (s := S64x256) (k0_off54 t1 t3) S1x16.size (k0_off54_inb t1 t3), w⟩]) := by
  subst hw
  rw [← (funext fun l => tripV_apply (vq := sQ.view) (vk := sB.view) fq fa (qOff' t1) (kOff' t3) (qInb_odd t1) (kInb_odd t3)
    (⟨2 * t1.val + 1, row_odd t1⟩ : Fin 64) (t3.cast trips3) (qOff'_eq t1) (kOff'_eq t3) l :
    (fun l => tripV (vq := sQ.view) (vk := sB.view) fq fa (qOff' t1) (kOff' t3) (qInb_odd t1) (kInb_odd t3) (ValueIdx.ix1 l)) = dotAt fq fa _ _)]
  exact put_of_store (v := sO.view) fo (⟨2 * t1.val + 1, row_odd t1⟩ : Fin 64) (t3.cast trips3) (k0_off54_eq t1 t3) (k0_off54_inb t1 t3) _

/-- A trip of an odd row's loop. -/
theorem trip_odd (d : Dev nD) (L : grid0.Coords) (t1 : Fin k0_t1_loop.trips) (t3 : Fin k0_t3_loop.trips) (w : BitVec 32)
    (fq : Buf (Elt F) ((tile d L).loc cc0_scratch1)) (fa : Buf (Elt F) ((tile d L).loc cc0_scratch3))
    (fo : Buf (Elt F) ((tile d L).loc cc0_scratch4)) :
    (iprop((sQ.view.loc (tile d L) ↦{fullShare} fq) ∗ (sB.view.loc (tile d L) ↦{fullShare} fa) ∗ (sO.view.loc (tile d L) ↦{fullShare} fo)) : sProp (MM F))
      ⊢ wp frame (wpE (defs₀ (F := F)) 𝒱₀ (tile d L) none) Set.univ
          (k0_t3_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2 t1 w t3 ())
          fun _ => iprop(∃ g, (sQ.view.loc (tile d L) ↦{fullShare} fq) ∗ (sB.view.loc (tile d L) ↦{fullShare} fa) ∗
            (sO.view.loc (tile d L) ↦{fullShare} g) ∗ ⌜Put (F := F) (⟨2 * t1.val + 1, row_odd t1⟩ : Fin 64) (t3.cast trips3) (dotAt fq fa (⟨2 * t1.val + 1, row_odd t1⟩ : Fin 64) (t3.cast trips3)) fo g⌝) := by
  unfold k0_t3_body
  iintro ⟨Hq, Ha, Ho⟩
  sl_exec_parts
  sl_step
  iexists _
  isplitl [Hq]; · iexact Hq
  isplitl [Ha]; · iexact Ha
  isplitl [Ho]; · iexact Ho
  ipureintro
  exact put_odd fq fa fo t1 t3 _ (rfl : k0_pay2 (trip_odd.sl.r_140 d L t1 t3 fq fa) (trip_odd.sl.r_147 d L t1 t3 fq fa) (trip_odd.sl.r_148 d L t1 t3 fq fa)
    (trip_odd.sl.r_149 d L t1 t3 fq fa) (trip_odd.sl.r_150 d L t1 t3 fq fa)
    = shapeCast S1x16 (tripV (vq := sQ.view) (vk := sB.view) fq fa (qOff' t1) (kOff' t3) _ _) shapeCasts_S16_S1x16)

end Cert.Proof.Dots

end
-- ==== Proof.Gather.lean ====
/-
  One gather of a tile: a hundred and twenty-eight rows of the table, named by one row of the tile's index lists, into
  one of the two row buffers. Its start takes a share of the table, a share of the lists, the buffer and the semaphore at
  zero; its wait gives them back, the buffer at the rows named.
-/
module

public import proofs.«01_k».proof.Proof.Trip

@[expose] public section

noncomputable section

namespace Cert.Proof.Dots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The rows a list names -/

/-- The table row a word names (the row itself below 32768, the only words asked for). -/
def rowNo (w : BitVec 32) : Fin 32768 := ⟨w.toNat % 32768, Nat.mod_lt _ (by decide)⟩

/-- The rows of table `ft` that row `r` of the lists `fl` names, one after the other. -/
def rowsOf (fl : S64x128.Idx → BitVec 32) (ft : S32768x2x128.Idx → F .f32) (r : Fin 64) : S128x2x128.Idx → F .f32 :=
  fun y => ft (ValueIdx.ix3 (rowNo (fl (ValueIdx.ix2 r (y 0)))) (y 1) (y 2))

/-- Row `off` of the lists as the gathers address it. -/
abbrev listRow (off : Fin 2 → ℕ) (inb : ∀ a, off a + S1x128.size a ≤ S64x128.size a) : Memref sig .scVector .vmem S128 .i32 :=
  (sI.slice (Rect.unit (s := S64x128) off S1x128.size inb) (fun _ => rfl)).squeeze S128 squeezes_S1x128_S128

/-- The whole table as the gathers address it. -/
abbrev tAll : Memref sig .scVector .hbm S32768x2x128 .f32 :=
  tV.slice (Rect.unit (s := S32768x2x128) ![0, 0, 0] S32768x2x128.size inb_S32768x2x128_S32768x2x128_0_0_0) (fun _ => rfl)

theorem rowInb (r : Fin 64) : ∀ a : Fin 2, (![r.val, 0] : Fin 2 → ℕ) a + S1x128.size a ≤ S64x128.size a :=
  Fin.forall_fin_two.mpr ⟨by show r.val + 1 ≤ 64; omega, by show 0 + 128 ≤ 128; omega⟩

theorem listRow_read (fl : S64x128.Idx → Elt F .i32) (r : Fin 64) (x : S128.Idx) :
    (listRow ![r.val, 0] (rowInb r)).view.read (Elt F) fl x = fl (ValueIdx.ix2 r (x 0)) := by
  refine (View.read_apply _ _).trans ((cast_eq _ _).trans (congrArg fl ?_))
  have hx : Shape.reshapeEquiv squeezes_S1x128_S128.numel_eq x = (ValueIdx.ix2 (0 : Fin 1) (x 0) : S1x128.Idx) :=
    Shape.reshapeEquiv_eq_of_rowMajor _ (by rw [Shape.rowMajor_val_two, Shape.rowMajor_val_one]; simp)
  show (Rect.unit (s := S64x128) ![r.val, 0] S1x128.size (rowInb r)).emb (Shape.reshapeEquiv squeezes_S1x128_S128.numel_eq x) = _
  rw [hx]
  refine funext fun a => Fin.ext ?_
  fin_cases a
  · show r.val + 1 * 0 = r.val; omega
  · show 0 + 1 * (x 0).val = (x 0).val; omega

theorem tAll_read (ft : S32768x2x128.Idx → Elt F .f32) : tAll.view.read (Elt F) ft = ft := by
  funext y
  refine (View.read_apply _ _).trans ((cast_eq _ _).trans (congrArg ft ?_))
  refine funext fun a => Fin.ext ?_
  fin_cases a
  · show 0 + 1 * (y 0).val = (y 0).val; omega
  · show 0 + 1 * (y 1).val = (y 1).val; omega
  · show 0 + 1 * (y 2).val = (y 2).val; omega

theorem tAll_set : tAll.view.set = Finset.univ := by
  refine (View.set_slice_whole _ _).trans (Finset.eq_univ_iff_forall.mpr fun y => ?_)
  refine Rect.mem_set_unit.mpr fun a => ?_
  have := (y a).isLt
  fin_cases a <;> exact ⟨Nat.zero_le _, lt_of_lt_of_eq this (Nat.zero_add _).symm⟩

/-- What a gather of row `r` puts into its buffer. -/
theorem payload_eq (fl : S64x128.Idx → Elt F .i32) (ft : S32768x2x128.Idx → Elt F .f32) (r : Fin 64)
    (hn) (hin : ∀ x, ((listRow ![r.val, 0] (rowInb r)).view.read (Elt F) fl x).toNat < S32768x2x128.size gathers_S32768x2x128_S128x2x128.axis) :
    SparseCore.gatherPayload gathers_S32768x2x128_S128x2x128 (tAll.view.read (Elt F) ft)
      (SparseCore.rows ((listRow ![r.val, 0] (rowInb r)).view.read (Elt F) fl) hn hin) = rowsOf (F := F) fl ft r := by
  funext y
  rw [tAll_read]
  unfold SparseCore.gatherPayload rowsOf
  refine congrArg ft (funext fun b => Fin.ext ?_)
  have hk : ∀ k : Fin 128, (S128.rowMajor.symm (k.cast hn.symm)) 0 = k := fun k => Fin.ext (by
    rw [← Shape.rowMajor_val_one (S128.rowMajor.symm (k.cast hn.symm)), Equiv.apply_symm_apply]; rfl)
  fin_cases b
  · refine (congrArg Fin.val (Shape.Gathers.idx_axis gathers_S32768x2x128_S128x2x128 _ y)).trans ?_
    have hb := hin (S128.rowMajor.symm ((y 0).cast hn.symm))
    have hw := (listRow_read (F := F) fl r (S128.rowMajor.symm ((y 0).cast hn.symm))).trans
      (congrArg (fun k : Fin 128 => fl (ValueIdx.ix2 r k)) (hk (y 0)))
    rw [hw] at hb
    exact (congrArg BitVec.toNat hw).trans (Nat.mod_eq_of_lt hb).symm
  · exact Shape.Gathers.idx_of_ne gathers_S32768x2x128_S128x2x128 _ y 1 (by decide)
  · exact Shape.Gathers.idx_of_ne gathers_S32768x2x128_S128x2x128 _ y 2 (by decide)

/-! ## A gather under way -/

section Run

variable (d : Dev nD) (L : grid0.Coords)

/-- A gather of row `r` under way into buffer `dst`, whose contents it makes `g`: the transfers, which bring the buffer,
    the table's share and the row's, and the rest of the lists' share. -/
def Flying (dst : Memref sig .scVector .vmem S128x2x128 .f32) (sem : DmaSem sig) (qt ql : PosShare TreeShare)
    (ft : S32768x2x128.Idx → Elt F .f32) (fl : S64x128.Idx → Elt F .i32) (r : Fin 64) (g : Buf (Elt F) (dst.view.loc (tile d L))) : sProp (MM F) :=
  iprop(Transfers.Flight countersEmb (tile d L) (.dma sem) (default : HIx 1) dst.view.dmaCredit
      iprop((dst.view.loc (tile d L) ↦{fullShare} g) ∗ (tV.view.loc (tile d L) ↦{qt} ft)
        ∗ (sI.view.loc (tile d L) ↦[(listRow ![r.val, 0] (rowInb r)).view.set]{ql} fl))
    ∗ (sI.view.loc (tile d L) ↦[Finset.univ \ (listRow ![r.val, 0] (rowInb r)).view.set]{ql} fl))

/-- Every word of the lists names a row of the table. -/
def InRange (fl : S64x128.Idx → BitVec 32) : Prop := ∀ y, (fl y).toNat < 32768

theorem start_gather {α : Type} (dst : Memref sig .scVector .vmem S128x2x128 .f32)
    (hset : dst.view.set = Finset.univ) (hN : ∀ h : S32768x2x128.Gathers 0 S128x2x128,
      ∑ j, (dst.slice (S128x2x128.rowRect h.axis' j) (S128x2x128.stride_rowRect h.axis' j)).view.dmaCredit = dst.view.dmaCredit)
    (sem : DmaSem sig) {off : Fin 2 → ℕ} (inb) (r : Fin 64) (e : off = ![r.val, 0]) {hn} {hp} {hsrc} {he} {hsp} {hr}
    (qt ql : PosShare TreeShare) (ft : S32768x2x128.Idx → Elt F .f32) (fl : S64x128.Idx → Elt F .i32) (hin : InRange fl)
    (fd : Buf (Elt F) (dst.view.loc (tile d L)))
    {k : PUnit → Prog (TpuEff nD τ sig (Elt F) Λ₀ (tile d L).2) α} {Q : α → sProp (MM F)} :
    iprop((tV.view.loc (tile d L) ↦{qt} ft) ∗ (dst.view.loc (tile d L) ↦{fullShare} fd) ∗ (sI.view.loc (tile d L) ↦{ql} fl)
        ∗ semVal (tile d L, SemLoc.dma sem) 0)
      ⊢ iprop((Flying d L dst sem qt ql ft fl r (dst.view.write (Elt F) fd (rowsOf (F := F) fl ft r) Finset.univ)
          -∗ wp frame (wpE (defs₀ (F := F)) 𝒱₀ (tile d L) none) Set.univ (k ⟨⟩) Q)
        -∗ wp frame (wpE (defs₀ (F := F)) 𝒱₀ (tile d L) none) Set.univ
            (SparseCore.enqueueIndirectGather hp tAll dst gathers_S32768x2x128_S128x2x128 (listRow off inb) hn sem hsrc he hsp hr >>= k) Q) := by
  subst e
  have hin' : ∀ x, ((listRow ![r.val, 0] inb).view.read (Elt F) fl x).toNat < S32768x2x128.size gathers_S32768x2x128_S128x2x128.axis := fun x => by
    rw [listRow_read (F := F) fl r x]; exact hin _
  iintro ⟨Ht, Hd, Hl, Hs⟩ Hk
  ihave Ht' := (Entails.of_eq (show (tV.view.loc (tile d L) ↦{qt} ft : sProp (MM F)) = tAll.view.loc (tile d L) ↦[tAll.view.set]{qt} ft by
    rw [tAll_set])) $$ Ht
  ihave Hd' := (Entails.of_eq (show (dst.view.loc (tile d L) ↦{fullShare} fd : sProp (MM F)) = dst.view.loc (tile d L) ↦[dst.view.set]{fullShare} fd by
    rw [hset])) $$ Hd
  ihave Hl' := (pointsTo_split_subset (q := ql) (f := fl) (S := Finset.univ) (Finset.subset_univ (listRow ![r.val, 0] inb).view.set)).1 $$ Hl
  icases Hl' with ⟨Hl, Hrest⟩
  iapply (SparseCore.wp_indirectGatherLocal countersEmb 𝒱₀ (tile d L) none (hg := gathers_S32768x2x128_S128x2x128) (default : HIx 1)
    dst.view.dmaCredit (hN _) (by decide) hin') $$ [Ht' Hd' Hl Hs]
  · isplitl [Ht']; · iexact Ht'
    isplitl [Hd']; · iexact Hd'
    isplitl [Hl]; · iexact Hl
    iexact Hs
  iintro Hf
  iapply Hk
  unfold Flying
  isplitl [Hf]
  · rw [payload_eq, tAll_set, hset]
    iexact Hf
  · iexact Hrest

theorem wait_gather {α : Type} (dst : Memref sig .scVector .vmem S128x2x128 .f32) (sem : DmaSem sig) {hsrc} {hdst}
    (qt ql : PosShare TreeShare) (ft : S32768x2x128.Idx → Elt F .f32) (fl : S64x128.Idx → Elt F .i32) (r : Fin 64)
    (g : Buf (Elt F) (dst.view.loc (tile d L))) (O : CellTallies nD τ sig (HIx 1)) (W : Waits sig (HIx 1))
    {k : PUnit → Prog (TpuEff nD τ sig (Elt F) Λ₀ (tile d L).2) α} {Q : α → sProp (MM F)} :
    iprop(Flying d L dst sem qt ql ft fl r g ∗ owes (tile d L) O W ∗ Transfers.MayWaits (tile d L) (default : HIx 1) O)
      ⊢ iprop((iprop((tV.view.loc (tile d L) ↦{qt} ft) ∗ (dst.view.loc (tile d L) ↦{fullShare} g) ∗ (sI.view.loc (tile d L) ↦{ql} fl)
            ∗ semVal (tile d L, SemLoc.dma sem) 0 ∗ owes (tile d L) O (insert (SemLoc.dma sem, (default : HIx 1)) W))
          -∗ wp frame (wpE (defs₀ (F := F)) 𝒱₀ (tile d L) none) Set.univ (k ⟨⟩) Q)
        -∗ wp frame (wpE (defs₀ (F := F)) 𝒱₀ (tile d L) none) Set.univ
            (SparseCore.waitIndirectGather sem tAll dst hsrc hdst >>= k) Q) := by
  unfold Flying
  iintro ⟨⟨Hf, Hrest⟩, HO, Hmw⟩ Hk
  iapply (Transfers.wp_waitLocalO countersEmb 𝒱₀ (tile d L) none (default : HIx 1) (rfl : dst.view.dmaCredit = _)) $$ [Hf HO Hmw]
  · isplitl [Hf]; · iexact Hf
    isplitl [HO]; · iexact HO
    iapply (Transfers.MayWaits.elim (SemLoc.dma sem)) $$ Hmw
  iintro ⟨⟨Hd, Ht, Hl⟩, Hs, HO⟩
  iapply Hk
  isplitl [Ht]; · iexact Ht
  isplitl [Hd]; · iexact Hd
  isplitl [Hl Hrest]
  · iapply (pointsTo_split_subset (q := ql) (f := fl) (S := Finset.univ) (Finset.subset_univ (listRow ![r.val, 0] (rowInb r)).view.set)).2
    isplitl [Hl] <;> iassumption
  isplitl [Hs] <;> iassumption

end Run

end Cert.Proof.Dots

end
-- ==== Proof.Rows.lean ====
/-
  A tile's loop over pairs of rows. Before trip `n` the gather of row `2n` is under way in the first buffer and the dots
  of the rows before it are in the result block; a trip starts row `2n + 1`'s gather, waits for row `2n`'s, computes its
  dots, starts row `2n + 2`'s gather if there is such a row, waits for row `2n + 1`'s and computes its dots.
-/
module

public import proofs.«01_k».proof.Proof.Gather

@[expose] public section

noncomputable section

namespace Cert.Proof.Dots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The dots of a block of rows -/

/-- The dots of a tile's sixty-four rows, from its index lists, its queries and the table. -/
def want (fl : S64x128.Idx → BitVec 32) (fq : S64x128.Idx → F .f32) (ft : S32768x2x128.Idx → F .f32) : S64x256.Idx → F .f32 :=
  fun y => dotAt fq (rowsOf fl ft (y 0)) (y 0) (⟨(y 1).val / 16, by have : (y 1).val < 256 := (y 1).isLt; omega⟩ : Fin 16)
    (⟨(y 1).val % 16, Nat.mod_lt _ (by decide)⟩ : Fin 16)

/-- The first `N` elements of a block, row by row, are the dots. -/
def Done (fl : S64x128.Idx → BitVec 32) (fq : S64x128.Idx → F .f32) (ft : S32768x2x128.Idx → F .f32) (fo : S64x256.Idx → F .f32) (N : ℕ) : Prop :=
  ∀ y : S64x256.Idx, 256 * (y 0).val + (y 1).val < N → fo y = want fl fq ft y

theorem done_put (fl : S64x128.Idx → BitVec 32) (fq : S64x128.Idx → F .f32) (ft : S32768x2x128.Idx → F .f32) (fo g : S64x256.Idx → F .f32)
    (r : Fin 64) (kk : Fin 16) (h : Done fl fq ft fo (256 * r.val + 16 * kk.val))
    (hp : Put r kk (dotAt fq (rowsOf fl ft r) r kk) fo g) : Done fl fq ft g (256 * r.val + 16 * (kk.val + 1)) := by
  intro y hy
  have h0 : (y 0).val < 64 := (y 0).isLt
  have h1 : (y 1).val < 256 := (y 1).isLt
  by_cases hin : (y 0).val = r.val ∧ 16 * kk.val ≤ (y 1).val ∧ (y 1).val < 16 * kk.val + 16
  · obtain ⟨e0, lo, hi⟩ := hin
    have er : y 0 = r := Fin.ext e0
    have ek : (⟨(y 1).val / 16, by omega⟩ : Fin 16) = kk := Fin.ext (by show (y 1).val / 16 = kk.val; omega)
    have ey : y = ValueIdx.ix2 r (⟨16 * kk.val + (⟨(y 1).val % 16, Nat.mod_lt _ (by decide)⟩ : Fin 16).val, by
        show 16 * kk.val + (y 1).val % 16 < 256; omega⟩ : Fin 256) := by
      refine funext fun a => Fin.ext ?_
      fin_cases a
      · exact e0
      · show (y 1).val = 16 * kk.val + (y 1).val % 16; omega
    have hg := hp.1 (⟨(y 1).val % 16, Nat.mod_lt _ (by decide)⟩ : Fin 16)
    rw [← ey] at hg
    rw [hg]
    unfold want
    rw [er, ek]
  · rw [hp.2 y (by omega)]
    exact h y (by omega)

/-! ## The inner loops -/

section Run

variable (d : Dev nD) (L : grid0.Coords)
variable (fl : S64x128.Idx → BitVec 32) (fq : S64x128.Idx → F .f32) (ft : S32768x2x128.Idx → F .f32)

/-- Before trip `k` of an even row's loop. -/
def invE (r : Fin 64) (k : ℕ) (_ : Unit) : sProp (MM F) :=
  iprop(∃ fo, ⌜Done fl fq ft fo (256 * r.val + 16 * k)⌝ ∗ (sQ.view.loc (tile d L) ↦{fullShare} fq)
    ∗ (sA.view.loc (tile d L) ↦{fullShare} rowsOf (F := F) fl ft r) ∗ (sO.view.loc (tile d L) ↦{fullShare} fo))

/-- Before trip `k` of an odd row's loop. -/
def invO (r : Fin 64) (k : ℕ) (_ : Unit) : sProp (MM F) :=
  iprop(∃ fo, ⌜Done fl fq ft fo (256 * r.val + 16 * k)⌝ ∗ (sQ.view.loc (tile d L) ↦{fullShare} fq)
    ∗ (sB.view.loc (tile d L) ↦{fullShare} rowsOf (F := F) fl ft r) ∗ (sO.view.loc (tile d L) ↦{fullShare} fo))

theorem step_even (t1 : Fin k0_t1_loop.trips) (t2 : Fin k0_t2_loop.trips) (w : BitVec 32) :
    invE d L fl fq ft (⟨2 * t1.val, row_even t1⟩ : Fin 64) t2.val ()
      ⊢ wp frame (wpE (defs₀ (F := F)) 𝒱₀ (tile d L) none) Set.univ
          (k0_t2_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2 t1 w t2 ())
          fun s => invE d L fl fq ft (⟨2 * t1.val, row_even t1⟩ : Fin 64) (t2.val + 1) s := by
  unfold invE
  iintro ⟨%fo, %hd, H⟩
  iapply (wp_wand frame _ _) $$ [H]
  · iapply (trip_even d L t1 t2 w fq (rowsOf (F := F) fl ft (⟨2 * t1.val, row_even t1⟩ : Fin 64)) fo); iexact H
  iintro %_ ⟨%g, Hq, Ha, Ho, %hp⟩
  iexists g
  isplitr
  · ipureintro; exact done_put fl fq ft fo g _ (t2.cast trips2) hd hp
  isplitl [Hq]; · iexact Hq
  isplitl [Ha] <;> iassumption

theorem step_odd (t1 : Fin k0_t1_loop.trips) (t3 : Fin k0_t3_loop.trips) (w : BitVec 32) :
    invO d L fl fq ft (⟨2 * t1.val + 1, row_odd t1⟩ : Fin 64) t3.val ()
      ⊢ wp frame (wpE (defs₀ (F := F)) 𝒱₀ (tile d L) none) Set.univ
          (k0_t3_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2 t1 w t3 ())
          fun s => invO d L fl fq ft (⟨2 * t1.val + 1, row_odd t1⟩ : Fin 64) (t3.val + 1) s := by
  unfold invO
  iintro ⟨%fo, %hd, H⟩
  iapply (wp_wand frame _ _) $$ [H]
  · iapply (trip_odd d L t1 t3 w fq (rowsOf (F := F) fl ft (⟨2 * t1.val + 1, row_odd t1⟩ : Fin 64)) fo); iexact H
  iintro %_ ⟨%g, Hq, Ha, Ho, %hp⟩
  iexists g
  isplitr
  · ipureintro; exact done_put fl fq ft fo g _ (t3.cast trips3) hd hp
  isplitl [Hq]; · iexact Hq
  isplitl [Ha] <;> iassumption

/-! ## The loop over pairs of rows -/

/-- The first buffer before trip `n`: row `2n`'s gather under way into it, or, after the last row, everything back. -/
def flyA (qt : PosShare TreeShare) (n : ℕ) : sProp (MM F) :=
  if h : n < 32 then Flying d L sA cc0_scratch5.sem qt fullShare.left ft fl (⟨2 * n, by omega⟩ : Fin 64) (rowsOf (F := F) fl ft (⟨2 * n, by omega⟩ : Fin 64))
  else iprop((tV.view.loc (tile d L) ↦{qt} ft) ∗ (∃ f, sA.view.loc (tile d L) ↦{fullShare} f) ∗ (sI.view.loc (tile d L) ↦{fullShare.left} fl)
    ∗ semVal (tile d L, SemLoc.dma cc0_scratch5.sem) 0)

/-- Before trip `n` of the loop over pairs of rows. -/
def invP (qt : PosShare TreeShare) (O : CellTallies nD τ sig (HIx 1)) (W : Waits sig (HIx 1)) (n : ℕ) (_ : Unit) : sProp (MM F) :=
  iprop(Transfers.MayWaits (tile d L) (default : HIx 1) O ∗ flyA d L fl ft qt.left n
    ∗ (tV.view.loc (tile d L) ↦{qt.right} ft) ∗ (∃ f, sB.view.loc (tile d L) ↦{fullShare} f) ∗ (sI.view.loc (tile d L) ↦{fullShare.right} fl)
    ∗ semVal (tile d L, SemLoc.dma cc0_scratch6.sem) 0
    ∗ (sQ.view.loc (tile d L) ↦{fullShare} fq)
    ∗ (∃ fo, ⌜Done fl fq ft fo (512 * n)⌝ ∗ (sO.view.loc (tile d L) ↦{fullShare} fo))
    ∗ ∃ W', ⌜∀ p ∈ W', p ∈ W ∨ p.2 = none⌝ ∗ owes (tile d L) O W')

theorem creditA : ∀ h : S32768x2x128.Gathers 0 S128x2x128,
    ∑ j, (sA.slice (S128x2x128.rowRect h.axis' j) (S128x2x128.stride_rowRect h.axis' j)).view.dmaCredit = sA.view.dmaCredit := by decide

theorem creditB : ∀ h : S32768x2x128.Gathers 0 S128x2x128,
    ∑ j, (sB.slice (S128x2x128.rowRect h.axis' j) (S128x2x128.stride_rowRect h.axis' j)).view.dmaCredit = sB.view.dmaCredit := by decide

/-- A buffer written whole holds what was written. -/
theorem writeA (f : Buf (Elt F) (sA.view.loc (tile d L))) (g : S128x2x128.Idx → F .f32) : sA.view.write (Elt F) f g Finset.univ = g :=
  View.write_whole_univ _ _ _

theorem writeB (f : Buf (Elt F) (sB.view.loc (tile d L))) (g : S128x2x128.Idx → F .f32) : sB.view.write (Elt F) f g Finset.univ = g :=
  View.write_whole_univ _ _ _

theorem cond1_iff : ∀ t1 : Fin k0_t1_loop.trips, k0_cond1 t1 = 1#1 ↔ t1.val + 1 < 32 := by decide +kernel

/-- The second half of a trip: the wait for the odd row's gather and the odd row's dots. -/
theorem odd_half (qt : PosShare TreeShare) (O : CellTallies nD τ sig (HIx 1)) (W : Waits sig (HIx 1)) (t1 : Fin k0_t1_loop.trips) (w : BitVec 32)
    (fo : S64x256.Idx → F .f32) (hd : Done fl fq ft fo (256 * (2 * t1.val + 1) + 16 * 0)) (W' : Waits sig (HIx 1))
    (hW' : ∀ p ∈ W', p ∈ W ∨ p.2 = none) {hsrc} {hdst} :
    iprop(Transfers.MayWaits (tile d L) (default : HIx 1) O
        ∗ Flying d L sB cc0_scratch6.sem qt.right fullShare.right ft fl (⟨2 * t1.val + 1, row_odd t1⟩ : Fin 64) (rowsOf (F := F) fl ft (⟨2 * t1.val + 1, row_odd t1⟩ : Fin 64))
        ∗ (sQ.view.loc (tile d L) ↦{fullShare} fq) ∗ (sO.view.loc (tile d L) ↦{fullShare} fo)
        ∗ owes (tile d L) O (insert (SemLoc.dma cc0_scratch5.sem, (default : HIx 1)) W'))
      ⊢ wp frame (wpE (defs₀ (F := F)) 𝒱₀ (tile d L) none) Set.univ
          (SparseCore.waitIndirectGather cc0_scratch6.sem tAll sB hsrc hdst >>= fun _ =>
            k0_t3_loop.for k0_t3_ok PUnit.unit (k0_t3_body L iV (Memref.isWhole_whole _) qV (Memref.isWhole_whole _) tV (Memref.isWhole_whole _)
              oV (Memref.isWhole_whole _) sI (Memref.isWhole_whole _) sQ (Memref.isWhole_whole _) sA (Memref.isWhole_whole _)
              sB (Memref.isWhole_whole _) sO (Memref.isWhole_whole _) cc0_scratch5 cc0_scratch6 cc0_scoped0 cc0_scoped1 cc0_scoped2 t1 w) >>= fun _ =>
            Pure.pure PUnit.unit)
          fun _ => iprop((tV.view.loc (tile d L) ↦{qt.right} ft) ∗ (∃ f, sB.view.loc (tile d L) ↦{fullShare} f)
            ∗ (sI.view.loc (tile d L) ↦{fullShare.right} fl) ∗ semVal (tile d L, SemLoc.dma cc0_scratch6.sem) 0
            ∗ (sQ.view.loc (tile d L) ↦{fullShare} fq)
            ∗ (∃ fo, ⌜Done fl fq ft fo (512 * (t1.val + 1))⌝ ∗ (sO.view.loc (tile d L) ↦{fullShare} fo))
            ∗ ∃ W', ⌜∀ p ∈ W', p ∈ W ∨ p.2 = none⌝ ∗ owes (tile d L) O W') := by
  iintro ⟨#Hmw, HB, Hq, Ho, HO⟩
  iapply (wait_gather d L sB cc0_scratch6.sem qt.right fullShare.right ft fl (⟨2 * t1.val + 1, row_odd t1⟩ : Fin 64) _ O _) $$ [HB HO]
  · isplitl [HB]; · iexact HB
    isplitl [HO] <;> iassumption
  iintro ⟨HtB, HBb, HlB, HsB, HO⟩
  sl_for (invO d L fl fq ft (⟨2 * t1.val + 1, row_odd t1⟩ : Fin 64)) $$ [Hq HBb Ho]
  case region =>
    intro t3 _
    exact step_odd d L fl fq ft t1 t3 _
  · unfold invO
    iexists fo
    isplitr
    · ipureintro; exact hd
    isplitl [Hq]; · iexact Hq
    isplitl [HBb] <;> iassumption
  iintro %_ HI
  unfold invO
  icases HI with ⟨%fo', %hd', Hq, HBb, Ho⟩
  sl_step
  isplitl [HtB]; · iexact HtB
  isplitl [HBb]; · iexists _; iexact HBb
  isplitl [HlB]; · iexact HlB
  isplitl [HsB]; · iexact HsB
  isplitl [Hq]; · iexact Hq
  isplitl [Ho]
  · iexists fo'; isplitr
    · ipureintro
      have e1 : 256 * (2 * t1.val + 1) + 16 * k0_t3_loop.trips = 512 * (t1.val + 1) := by rw [trips3]; omega
      exact e1 ▸ hd'
    · iexact Ho
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

theorem step_pair (hin : InRange fl) (qt : PosShare TreeShare) (O : CellTallies nD τ sig (HIx 1)) (W : Waits sig (HIx 1)) (t1 : Fin k0_t1_loop.trips) :
    invP d L fl fq ft qt O W t1.val ()
      ⊢ wp frame (wpE (defs₀ (F := F)) 𝒱₀ (tile d L) none) Set.univ
          (k0_t1_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2 t1 ())
          fun s => invP d L fl fq ft qt O W (t1.val + 1) s := by
  have h32 : t1.val < 32 := lt_of_lt_of_eq t1.isLt trips1
  unfold k0_t1_body invP
  rw [flyA, dif_pos h32]
  iintro ⟨#Hmw, HA, Ht, ⟨%fb, Hb⟩, Hl, Hs, Hq, ⟨%fo, %hd, Ho⟩, %W', %hW', HO⟩
  dsimp only
  iapply (start_gather d L sB (View.set_whole _) creditB cc0_scratch6.sem (k0_off2_inb t1) (⟨2 * t1.val + 1, row_odd t1⟩ : Fin 64)
    (k0_off2_eq t1) qt.right fullShare.right ft fl hin fb) $$ [Ht Hb Hl Hs]
  · isplitl [Ht]; · iexact Ht
    isplitl [Hb]; · iexact Hb
    isplitl [Hl] <;> iassumption
  iintro HB
  iapply (wait_gather d L sA cc0_scratch5.sem qt.left fullShare.left ft fl (⟨2 * t1.val, row_even t1⟩ : Fin 64) _ O W') $$ [HA HO]
  · isplitl [HA]; · iexact HA
    isplitl [HO] <;> iassumption
  iintro ⟨HtA, HAb, HlA, HsA, HO⟩
  sl_for (invE d L fl fq ft (⟨2 * t1.val, row_even t1⟩ : Fin 64)) $$ [Hq HAb Ho]
  case region =>
    intro t2 _
    exact step_even d L fl fq ft t1 t2 _
  · unfold invE
    iexists fo
    isplitr
    · ipureintro; exact (show 256 * (2 * t1.val) + 16 * 0 = 512 * t1.val by omega) ▸ hd
    isplitl [Hq]; · iexact Hq
    isplitl [HAb] <;> iassumption
  iintro %_ HI
  unfold invE
  icases HI with ⟨%fo', %hd', Hq, HAb, Ho⟩
  have e1 : 256 * (2 * t1.val) + 16 * k0_t2_loop.trips = 256 * (2 * t1.val + 1) + 16 * 0 := by rw [trips2]; omega
  have hd2 : Done fl fq ft fo' (256 * (2 * t1.val + 1) + 16 * 0) := e1 ▸ hd'
  by_cases hc : k0_cond1 t1 = 1#1
  · have h31 : t1.val + 1 < 32 := (cond1_iff t1).1 hc
    have e2 : (⟨2 * t1.val + 2, by omega⟩ : Fin 64) = ⟨2 * (t1.val + 1), by omega⟩ := Fin.ext (by show 2 * t1.val + 2 = 2 * (t1.val + 1); omega)
    unfold step_pair.sl.prog.cont_1
    rw [dif_pos hc, flyA, dif_pos h31]
    iapply (start_gather d L sA (View.set_whole _) creditA cc0_scratch5.sem (k0_off29_inb t1 hc) (⟨2 * t1.val + 2, by omega⟩ : Fin 64)
      (k0_off29_eq t1) qt.left fullShare.left ft fl hin _) $$ [HtA HAb HlA HsA]
    · isplitl [HtA]; · iexact HtA
      isplitl [HAb]; · iexact HAb
      isplitl [HlA] <;> iassumption
    iintro HA
    iapply (wp_wand frame _ _) $$ [HB HO Hq Ho]
    · iapply (odd_half d L fl fq ft qt O W t1 _ fo' hd2 W' hW')
      isplitr; · iexact Hmw
      isplitl [HB]; · iapply (Entails.of_eq (congrArg (Flying d L sB cc0_scratch6.sem qt.right fullShare.right ft fl _) (writeB d L _ _))); iexact HB
      isplitl [Hq]; · iexact Hq
      isplitl [Ho] <;> iassumption
    iintro %_ ⟨H1, H2, H3, H4, H5, H6, H7⟩
    isplitr; · iexact Hmw
    isplitl [HA]
    · iapply (Entails.of_eq (congrArg₂ (Flying d L sA cc0_scratch5.sem qt.left fullShare.left ft fl) e2
        ((writeA d L _ _).trans (congrArg (rowsOf (F := F) fl ft) e2)))); iexact HA
    isplitl [H1]; · iexact H1
    isplitl [H2]; · iexact H2
    isplitl [H3]; · iexact H3
    isplitl [H4]; · iexact H4
    isplitl [H5]; · iexact H5
    isplitl [H6] <;> iassumption
  · have h31 : ¬ t1.val + 1 < 32 := fun h => hc ((cond1_iff t1).2 h)
    unfold step_pair.sl.prog.cont_1
    rw [dif_neg hc, flyA, dif_neg h31]
    iapply (wp_wand frame _ _) $$ [HB HO Hq Ho]
    · iapply (odd_half d L fl fq ft qt O W t1 _ fo' hd2 W' hW')
      isplitr; · iexact Hmw
      isplitl [HB]; · iapply (Entails.of_eq (congrArg (Flying d L sB cc0_scratch6.sem qt.right fullShare.right ft fl _) (writeB d L _ _))); iexact HB
      isplitl [Hq]; · iexact Hq
      isplitl [Ho] <;> iassumption
    iintro %_ ⟨H1, H2, H3, H4, H5, H6, H7⟩
    isplitr; · iexact Hmw
    isplitl [HtA HAb HlA HsA]
    · isplitl [HtA]; · iexact HtA
      isplitl [HAb]; · iexists _; iexact HAb
      isplitl [HlA] <;> iassumption
    isplitl [H1]; · iexact H1
    isplitl [H2]; · iexact H2
    isplitl [H3]; · iexact H3
    isplitl [H4]; · iexact H4
    isplitl [H5]; · iexact H5
    isplitl [H6] <;> iassumption

end Run

end Cert.Proof.Dots

end
-- ==== Proof.Tile.lean ====
/-
  The whole task of a tile: it copies its block of the index lists and of the queries in, runs the loop over pairs of
  rows, and copies its block of dots out.
-/
module

public import proofs.«01_k».proof.Proof.Rows

@[expose] public section

noncomputable section

namespace Cert.Proof.Dots

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The result array -/

/-- Block `b` of sixty-four rows of an array of 2048. -/
def rows {X : Type} (b : Fin 32) (v : S2048x128.Idx → X) : S64x128.Idx → X :=
  fun z => v (ValueIdx.ix2 (⟨64 * b.val + (z 0).val, by have : (z 0).val < 64 := (z 0).isLt; omega⟩ : Fin 2048) (z 1))

/-- The result of the call, from the index lists, the queries and the table. -/
def outv (vl : S2048x128.Idx → BitVec 32) (vq : S2048x128.Idx → F .f32) (vt : S32768x2x128.Idx → F .f32) : S2048x256.Idx → F .f32 :=
  fun y => want (rows (⟨(y 0).val / 64, by have : (y 0).val < 2048 := (y 0).isLt; omega⟩ : Fin 32) vl)
    (rows (⟨(y 0).val / 64, by have : (y 0).val < 2048 := (y 0).isLt; omega⟩ : Fin 32) vq) vt
    (ValueIdx.ix2 (⟨(y 0).val % 64, Nat.mod_lt _ (by decide)⟩ : Fin 64) (y 1))

/-! ## The blocks -/

abbrev iLoc (d : Dev nD) : Loc nD τ sig := (SparseCore.T d).loc main_v10
abbrev qLoc (d : Dev nD) : Loc nD τ sig := (SparseCore.T d).loc main_arg2
abbrev tLoc (d : Dev nD) : Loc nD τ sig := (SparseCore.T d).loc main_v1
abbrev oLoc (d : Dev nD) : Loc nD τ sig := (SparseCore.T d).loc main_v11

theorem odiv : 32 ∣ S2048x256.size 0 := ⟨64, rfl⟩
abbrev orow (b : Fin 32) : Rect S2048x256 := Rect.part (s := S2048x256) (a₀ := 0) odiv b
abbrev oSet (b : Fin 32) : Finset S2048x256.Idx := (oV.view.slice (orow b)).set

/-- The block a tile computes. -/
def blk (L : grid0.Coords) : Fin 32 := ⟨2 * (L 1).val + (L 0).val, by
  have h0 : (L 0).val < 2 := (L 0).isLt
  have h1 : (L 1).val < 16 := (L 1).isLt
  omega⟩

section Tile

variable (d : Dev nD) (L : grid0.Coords)

abbrev lRect : Rect S2048x128 := Rect.unit (s := S2048x128) (k0_off1 L) S64x128.size (k0_off1_inb L)
abbrev oRect : Rect S2048x256 := Rect.unit (s := S2048x256) (k0_off55 L) S64x256.size (k0_off55_inb L)
abbrev iRow : Memref sig .scVector .hbm S64x128 .i32 := iV.slice (lRect L) (fun _ => rfl)
abbrev qRow : Memref sig .scVector .hbm S64x128 .f32 := qV.slice (lRect L) (fun _ => rfl)
abbrev oRow : Memref sig .scVector .hbm S64x256 .f32 := oV.slice (oRect L) (fun _ => rfl)

theorem oRect_eq : oRect L = orow (blk L) := by
  unfold oRect orow Rect.part Rect.block
  congr 1 <;> funext a
  · rw [k0_off55_eq]
    match a with
    | 0 => simp [Shape.partIx, Shape.partSize, blk]; omega
    | 1 => simp [Shape.partIx, Shape.partSize]
  · match a with
    | 0 => simp [Shape.partSize]
    | 1 => simp [Shape.partSize]

theorem set_oRow : (oRow L).view.set = oSet (blk L) := by
  show (oV.view.slice (oRect L)).set = (oV.view.slice (orow (blk L))).set
  rw [oRect_eq]

theorem pts_oRow (f : Buf (Elt F) (oLoc d)) :
    ((oRow L).view.loc (tile d L) ↦[(oRow L).view.set]{fullShare} f : sProp (MM F)) = oLoc d ↦[oSet (blk L)]{fullShare} f := by
  rw [set_oRow]

theorem pts_iRow (q : PosShare TreeShare) (f : S2048x128.Idx → Elt F .i32) :
    ((iRow L).view.loc (tile d L) ↦[(iRow L).view.set]{q} f : sProp (MM F)) = iLoc d ↦[(iRow L).view.set]{q} f := rfl

theorem pts_qRow (q : PosShare TreeShare) (f : S2048x128.Idx → Elt F .f32) :
    ((qRow L).view.loc (tile d L) ↦[(qRow L).view.set]{q} f : sProp (MM F)) = qLoc d ↦[(qRow L).view.set]{q} f := rfl

/-- A block read is the array at the block's rows. -/
theorem iRow_read (v : S2048x128.Idx → BitVec 32) : (iRow L).view.read (Elt F) v = rows (blk L) v := by
  funext z
  refine ((View.read_apply _ _).trans (cast_eq _ _)).trans (congrArg v ?_)
  refine funext fun a => Fin.ext ?_
  have e := congrFun (k0_off1_eq L)
  fin_cases a
  · show k0_off1 L 0 + 1 * (z 0).val = 64 * (2 * (L 1).val + (L 0).val) + (z 0).val
    rw [e 0]; simp; omega
  · show k0_off1 L 1 + 1 * (z 1).val = (z 1).val
    rw [e 1]; simp

theorem qRow_read (v : S2048x128.Idx → F .f32) : (qRow L).view.read (Elt F) v = rows (blk L) v := by
  funext z
  refine ((View.read_apply _ _).trans (cast_eq _ _)).trans (congrArg v ?_)
  refine funext fun a => Fin.ext ?_
  have e := congrFun (k0_off1_eq L)
  fin_cases a
  · show k0_off1 L 0 + 1 * (z 0).val = 64 * (2 * (L 1).val + (L 0).val) + (z 0).val
    rw [e 0]; simp; omega
  · show k0_off1 L 1 + 1 * (z 1).val = (z 1).val
    rw [e 1]; simp

/-- The block of dots, written to the block's rows of the result. -/
theorem out_block (vl : S2048x128.Idx → BitVec 32) (vq : S2048x128.Idx → F .f32) (vt : S32768x2x128.Idx → F .f32) (fo : S2048x256.Idx → F .f32)
    (g : S64x256.Idx → F .f32) (h : Done (rows (blk L) vl) (rows (blk L) vq) vt g (512 * 32)) :
    ∀ i ∈ (oRow L).view.set, (oRow L).view.writes (Elt F) fo [⟨Rect.whole S64x256, g⟩] i = outv vl vq vt i := by
  intro i hi
  rw [← View.write_univ_eq_writes_whole, View.writes_nil]
  obtain ⟨x, -, rfl⟩ := Finset.mem_map.1 hi
  refine ((oRow L).view.write_emb_of_mem (Val := Elt F) fo g (Finset.mem_univ x)).trans ((cast_eq _ _).trans ?_)
  have h0 : (x 0).val < 64 := (x 0).isLt
  have h1 : (x 1).val < 256 := (x 1).isLt
  rw [h x (by omega)]
  have e := congrFun (k0_off55_eq L)
  have e0 : (((oRow L).view.emb x) 0).val = 64 * (blk L).val + (x 0).val := by
    show k0_off55 L 0 + 1 * (x 0).val = 64 * (2 * (L 1).val + (L 0).val) + (x 0).val
    rw [e 0]; simp; omega
  have e1 : ((oRow L).view.emb x) 1 = x 1 := Fin.ext (by
    show k0_off55 L 1 + 1 * (x 1).val = (x 1).val
    rw [e 1]; simp)
  have eb : ∀ hb, (⟨(((oRow L).view.emb x) 0).val / 64, hb⟩ : Fin 32) = blk L := fun hb => Fin.ext (by
    show (((oRow L).view.emb x) 0).val / 64 = _; rw [e0]; omega)
  have ex : (ValueIdx.ix2 (⟨(((oRow L).view.emb x) 0).val % 64, Nat.mod_lt _ (by decide)⟩ : Fin 64) (((oRow L).view.emb x) 1) : S64x256.Idx) = x := by
    refine funext fun a => Fin.ext ?_
    fin_cases a
    · show (((oRow L).view.emb x) 0).val % 64 = (x 0).val; rw [e0]; omega
    · exact congrArg Fin.val e1
  unfold outv
  rw [eb, ex]

/-! ## What the launch gives a tile -/

abbrev cell0 : GSem nD τ sig := (tile d L, .dma cc0_scoped0.sem)
abbrev cell1 : GSem nD τ sig := (tile d L, .dma cc0_scoped1.sem)
abbrev cell2 : GSem nD τ sig := (tile d L, .dma cc0_scoped2.sem)
abbrev cell5 : GSem nD τ sig := (tile d L, .dma cc0_scratch5.sem)
abbrev cell6 : GSem nD τ sig := (tile d L, .dma cc0_scratch6.sem)

/-- The semaphores beyond the five the task uses. -/
def restSems : Finset (GSem nD τ sig) :=
  (((((ownCells (tile d L)).erase (cell0 d L)).erase (cell1 d L)).erase (cell2 d L)).erase (cell5 d L)).erase (cell6 d L)

theorem cell_mem (s : DmaSem sig) (h : (SemLoc.dma s : SemLoc sig).isScoped .scVector = true) : ((tile d L, .dma s) : GSem nD τ sig) ∈ ownCells (tile d L) :=
  mem_ownCells.mpr ⟨rfl, h⟩

theorem cell_ne {s t : DmaSem sig} (h : s ≠ t) : ((tile d L, .dma s) : GSem nD τ sig) ≠ (tile d L, .dma t) :=
  fun e => h (SemLoc.dma.inj (congrArg Prod.snd e))

theorem ownSems0_V :
    (ownSems0 (tile d L) : sProp (MM F))
      = iprop(semVal (cell0 d L) 0 ∗ semVal (cell1 d L) 0 ∗ semVal (cell2 d L) 0 ∗ semVal (cell5 d L) 0 ∗ semVal (cell6 d L) 0
          ∗ bigSep (restSems d L) fun g => semVal g 0) := by
  unfold SparseCore.Cfg.ownSems0 restSems
  rw [SparseCore.bigSep_erase' (cell_mem d L cc0_scoped0.sem (by decide)),
    SparseCore.bigSep_erase' (Finset.mem_erase.mpr ⟨cell_ne d L (by decide), cell_mem d L cc0_scoped1.sem (by decide)⟩),
    SparseCore.bigSep_erase' (Finset.mem_erase.mpr ⟨cell_ne d L (by decide), Finset.mem_erase.mpr ⟨cell_ne d L (by decide), cell_mem d L cc0_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scratch5.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scratch6.sem (by decide)⟩⟩⟩⟩)]

/-- A scratch buffer as an element of the tile's own. -/
abbrev ref (b : Ref sig .scVector) : DevRef τ sig := (Proc.scVector (cV L) (jV L)).devRef b

def restRefs : Finset (DevRef τ sig) :=
  (((((ownRefs (τ := τ) (.scVector (cV L) (jV L))).erase (ref L cc0_scratch0)).erase (ref L cc0_scratch1)).erase (ref L cc0_scratch2)).erase
    (ref L cc0_scratch3)).erase (ref L cc0_scratch4)

theorem ref_ne {a b : Ref sig .scVector} (h : a ≠ b) : ref L a ≠ ref L b := fun e => h (Proc.devRef_injective _ e)

theorem ref_mem (b : Ref sig .scVector) (h : (ref L b).owner = .proc (.scVector (cV L) (jV L))) : ref L b ∈ ownRefs (τ := τ) (.scVector (cV L) (jV L)) :=
  SparseCore.Cfg.mem_ownRefs_of_owner h

theorem ownBufs_V :
    (ownBufs (tile d L) : sProp (MM F))
      = iprop((∃ f, sI.view.loc (tile d L) ↦{fullShare} f) ∗ (∃ f, sQ.view.loc (tile d L) ↦{fullShare} f)
          ∗ (∃ f, sA.view.loc (tile d L) ↦{fullShare} f) ∗ (∃ f, sB.view.loc (tile d L) ↦{fullShare} f) ∗ (∃ f, sO.view.loc (tile d L) ↦{fullShare} f)
          ∗ bigSep (restRefs L) fun b => iprop(∃ f, ((d, b) : Loc nD τ sig) ↦{fullShare} f)) := by
  unfold SparseCore.Cfg.ownBufs restRefs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), ref_mem L cc0_scratch4 rfl⟩⟩⟩⟩)]

/-- What was written into a buffer whole. -/
theorem writeI (f : Buf (Elt F) (sI.view.loc (tile d L))) (g : S64x128.Idx → BitVec 32) : sI.view.write (Elt F) f g Finset.univ = g :=
  View.write_whole_univ _ _ _

theorem writeQ (f : Buf (Elt F) (sQ.view.loc (tile d L))) (g : S64x128.Idx → F .f32) : sQ.view.write (Elt F) f g Finset.univ = g :=
  View.write_whole_univ _ _ _

/-! ## The task -/

variable (vl : S2048x128.Idx → BitVec 32) (vq : S2048x128.Idx → F .f32) (vt : S32768x2x128.Idx → F .f32)

set_option maxHeartbeats 1000000 in
theorem tile_body (hF : (K (F := F)).Facts) (hin : ∀ y, (vl y).toNat < 32768) (qs : PosShare TreeShare) (fo : Buf (Elt F) (oLoc d))
    (O : CellTallies nD τ sig (HIx 1)) (W : Waits sig (HIx 1)) (hO : ∀ g, O g none = 0) :
    (iprop(levAts (K (F := F)).L (K (F := F)).lev ∗ emp
        ∗ ((iLoc d ↦{qs} vl) ∗ (qLoc d ↦{qs} vq) ∗ (tLoc d ↦{qs} vt) ∗ (oLoc d ↦[oSet (blk L)]{fullShare} fo))
        ∗ scopedBufs (tile d L) ∗ scopedSems0 (tile d L) ∗ owes (tile d L) O W) : sProp (MM F))
      ⊢ wp frame (wpE (defs₀ (F := F)) 𝒱₀ (tile d L) none) Set.univ
          (cc0__p3_body L iV (Memref.isWhole_whole _) qV (Memref.isWhole_whole _) tV (Memref.isWhole_whole _) oV (Memref.isWhole_whole _)
            sI (Memref.isWhole_whole _) sQ (Memref.isWhole_whole _) sA (Memref.isWhole_whole _) sB (Memref.isWhole_whole _)
            sO (Memref.isWhole_whole _) cc0_scratch5 cc0_scratch6 cc0_scoped0 cc0_scoped1 cc0_scoped2)
          fun _ => iprop(((iLoc d ↦{qs} vl) ∗ (qLoc d ↦{qs} vq) ∗ (tLoc d ↦{qs} vt) ∗ (oLoc d ↦[oSet (blk L)]{fullShare} outv vl vq vt))
            ∗ scopedBufs (tile d L) ∗ scopedSems0 (tile d L)
            ∗ ∃ W', ⌜∀ p ∈ W', p ∈ W ∨ p.2 = none⌝ ∗ owes (tile d L) O W') := by
  simp only [cc0__p3_body_eq_skeleton]; unfold cc0__p3_body_skel
  rw [(K (F := F)).scopedBufs_V hF d (cV L) (jV L), SparseCore.Cfg.scopedSems0_V (Val := Elt F) d (cV L) (jV L), ownSems0_V, ownBufs_V]
  iintro ⟨#Hlv, -, ⟨Hi, Hq, Ht, Ho⟩, ⟨⟨%fi, HsI⟩, ⟨%fq, HsQ⟩, ⟨%fa, HsA⟩, ⟨%fb, HsB⟩, ⟨%fs, HsO⟩, Hbufs⟩, ⟨Hc0, Hc1, Hc2, Hc5, Hc6, Hsems⟩, HO⟩
  ihave #Hmw := (show levAts (K (F := F)).L (K (F := F)).lev ⊢ Transfers.MayWaits (tile d L) (default : HIx 1) O from
    (K (F := F)).mayWaits_none (thr := tile d L) hO) $$ Hlv
  ihave Ho' := (Entails.of_eq (pts_oRow (F := F) d L _).symm) $$ Ho
  ihave Hi' := (pointsTo_split_subset (q := qs) (f := vl) (S := Finset.univ) (Finset.subset_univ (iRow L).view.set)).1 $$ Hi
  icases Hi' with ⟨Hi1, Hi2⟩
  ihave Hq' := (pointsTo_split_subset (q := qs) (f := vq) (S := Finset.univ) (Finset.subset_univ (qRow L).view.set)).1 $$ Hq
  icases Hq' with ⟨Hq1, Hq2⟩
  ihave Hi3 := (Entails.of_eq (pts_iRow (F := F) d L qs vl).symm) $$ Hi1
  ihave Hq3 := (Entails.of_eq (pts_qRow (F := F) d L qs vq).symm) $$ Hq1
  sl_exec
  ihave HsI := (Entails.of_eq (congrArg (fun g => (sI.view.loc (tile d L) ↦{fullShare} g : sProp (MM F)))
    ((writeI (F := F) d L fi (tile_body.sl.dma0 L vl)).trans (iRow_read (F := F) L vl)))) $$ HsI
  ihave HsQ := (Entails.of_eq (congrArg (fun g => (sQ.view.loc (tile d L) ↦{fullShare} g : sProp (MM F)))
    ((writeQ (F := F) d L fq (tile_body.sl.dma0_1 L vq)).trans (qRow_read (F := F) L vq)))) $$ HsQ
  ihave HsI := (pointsTo_share (PosShare.mem_left_op_right fullShare)).1 $$ HsI
  icases HsI with ⟨HsI1, HsI2⟩
  ihave Ht := (pointsTo_share (PosShare.mem_left_op_right qs)).1 $$ Ht
  icases Ht with ⟨Ht1, Ht2⟩
  have hil : InRange (rows (blk L) vl) := fun y => hin _
  iapply (start_gather d L sA (View.set_whole _) creditA cc0_scratch5.sem inb_S64x128_S1x128_0_0 (0 : Fin 64) rfl qs.left fullShare.left vt
    (rows (blk L) vl) hil fa) $$ [Ht1 HsA HsI1 Hc5]
  · isplitl [Ht1]; · iexact Ht1
    isplitl [HsA]; · iexact HsA
    isplitl [HsI1] <;> iassumption
  iintro HA
  sl_for (invP d L (rows (blk L) vl) (rows (blk L) vq) vt qs O W) $$ [HA Ht2 HsB HsI2 Hc6 HsQ HsO HO]
  case region =>
    intro t1 _
    exact step_pair d L (rows (blk L) vl) (rows (blk L) vq) vt hil qs O W t1
  · unfold invP flyA
    rw [dif_pos (by decide)]
    isplitr; · iexact Hmw
    isplitl [HA]
    · iapply (Entails.of_eq (congrArg (Flying d L sA cc0_scratch5.sem qs.left fullShare.left vt (rows (blk L) vl) (0 : Fin 64)) (writeA d L _ _)))
      iexact HA
    isplitl [Ht2]; · iexact Ht2
    isplitl [HsB]; · iexists _; iexact HsB
    isplitl [HsI2]; · iexact HsI2
    isplitl [Hc6]; · iexact Hc6
    isplitl [HsQ]; · iexact HsQ
    isplitl [HsO]
    · iexists _; isplitr
      swap; · iexact HsO
      ipureintro; exact fun y hy => absurd hy (by omega)
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold invP flyA
  rw [dif_neg (show ¬ k0_t1_loop.trips < 32 by rw [trips1]; decide)]
  icases HI with ⟨-, ⟨Ht1, ⟨%ga, HsA⟩, HsI1, Hc5⟩, Ht2, ⟨%gb, HsB⟩, HsI2, Hc6, HsQ, ⟨%g, %hg, HsO⟩, %W', %hW', HO⟩
  ihave Ht := (pointsTo_share (PosShare.mem_left_op_right qs)).2 $$ [Ht1 Ht2]; · isplitl [Ht1] <;> iassumption
  ihave HsI := (pointsTo_share (PosShare.mem_left_op_right fullShare)).2 $$ [HsI1 HsI2]; · isplitl [HsI1] <;> iassumption
  have hg32 : Done (rows (blk L) vl) (rows (blk L) vq) vt g (512 * 32) := by
    have e := hg
    rw [show Scf.trips k0_t1_loop.lb k0_t1_loop.ub k0_t1_loop.st = 32 from trips1] at e
    exact e
  sl_exec
  sl_step
  isplitl [Hi2 Hq2 Ht Ho']
  · isplitl [Hi2]; · iexact Hi2
    isplitl [Hq2]; · iexact Hq2
    isplitl [Ht]; · iexact Ht
    iapply (Entails.of_eq ((pointsTo_congr (out_block (F := F) L vl vq vt fo g hg32)).trans (pts_oRow (F := F) d L _)))
    iexact Ho'
  isplitl [HsI HsQ HsA HsB HsO Hbufs]
  · isplitl [HsI]; · iexists _; iexact HsI
    isplitl [HsQ]; · iexists _; iexact HsQ
    isplitl [HsA]; · iexists _; iexact HsA
    isplitl [HsB]; · iexists _; iexact HsB
    isplitl [HsO]; · iexists _; iexact HsO
    iexact Hbufs
  isplitl [Hc0 Hc1 Hc2 Hc5 Hc6 Hsems]
  · isplitl [Hc0]; · iexact Hc0
    isplitl [Hc1]; · iexact Hc1
    isplitl [Hc2]; · iexact Hc2
    isplitl [Hc5]; · iexact Hc5
    isplitl [Hc6] <;> iassumption
  iexists _; isplitr
  swap; · iexact HO
  ipureintro; intro p hp
  rcases Finset.mem_insert.mp hp with hp | hp; · exact .inr (hp ▸ rfl)
  exact hW' p hp

end Tile

end Cert.Proof.Dots

end
-- ==== Proof.TopK.lean ====
/-
  Taking the largest entry of a row, at its first place, and taking that place out, round after round: the places taken are
  those a stable sort of the row, greater first, puts first.
-/
module

public import Idealize.ShloMosaic.Lib.SortPrefix
public import Idealize.ShloMosaic.Lib.SortFacts
public import Idealize.ShloMosaic.PureOps.Ideal
public import Idealize.ShloMosaic.Lib.SortNet.Extract

@[expose] public section

noncomputable section

namespace Cert.Proof.Top

open Idealize.ShloMosaic

variable {n : ℕ}

/-- `p` is the first place of the row's largest entry. -/
def First (g : Fin n → EReal) (p : Fin n) : Prop := ∀ q, g q ≤ g p ∧ (g q = g p → p ≤ q)

theorem First.unique {g : Fin n → EReal} {p q : Fin n} (hp : First g p) (hq : First g q) : p = q := by
  have e := le_antisymm (hq p).1 (hp q).1
  exact le_antisymm ((hp q).2 e.symm) ((hq p).2 e)

theorem First.exists (g : Fin n → EReal) (h : 0 < n) : ∃ p, First g p := by
  classical
  haveI : Nonempty (Fin n) := ⟨⟨0, h⟩⟩
  obtain ⟨m, hm⟩ := Finite.exists_max g
  have hne : (Finset.univ.filter fun q => g q = g m).Nonempty := ⟨m, by simp⟩
  refine ⟨(Finset.univ.filter fun q => g q = g m).min' hne, fun q => ?_⟩
  have e : g ((Finset.univ.filter fun q => g q = g m).min' hne) = g m :=
    (Finset.mem_filter.mp (Finset.min'_mem _ hne)).2
  refine ⟨le_of_le_of_eq (hm q) e.symm, fun e' => Finset.min'_le _ _ ?_⟩
  rw [Finset.mem_filter]
  exact ⟨Finset.mem_univ _, e'.trans e⟩

/-- The largest entry, folded from below. -/
theorem First.fold {g : Fin n → EReal} {p : Fin n} (hp : First g p) :
    (Finset.univ : Finset (Fin n)).fold max ⊥ g = g p := by
  refine le_antisymm ?_ ?_
  · exact Finset.fold_max_le (c := g p) |>.mpr ⟨bot_le, fun q _ => (hp q).1⟩
  · exact Finset.le_fold_max (c := g p) |>.mpr (Or.inr ⟨p, Finset.mem_univ _, le_rfl⟩)

/-- The first place, folded over the places that hold the largest entry, any other counting as one past the end. -/
theorem First.fold_min {g : Fin n → EReal} {p : Fin n} (hp : First g p) (hlt : n < 2147483647) (v : Fin n → BitVec 32)
    (hv : ∀ q, v q = if g q = g p then BitVec.ofNat 32 q.val else BitVec.ofNat 32 n) :
    (Finset.univ : Finset (Fin n)).fold IntOp.minsi 2147483647#32 v = BitVec.ofNat 32 p.val := by
  have hn : ∀ k : ℕ, k ≤ n → (BitVec.ofNat 32 k).toInt = k := fun k hk => by
    rw [BitVec.toInt_ofNat', Int.bmod_eq_of_le (by omega) (by omega)]
  have hfold : ∀ s : Finset (Fin n), (∀ q ∈ s, (s.fold IntOp.minsi 2147483647#32 v).toInt ≤ (v q).toInt)
      ∧ (s.fold IntOp.minsi 2147483647#32 v).toInt ≤ (2147483647#32).toInt
      ∧ (s.fold IntOp.minsi 2147483647#32 v = 2147483647#32 ∨ ∃ q ∈ s, s.fold IntOp.minsi 2147483647#32 v = v q) := by
    intro s
    induction s using Finset.induction_on with
    | empty => exact ⟨fun q hq => absurd hq (Finset.notMem_empty q), le_rfl, Or.inl rfl⟩
    | insert a s ha ih =>
      rw [Finset.fold_insert ha]
      obtain ⟨h1, h2, h3⟩ := ih
      rw [SortNet.toInt_minsi]
      refine ⟨fun q hq => ?_, le_trans (min_le_right _ _) h2, ?_⟩
      · rcases Finset.mem_insert.mp hq with rfl | hq
        · exact min_le_left _ _
        · exact le_trans (min_le_right _ _) (h1 q hq)
      · rcases le_total (v a).toInt (s.fold IntOp.minsi 2147483647#32 v).toInt with hle | hle
        · refine Or.inr ⟨a, Finset.mem_insert_self _ _, BitVec.eq_of_toInt_eq ?_⟩
          rw [SortNet.toInt_minsi, min_eq_left hle]
        · have e : IntOp.minsi (v a) (s.fold IntOp.minsi 2147483647#32 v) = s.fold IntOp.minsi 2147483647#32 v :=
            BitVec.eq_of_toInt_eq (by rw [SortNet.toInt_minsi, min_eq_right hle])
          rw [e]
          rcases h3 with h3 | ⟨q, hq, h3⟩
          · exact Or.inl h3
          · exact Or.inr ⟨q, Finset.mem_insert_of_mem hq, h3⟩
  obtain ⟨h1, -, h3⟩ := hfold Finset.univ
  have hp1 := h1 p (Finset.mem_univ _)
  have hpn := p.isLt
  rw [hv p, if_pos rfl, hn _ (by omega)] at hp1
  rcases h3 with h3 | ⟨q, -, h3⟩
  · rw [h3, show (2147483647#32).toInt = 2147483647 from by decide] at hp1
    omega
  · rw [h3] at hp1 ⊢
    rw [hv q] at hp1 ⊢
    by_cases e : g q = g p
    · rw [if_pos e, hn _ (by have := q.isLt; omega)] at hp1
      rw [if_pos e, show q = p from le_antisymm (by exact_mod_cast hp1) ((hp q).2 e)]
    · rw [if_neg e, hn n le_rfl] at hp1
      omega

/-- Greater first, then the earlier place. -/
def ahead (f : Fin n → EReal) (k k' : Fin n) : Bool :=
  decide (f k' < f k) || (decide (f k = f k') && decide (k < k'))

theorem ahead_total (f : Fin n → EReal) : StrictTotalBefore (ahead f) := by
  classical
  have h := StrictTotalBefore.of_key_then_position (fun a b : EReal => decide (b < a)) f (fun a => by simp)
    (fun a b c h₁ h₂ => by simp only [decide_eq_true_eq] at *; exact lt_trans h₂ h₁)
    (fun a b => by simp only [decide_eq_true_eq]; rcases lt_trichotomy a b with h | h | h <;> simp [h])
  convert h using 4
  unfold ahead
  congr

theorem ahead_eq_false {f : Fin n → EReal} {p q : Fin n} (h : f p ≤ f q) (h' : f p = f q → q ≤ p) : ahead f p q = false := by
  unfold ahead
  rw [decide_eq_false (not_lt.mpr h), Bool.false_or]
  by_cases e : f p = f q
  · rw [decide_eq_false (p := p < q) (not_lt.mpr (h' e)), Bool.and_false]
  · rw [decide_eq_false e, Bool.false_and]

/-- Putting an earlier place into a list of later ones, ties do not matter. -/
theorem insert_congr (f : Fin n → EReal) (a : Fin n) : ∀ l : List (Fin n), (∀ b ∈ l, a < b) →
    insertBefore (fun k k' => decide (f k' < f k)) a l = insertBefore (ahead f) a l
  | [], _ => rfl
  | b :: l, h => by
    have e : ahead f b a = decide (f a < f b) := by
      unfold ahead
      rw [decide_eq_false (p := b < a) (not_lt.mpr (le_of_lt (h b List.mem_cons_self))), Bool.and_false, Bool.or_false]
    unfold insertBefore
    rw [e, insert_congr f a l fun c hc => h c (List.mem_cons_of_mem _ hc)]

theorem stableSort_congr (f : Fin n → EReal) : ∀ l : List (Fin n), l.Pairwise (· < ·) →
    stableSort (fun k k' => decide (f k' < f k)) l = stableSort (ahead f) l
  | [], _ => rfl
  | a :: l, h => by
    rw [List.pairwise_cons] at h
    unfold stableSort
    rw [stableSort_congr f l h.2]
    exact insert_congr f a _ fun b hb => h.1 b ((perm_stableSort (ahead f) l).mem_iff.mp hb)

theorem sortedFrom_congr (f : Fin n → EReal) (k : Fin n) :
    sortedFrom (fun k k' => decide (f k' < f k)) k = sortedFrom (ahead f) k := by
  unfold sortedFrom
  rw [List.get_eq_getElem, List.get_eq_getElem]
  have e : sortPositions n (fun k k' => decide (f k' < f k)) = sortPositions n (ahead f) :=
    stableSort_congr f _ (List.pairwise_lt_finRange n)
  simp only [e]
  rfl

section Rounds

variable {f : Fin n → EReal} {g : ℕ → Fin n → EReal} {σ : ℕ → Fin n}

/-- Rounds: the row, its largest entry's first place, the row without it. -/
structure Rounds (f : Fin n → EReal) (g : ℕ → Fin n → EReal) (σ : ℕ → Fin n) : Prop where
  bot : ∀ p, f p ≠ ⊥
  zero : g 0 = f
  first : ∀ k, First (g k) (σ k)
  succ : ∀ k, g (k + 1) = Function.update (g k) (σ k) ⊥

variable (h : Rounds f g σ)
include h

theorem Rounds.kept (k : ℕ) (p : Fin n) (hp : ∀ j < k, σ j ≠ p) : g k p = f p := by
  induction k with
  | zero => rw [h.zero]
  | succ k ih => rw [h.succ, Function.update_of_ne (hp k k.lt_succ_self).symm, ih fun j hj => hp j (Nat.lt_succ_of_lt hj)]

theorem Rounds.gone (k j : ℕ) (hj : j < k) : g k (σ j) = ⊥ := by
  induction k with
  | zero => exact absurd hj (Nat.not_lt_zero _)
  | succ k ih =>
    rw [h.succ]
    by_cases e : σ j = σ k
    · rw [e, Function.update_self]
    · rw [Function.update_of_ne e]
      exact ih (lt_of_le_of_ne (Nat.le_of_lt_succ hj) fun e' => e (by rw [e']))

/-- A round takes a place that no round before it took. -/
theorem Rounds.fresh (k : ℕ) (hk : k < n) (j : ℕ) (hj : j < k) : σ j ≠ σ k := by
  classical
  have hc : ((Finset.range k).image σ).card < (Finset.univ : Finset (Fin n)).card := by
    rw [Finset.card_univ, Fintype.card_fin]
    exact lt_of_le_of_lt Finset.card_image_le (by rw [Finset.card_range]; exact hk)
  obtain ⟨p, _, hp⟩ := Finset.exists_mem_notMem_of_card_lt_card hc
  have hp' : ∀ i < k, σ i ≠ p := fun i hi e => hp (Finset.mem_image.mpr ⟨i, Finset.mem_range.mpr hi, e⟩)
  intro e
  have h1 := (h.first k p).1
  rw [h.kept k p hp', ← e, h.gone k j hj, le_bot_iff] at h1
  exact h.bot p h1

theorem Rounds.value (k : ℕ) (hk : k < n) : g k (σ k) = f (σ k) := h.kept k _ fun j hj => h.fresh k hk j hj

theorem Rounds.not_ahead (k : ℕ) (hk : k < n) (p : Fin n) (hp : ∀ j < k, σ j ≠ p) : ahead f p (σ k) = false := by
  have h1 := h.first k p
  rw [h.kept k p hp, h.value k hk] at h1
  exact ahead_eq_false h1.1 h1.2

/-- The places taken are the sort's first. -/
theorem Rounds.sorted {m : ℕ} (hm : m ≤ n) (i : Fin m) :
    sortedFrom (fun k k' => decide (f k' < f k)) (i.castLE hm) = σ i.val := by
  rw [sortedFrom_congr]
  refine (ahead_total f).sortedFrom_eq_of_prefix hm (fun i : Fin m => σ i.val) ?_ ?_ ?_ i
  · intro i j e
    by_contra hne
    rcases lt_or_gt_of_ne hne with hlt | hgt
    · exact h.fresh j.val (lt_of_lt_of_le j.isLt hm) i.val hlt e
    · exact h.fresh i.val (lt_of_lt_of_le i.isLt hm) j.val hgt e.symm
  · intro i j hij
    refine h.not_ahead i.val (lt_of_lt_of_le i.isLt hm) _ fun l hl => ?_
    exact h.fresh j.val (lt_of_lt_of_le j.isLt hm) l (lt_trans hl hij)
  · intro i p hp
    exact h.not_ahead i.val (lt_of_lt_of_le i.isLt hm) p fun l hl => hp ⟨l, lt_trans hl i.isLt⟩

end Rounds

end Cert.Proof.Top

end
-- ==== Proof.Columns.lean ====
/-
  Sixteen rounds over the rows of a block of 256 rows: a row's largest entry, the first place that holds it, and the row with
  that place taken out. Over the extended reals the columns they leave are the row's entries at the places a stable sort puts
  first, and those places.
-/
module

public import proofs.«01_k».proof.Proof.TopK
public import Idealize.ShloMosaic.Lib.ValueIdx
public import Idealize.ShloMosaic.Lib.Pipeline.Value
public import Idealize.ShloMosaic.PureOps.Ideal.Laws

@[expose] public section

noncomputable section

namespace Cert.Proof.Top

open Idealize.ShloMosaic
open ValueIdx (ix1 ix2 ix3)

/-- A block of 256 rows. -/
abbrev Sh (n : ℕ) : Shape := ⟨2, ![256, n]⟩
/-- A value for each row. -/
abbrev Sr : Shape := ⟨1, ![256]⟩

/-- The shapes of the rounds' operations fit, at rows of `n` entries. -/
structure Wide (n : ℕ) : Prop where
  number : (Sh n).Iotas .tc 32 [1]
  reduce : (Sh n).Reduces [1] Sr
  column : Sr.ShapeCasts (Sh 1)
  spread : (Sh 1).Broadcasts (Sh n)
  beside : Shape.Concatenates [Sh 1, Sh 1, Sh 1, Sh 1, Sh 1, Sh 1, Sh 1, Sh 1, Sh 1, Sh 1, Sh 1, Sh 1, Sh 1, Sh 1, Sh 1, Sh 1] (Sh 16) 1
  small : n < 2147483647

variable {F : FTy → Type} [FloatOps F] {n : ℕ} (h : Wide n)

/-- The column numbers. -/
def cols : IVec (Sh n) 32 := iota .tc (Sh n) 32 [1] h.number

/-- A row's largest entry. -/
def rowmax (x : FVec F (Sh n) .f32) : FVec F Sr .f32 := multiReduction .maximumf [1] Sr x 0xFF800000#32 h.reduce (.inl rfl) rfl
def topv (x : FVec F (Sh n) .f32) : FVec F (Sh 1) .f32 := shapeCast (Sh 1) (rowmax h x) h.column

/-- Where a row holds its largest entry. -/
def eqv (x : FVec F (Sh n) .f32) : IVec (Sh n) 1 := cmpf .oeq x (broadcastTo (Sh n) (topv h x) h.spread)

/-- The numbers of those places, any other counting as one past the end. -/
def firsts (x : FVec F (Sh n) .f32) : IVec (Sh n) 32 := select (eqv h x) (cols h) (broadcast (Sh n) (BitVec.ofNat 32 n))

/-- The first such place. -/
def rowmin (x : FVec F (Sh n) .f32) : IVec Sr 32 := multiReductionI .minsi [1] Sr (firsts h x) 2147483647#32 h.reduce rfl
def topi (x : FVec F (Sh n) .f32) : IVec (Sh 1) 32 := shapeCast (Sh 1) (rowmin h x) h.column

/-- The first place's number in every place of its row. -/
def first (x : FVec F (Sh n) .f32) : IVec (Sh n) 32 := broadcastTo (Sh n) (topi h x) h.spread

/-- The row with that place taken out. -/
def hit (x : FVec F (Sh n) .f32) : IVec (Sh n) 1 := cmpi .eq (cols h) (first h x)
def nextv (x : FVec F (Sh n) .f32) : FVec F (Sh n) .f32 :=
  select (hit h x) (broadcast (Sh n) (Scalar.ofBits .f32 0xFF800000#32)) x

/-- The rows after `k` rounds. -/
def cur (x : FVec F (Sh n) .f32) : ℕ → FVec F (Sh n) .f32
  | 0 => x
  | k + 1 => nextv h (cur x k)

/-- Sixteen columns side by side. -/
def beside {α : Type} (f : ℕ → (Sh 1).Idx → α) : (Sh 16).Idx → α :=
  concatenate (Sh 16) 1 [⟨Sh 1, f 0⟩, ⟨Sh 1, f 1⟩, ⟨Sh 1, f 2⟩, ⟨Sh 1, f 3⟩, ⟨Sh 1, f 4⟩, ⟨Sh 1, f 5⟩, ⟨Sh 1, f 6⟩, ⟨Sh 1, f 7⟩,
    ⟨Sh 1, f 8⟩, ⟨Sh 1, f 9⟩, ⟨Sh 1, f 10⟩, ⟨Sh 1, f 11⟩, ⟨Sh 1, f 12⟩, ⟨Sh 1, f 13⟩, ⟨Sh 1, f 14⟩, ⟨Sh 1, f 15⟩] h.beside

/-- The sixteen largest entries of each row, in order, and their places. -/
def vals (x : FVec F (Sh n) .f32) : FVec F (Sh 16) .f32 := beside h fun k => topv h (cur h x k)
def places (x : FVec F (Sh n) .f32) : IVec (Sh 16) 32 := beside h fun k => topi h (cur h x k)

/-- A row of an array. -/
def line {k m : ℕ} (x : (⟨2, ![k, m]⟩ : Shape).Idx → EReal) (r : Fin k) : Fin m → EReal := fun q => x (ix2 r q)

theorem minusInf : FloatOps.ofBits (F := Ideal) .f32 0xFF800000#32 = (⊥ : EReal) := by
  show Ideal.ofBits .f32 0xFF800000#32 = ⊥
  simp [Ideal.ofBits, Ideal.ieee]

theorem lift_eq (hr : (Sh n).Reduces [1] Sr) (r : Fin 256) (q : Fin n) : hr.lift (ix1 r : Sr.Idx) q = ix2 r q := by
  funext a
  match a with
  | ⟨0, _⟩ => rfl
  | ⟨1, _⟩ => rfl

theorem column_apply {α : Type} (v : Sr.Idx → α) (hc : Sr.ShapeCasts (Sh 1)) (r : Fin 256) :
    shapeCast (Sh 1) v hc (ix2 r (0 : Fin 1)) = v (ix1 r) :=
  shapeCast_apply _ _ _ _ (by rw [Shape.rowMajor_val_one, Shape.rowMajor_val_two]; show r.val = r.val * 1 + 0; omega)

theorem spread_apply {α : Type} (v : (Sh 1).Idx → α) (hb : (Sh 1).Broadcasts (Sh n)) (r : Fin 256) (q : Fin n) :
    broadcastTo (Sh n) v hb (ix2 r q) = v (ix2 r (0 : Fin 1)) :=
  broadcastTo_apply _ _ _ _ (by
    intro a
    match a with
    | ⟨0, _⟩ => rfl
    | ⟨1, _⟩ => rfl)

/-- A row's largest entry, as a column. -/
theorem max_apply (x : FVec Ideal (Sh n) .f32) (hr : (Sh n).Reduces [1] Sr) (hc : Sr.ShapeCasts (Sh 1)) (r : Fin 256) :
    shapeCast (Sh 1) (multiReduction .maximumf [1] Sr x 0xFF800000#32 hr (.inl rfl) rfl) hc (ix2 r (0 : Fin 1))
      = (Finset.univ : Finset (Fin n)).fold max ⊥ (line x r) := by
  rw [column_apply]
  refine (Ideal.multiReduction_maximumf_single _ _ _ _ _ _).trans ?_
  rw [minusInf]
  have e : (x ∘ hr.lift (ix1 r : Sr.Idx)) = line x r := funext fun q => congrArg x (lift_eq hr r q)
  rw [e]
  rfl

section
variable {x : FVec Ideal (Sh n) .f32} {r : Fin 256} {p : Fin n}

theorem topv_apply (hp : First (line x r) p) : topv h x (ix2 r (0 : Fin 1)) = x (ix2 r p) :=
  (max_apply x h.reduce h.column r).trans hp.fold

theorem eqv_apply (hp : First (line x r) p) (q : Fin n) :
    eqv h x (ix2 r q) = if line x r q = line x r p then 1#1 else 0#1 := by
  unfold eqv
  show FloatOps.cmpf .oeq (x (ix2 r q)) (broadcastTo (Sh n) (topv h x) h.spread (ix2 r q)) = _
  rw [spread_apply, topv_apply h hp]
  show BitVec.ofBool (decide (x (ix2 r q) = x (ix2 r p))) = _
  unfold line
  by_cases e : x (ix2 r q) = x (ix2 r p)
  · rw [decide_eq_true e, if_pos e]; rfl
  · rw [decide_eq_false e, if_neg e]; rfl

theorem cols_apply (q : Fin n) : cols h (ix2 r q) = BitVec.ofNat 32 q.val :=
  iota_single_apply .tc (Sh n) 32 1 h.number (ix2 r q)

theorem topi_apply (hp : First (line x r) p) : topi h x (ix2 r (0 : Fin 1)) = BitVec.ofNat 32 p.val := by
  unfold topi rowmin
  rw [column_apply]
  refine (multiReductionI_eq_fold _ _ _ _ _ _).trans ((Shape.Reduces.fold_filter_drop_single _ _ _ _ _).trans ?_)
  refine hp.fold_min h.small _ fun q => ?_
  show firsts h x (h.reduce.lift (ix1 r : Sr.Idx) q) = _
  unfold firsts
  rw [lift_eq, ValueIdx.select_apply, eqv_apply h hp, cols_apply]
  by_cases e : line x r q = line x r p
  · rw [if_pos e, if_pos e]; rfl
  · rw [if_neg e, if_neg e]; rfl

theorem nextv_line (hp : First (line x r) p) : line (nextv h x) r = Function.update (line x r) p ⊥ := by
  funext q
  show select (hit h x) (broadcast (Sh n) (Scalar.ofBits .f32 0xFF800000#32)) x (ix2 r q) = _
  rw [ValueIdx.select_apply]
  have hh : hit h x (ix2 r q) = if q = p then 1#1 else 0#1 := by
    show IntOp.cmpi .eq (cols h (ix2 r q)) (broadcastTo (Sh n) (topi h x) h.spread (ix2 r q)) = _
    rw [spread_apply, topi_apply h hp, cols_apply]
    show BitVec.ofBool (decide (BitVec.ofNat 32 q.val = BitVec.ofNat 32 p.val)) = _
    by_cases e : q = p
    · rw [if_pos e, e, decide_eq_true rfl]; rfl
    · rw [if_neg e, decide_eq_false]; rfl
      intro e'
      have := congrArg BitVec.toNat e'
      rw [BitVec.toNat_ofNat, BitVec.toNat_ofNat] at this
      have hs := h.small
      exact e (Fin.ext (by omega))
  rw [hh]
  by_cases e : q = p
  · rw [if_pos e, e, Function.update_self]; exact minusInf
  · rw [if_neg e, Function.update_of_ne e]; rfl

end

theorem beside_apply {α : Type} (f : ℕ → (Sh 1).Idx → α) (r : Fin 256) (j : Fin 16) :
    beside h f (ix2 r j) = f j.val (ix2 r (0 : Fin 1)) := by
  refine (concatenate_ofFn_unit_apply (t := Sh 16) (s₁ := Sh 1) (1 : Fin 2) (N := 16) (fun k : Fin 16 => f k.val)
    (show Shape.Concatenates ((List.ofFn fun k : Fin 16 => (⟨Sh 1, f k.val⟩ : (s : Shape) × (s.Idx → α))).map (·.1)) (Sh 16) 1 from h.beside)
    rfl rfl (ix2 r j : (Sh 16).Idx) j rfl (ix2 r (0 : Fin 1) : (Sh 1).Idx) ?_)
  intro b hb
  match b with
  | ⟨0, _⟩ => rfl
  | ⟨1, _⟩ => exact absurd rfl hb

/-- The rows after the rounds, and the places taken. -/
theorem rounds_cur (x : FVec Ideal (Sh n) .f32) (r : Fin 256) (hn : 0 < n) (hx : ∀ q, line x r q ≠ ⊥) :
    ∃ σ : ℕ → Fin n, Rounds (line x r) (fun k => line (cur h x k) r) σ := by
  choose σ hσ using fun k => First.exists (line (cur h x k) r) hn
  exact ⟨σ, hx, rfl, hσ, fun k => nextv_line h (hσ k)⟩

theorem vals_apply (x : FVec Ideal (Sh n) .f32) (r : Fin 256) (hn : 16 ≤ n) (hx : ∀ q, line x r q ≠ ⊥) (j : Fin 16) :
    vals h x (ix2 r j) = line x r (sortedFrom (fun k k' => decide (line x r k' < line x r k)) (j.castLE hn)) := by
  obtain ⟨σ, hσ⟩ := rounds_cur h x r (by omega) hx
  unfold vals
  rw [beside_apply, topv_apply h (hσ.first j.val), hσ.sorted]
  exact hσ.value j.val (by have := j.isLt; omega)

theorem places_apply (x : FVec Ideal (Sh n) .f32) (r : Fin 256) (hn : 16 ≤ n) (hx : ∀ q, line x r q ≠ ⊥) (j : Fin 16) :
    places h x (ix2 r j)
      = BitVec.ofNat 32 (sortedFrom (fun k k' => decide (line x r k' < line x r k)) (j.castLE hn)).val := by
  obtain ⟨σ, hσ⟩ := rounds_cur h x r (by omega) hx
  unfold places
  rw [beside_apply, topi_apply h (hσ.first j.val), hσ.sorted]

end Cert.Proof.Top

end
-- ==== Proof.Select.lean ====
/-
  The second call's body as plain functions of the blocks it reads: the weighted softmax, and sixteen rounds over its rows.
-/
module

public import proofs.«01_k».proof.Proof.Columns
public import proofs.«01_k».proof.Proof.Gen.KernelIdeal
public import proofs.«01_k».proof.Proof.Gen.KernelIdeal.Skeleton

@[expose] public section

noncomputable section

namespace Cert.Proof.Dots

open Cert.KernelIdeal Cert.KernelIdeal.Gen
open Idealize.ShloMosaic

variable {F : FTy → Type} [FloatOps F]

/-- The rounds' shapes fit at 256 entries a row. -/
theorem wide : Top.Wide 256 where
  number := iota_S256x256_d1_w32
  reduce := reduces_S256x256_S256
  column := shapeCasts_S256_S256x1
  spread := broadcasts_S256x1_S256x256
  beside := concatenates_S256x1_S256x1_S256x1_S256x1_S256x1_S256x1_S256x1_S256x1_S256x1_S256x1_S256x1_S256x1_S256x1_S256x1_S256x1_S256x1_S256x16_d1
  small := by decide

/-- The rounds at 256 entries a row. -/
abbrev cols : IVec S256x256 32 := Top.cols wide
abbrev rowmax (x : FVec F S256x256 .f32) : FVec F S256 .f32 := Top.rowmax wide x
abbrev topv (x : FVec F S256x256 .f32) : FVec F S256x1 .f32 := Top.topv wide x
abbrev eqv (x : FVec F S256x256 .f32) : IVec S256x256 1 := Top.eqv wide x
abbrev rowmin (x : FVec F S256x256 .f32) : IVec S256 32 := Top.rowmin wide x
abbrev topi (x : FVec F S256x256 .f32) : IVec S256x1 32 := Top.topi wide x
abbrev hit (x : FVec F S256x256 .f32) : IVec S256x256 1 := Top.hit wide x
abbrev cur (x : FVec F S256x256 .f32) (n : ℕ) : FVec F S256x256 .f32 := Top.cur wide x n
abbrev vals (x : FVec F S256x256 .f32) : FVec F S256x16 .f32 := Top.vals wide x
abbrev places (x : FVec F S256x256 .f32) : IVec S256x16 32 := Top.places wide x

/-- Sixteen columns added by halves, three times of the four. -/
def halv8 (v : FVec F S256x16 .f32) : FVec F S256x8 .f32 :=
  addf (extractStridedSlice S256x8 ![0, 0] v slices_S256x16_o0_0_S256x8) (extractStridedSlice S256x8 ![0, 8] v slices_S256x16_o0_8_S256x8)

/-- The entries over their sum. -/
def normed (v : FVec F S256x16 .f32) : FVec F S256x16 .f32 :=
  k1_pay1 v (extractStridedSlice S256x4 ![0, 0] (halv8 v) slices_S256x8_o0_0_S256x4) (extractStridedSlice S256x4 ![0, 4] (halv8 v) slices_S256x8_o0_4_S256x4)

/-- What the body leaves of a block of dots and a block of weights. -/
def fvOut (x : Vec F S256x256 .f32) (w : Vec F S256x16 .f32) : Vec F S256x16 .f32 := normed (vals (k1_pay2 x w))
def fiOut (x : Vec F S256x256 .f32) (w : Vec F S256x16 .f32) : Vec F S256x16 .i32 := places (k1_pay2 x w)

/-! ## The printed values are these -/

section
variable (x : Vec F S256x256 .f32) (w : Vec F S256x16 .f32) (a : FVec F S256x256 .f32) (n : ℕ)

theorem pay3_eq : k1_pay3 x w = topv (cur (k1_pay2 x w) 0) := rfl
theorem pay4_eq : k1_pay4 x w = topi (cur (k1_pay2 x w) 0) := by unfold k1_pay4; rw [pay3_eq]; rfl
theorem pay5_eq : k1_pay5 x w = (cur (k1_pay2 x w) 1) := by unfold k1_pay5; rw [pay4_eq]; rfl
theorem pay6_eq : k1_pay6 x w = topv (cur (k1_pay2 x w) 1) := by unfold k1_pay6; rw [pay5_eq]; rfl
theorem pay7_eq : k1_pay7 x w = eqv (cur (k1_pay2 x w) 1) := by unfold k1_pay7; rw [pay6_eq, pay5_eq]; rfl
theorem pay8_eq : k1_pay8 cols (eqv (cur a n)) 256#32 = topi (cur a n) := rfl
theorem pay9_eq : k1_pay9 cols (cur a n) (eqv (cur a n)) 256#32 = (cur a (n + 1)) := by unfold k1_pay9; rw [pay8_eq]; rfl
theorem pay10_eq : k1_pay10 cols (cur a n) (eqv (cur a n)) 256#32 = topv (cur a (n + 1)) := by unfold k1_pay10; rw [pay9_eq]; rfl
theorem pay11_eq : k1_pay11 cols (cur a n) (eqv (cur a n)) 256#32 = topi (cur a (n + 1)) := by unfold k1_pay11; rw [pay10_eq, pay9_eq]; rfl
theorem pay12_eq : k1_pay12 cols (cur a n) (eqv (cur a n)) 256#32 = (cur a (n + 2)) := by unfold k1_pay12; rw [pay11_eq, pay9_eq]; rfl
theorem pay13_eq : k1_pay13 cols (cur a n) (eqv (cur a n)) 256#32 = topv (cur a (n + 2)) := by unfold k1_pay13; rw [pay12_eq]; rfl
theorem pay14_eq : k1_pay14 cols (cur a n) (eqv (cur a n)) 256#32 = topi (cur a (n + 2)) := by unfold k1_pay14; rw [pay13_eq, pay12_eq]; rfl
theorem pay15_eq : k1_pay15 cols (cur a n) (eqv (cur a n)) 256#32 = (cur a (n + 3)) := by unfold k1_pay15; rw [pay14_eq, pay12_eq]; rfl
theorem pay16_eq : k1_pay16 cols (cur a n) (eqv (cur a n)) 256#32 = topv (cur a (n + 3)) := by unfold k1_pay16; rw [pay15_eq]; rfl
theorem pay17_eq : k1_pay17 cols (cur a n) (eqv (cur a n)) 256#32 = topi (cur a (n + 3)) := by unfold k1_pay17; rw [pay16_eq, pay15_eq]; rfl
theorem pay18_eq : k1_pay18 cols (cur a n) (eqv (cur a n)) 256#32 = (cur a (n + 4)) := by unfold k1_pay18; rw [pay17_eq, pay15_eq]; rfl
theorem pay19_eq : k1_pay19 cols (cur a n) (eqv (cur a n)) 256#32 = rowmax (cur a (n + 4)) := by unfold k1_pay19; rw [pay18_eq]; rfl
theorem pay20_eq : k1_pay20 (rowmax (cur a n)) = topv (cur a n) := rfl
theorem pay21_eq : k1_pay21 cols (cur a n) (rowmax (cur a n)) = topi (cur a n) := by unfold k1_pay21; rw [pay20_eq]; rfl
theorem pay22_eq : k1_pay22 cols (cur a n) (rowmax (cur a n)) = (cur a (n + 1)) := by unfold k1_pay22; rw [pay21_eq]; rfl
theorem pay23_eq : k1_pay23 cols (cur a n) (rowmax (cur a n)) = topv (cur a (n + 1)) := by unfold k1_pay23; rw [pay22_eq]; rfl
theorem pay24_eq : k1_pay24 cols (cur a n) (rowmax (cur a n)) = topi (cur a (n + 1)) := by unfold k1_pay24; rw [pay23_eq, pay22_eq]; rfl
theorem pay25_eq : k1_pay25 cols (cur a n) (rowmax (cur a n)) = (cur a (n + 2)) := by unfold k1_pay25; rw [pay24_eq, pay22_eq]; rfl
theorem pay26_eq : k1_pay26 cols (cur a n) (rowmax (cur a n)) = topv (cur a (n + 2)) := by unfold k1_pay26; rw [pay25_eq]; rfl
theorem pay27_eq : k1_pay27 cols (cur a n) (rowmax (cur a n)) = topi (cur a (n + 2)) := by unfold k1_pay27; rw [pay26_eq, pay25_eq]; rfl
theorem pay28_eq : k1_pay28 cols (cur a n) (rowmax (cur a n)) = (cur a (n + 3)) := by unfold k1_pay28; rw [pay27_eq, pay25_eq]; rfl
theorem pay29_eq : k1_pay29 cols (cur a n) (rowmax (cur a n)) = topv (cur a (n + 3)) := by unfold k1_pay29; rw [pay28_eq]; rfl
theorem pay30_eq : k1_pay30 cols (cur a n) (rowmax (cur a n)) = topi (cur a (n + 3)) := by unfold k1_pay30; rw [pay29_eq, pay28_eq]; rfl
theorem pay31_eq : k1_pay31 cols (cur a n) (rowmax (cur a n)) = hit (cur a (n + 3)) := by unfold k1_pay31; rw [pay30_eq]; rfl
theorem pay32_eq : k1_pay32 (cur a n) (hit (cur a n)) (Scalar.ofBits .f32 0xFF800000#32) = (cur a (n + 1)) := rfl
theorem pay33_eq : k1_pay33 (cur a n) (hit (cur a n)) (Scalar.ofBits .f32 0xFF800000#32) = topv (cur a (n + 1)) := by unfold k1_pay33; rw [pay32_eq]; rfl
theorem pay34_eq : k1_pay34 cols (cur a n) (hit (cur a n)) (Scalar.ofBits .f32 0xFF800000#32) = topi (cur a (n + 1)) := by unfold k1_pay34; rw [pay33_eq, pay32_eq]; rfl
theorem pay35_eq : k1_pay35 cols (cur a n) (hit (cur a n)) (Scalar.ofBits .f32 0xFF800000#32) = (cur a (n + 2)) := by unfold k1_pay35; rw [pay34_eq, pay32_eq]; rfl
theorem pay36_eq : k1_pay36 cols (cur a n) (hit (cur a n)) (Scalar.ofBits .f32 0xFF800000#32) = topv (cur a (n + 2)) := by unfold k1_pay36; rw [pay35_eq]; rfl
theorem pay37_eq : k1_pay37 cols (cur a n) (hit (cur a n)) (Scalar.ofBits .f32 0xFF800000#32) = topi (cur a (n + 2)) := by unfold k1_pay37; rw [pay36_eq, pay35_eq]; rfl
theorem pay38_eq : k1_pay38 cols (cur a n) (hit (cur a n)) (Scalar.ofBits .f32 0xFF800000#32) = (cur a (n + 3)) := by unfold k1_pay38; rw [pay37_eq, pay35_eq]; rfl
theorem pay39_eq : k1_pay39 cols (cur a n) (hit (cur a n)) (Scalar.ofBits .f32 0xFF800000#32) = topv (cur a (n + 3)) := by unfold k1_pay39; rw [pay38_eq]; rfl
theorem pay40_eq : k1_pay40 cols (cur a n) (hit (cur a n)) (Scalar.ofBits .f32 0xFF800000#32) = topi (cur a (n + 3)) := by unfold k1_pay40; rw [pay39_eq, pay38_eq]; rfl
theorem pay41_eq : k1_pay41 cols (cur a n) (hit (cur a n)) (Scalar.ofBits .f32 0xFF800000#32) = (cur a (n + 4)) := by unfold k1_pay41; rw [pay40_eq, pay38_eq]; rfl
theorem pay42_eq : k1_pay42 cols (cur a n) (hit (cur a n)) (Scalar.ofBits .f32 0xFF800000#32) = topv (cur a (n + 4)) := by unfold k1_pay42; rw [pay41_eq]; rfl
theorem pay43_eq : k1_pay43 cols (cur a n) (hit (cur a n)) (Scalar.ofBits .f32 0xFF800000#32) = rowmin (cur a (n + 4)) := by unfold k1_pay43; rw [pay42_eq, pay41_eq]; rfl
theorem pay44_eq : k1_pay44 (rowmin (cur a n)) = topi (cur a n) := rfl
theorem pay45_eq : k1_pay45 cols (cur a n) (rowmin (cur a n)) = (cur a (n + 1)) := by unfold k1_pay45; rw [pay44_eq]; rfl
theorem pay46_eq : k1_pay46 cols (cur a n) (rowmin (cur a n)) = topv (cur a (n + 1)) := by unfold k1_pay46; rw [pay45_eq]; rfl
theorem pay47_eq : k1_pay47 cols (cur a n) (rowmin (cur a n)) = topi (cur a (n + 1)) := by unfold k1_pay47; rw [pay46_eq, pay45_eq]; rfl
theorem pay48_eq : k1_pay48 cols (cur a n) (rowmin (cur a n)) = (cur a (n + 2)) := by unfold k1_pay48; rw [pay47_eq, pay45_eq]; rfl
theorem pay49_eq : k1_pay49 cols (cur a n) (rowmin (cur a n)) = topv (cur a (n + 2)) := by unfold k1_pay49; rw [pay48_eq]; rfl
theorem pay50_eq : k1_pay50 cols (cur a n) (rowmin (cur a n)) = topi (cur a (n + 2)) := by unfold k1_pay50; rw [pay49_eq, pay48_eq]; rfl
theorem pay51_eq : k1_pay51 cols (cur a n) (rowmin (cur a n)) = (cur a (n + 3)) := by unfold k1_pay51; rw [pay50_eq, pay48_eq]; rfl
theorem pay52_eq : k1_pay52 cols (cur a n) (rowmin (cur a n)) = topv (cur a (n + 3)) := by unfold k1_pay52; rw [pay51_eq]; rfl
end

theorem cols_eq : iota .tc S256x256 32 [1] iota_S256x256_d1_w32 = cols := rfl

end Cert.Proof.Dots

end
-- ==== Proof.Region.lean ====
/-
  The second call as a region of @main: its body run block by block, and the arrays it leaves.
-/
module

public import proofs.«01_k».proof.Proof.Base
public import proofs.«01_k».proof.Proof.Select
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.Pipeline.FrameBody
public import Idealize.ShloMosaic.Lib.VecWindow
public import Idealize.ShloMosaic.Lib.Pipeline.ValueKit.Basic
public import Idealize.ShloMosaic.Lib.ValueIdx

@[expose] public section

noncomputable section

namespace Cert.Proof.Dots

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A staging buffer's contents on core `c`, and it held whole. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp (MM F) :=
  M.view.loc (c : Thread nD τ) ↦{fullShare} f

/-! ## The body -/

theorem p4_run (c : Dev nD) (i : grid1.Coords) (M0 : Memref sig .tc .vmem S256x256 .f32) (h0 : M0.IsWhole) (M1 : Memref sig .tc .vmem S256x16 .f32) (h1 : M1.IsWhole)
    (M2 : Memref sig .tc .vmem S256x16 .f32) (h2 : M2.IsWhole) (M3 : Memref sig .tc .vmem S256x16 .i32) (h3 : M3.IsWhole)
    (f0 : Bf F c M0) (f1 : Bf F c M1) (f2 : Bf F c M2) (f3 : Bf F c M3) (E : Set ℕ) (Q : PUnit → sProp (MM F)) :
    iprop(pt c M0 f0 ∗ pt c M1 f1 ∗ pt c M2 f2 ∗ pt c M3 f3
        ∗ (iprop(pt c M0 f0 ∗ pt c M1 f1
          ∗ (∃ g, ⌜M2.view.read (Elt F) g = fvOut (M0.view.read (Elt F) f0) (M1.view.read (Elt F) f1)⌝ ∗ pt c M2 g)
          ∗ (∃ g, ⌜M3.view.read (Elt F) g = fiOut (M0.view.read (Elt F) f0) (M1.view.read (Elt F) f1)⌝ ∗ pt c M3 g)) -∗ Q ⟨⟩))
      ⊢ wp frame (wpE (defs₀ (F := F)) Variants.none c none) E (cc1__p4_body i M0 h0 M1 h1 M2 h2 M3 h3) Q := by
  have e0 : M0.view.readAt (Elt F) (Rect.unit (s := S256x256) ![0, 0] S256x256.size inb_S256x256_S256x256_0_0).toLoadRect f0 = M0.view.read (Elt F) f0 :=
    View.readAt_full _ _ _
  have e1 : M1.view.readAt (Elt F) (Rect.unit (s := S256x16) ![0, 0] S256x16.size inb_S256x16_S256x16_0_0).toLoadRect f1 = M1.view.read (Elt F) f1 :=
    View.readAt_full _ _ _
  iintro ⟨H0, H1, H2, H3, Hk⟩
  rw [cc1__p4_body_eq_skeleton]; unfold cc1__p4_body_skel
  rw [k1_part1_eq_skeleton, k1_part2_eq_skeleton, k1_part3_eq_skeleton, k1_part4_eq_skeleton, k1_part5_eq_skeleton]
  unfold k1_part1_skel k1_part2_skel k1_part3_skel k1_part4_skel k1_part5_skel
  sl_exec!
  sl_step
  iapply Hk
  isplitl [H0]; · iexact H0
  isplitl [H1]; · iexact H1
  isplitl [H2]
  · iexists _; isplitr; swap; (· iexact H2); ipureintro
    unfold p4_run.sl.H2_1
    rw [View.read_writes_junk_eq_canon, View.canon_cons_unit_lit _ _ _ (by decide)]
    generalize M0.view.read (Elt F) f0 = x
    generalize M1.view.read (Elt F) f1 = w
    simp only [show p4_run.sl.v30 = cols from rfl, show p4_run.sl.cst_38 (F := F) = Scalar.ofBits .f32 0xFF800000#32 from rfl, pay3_eq, pay4_eq, pay5_eq, pay6_eq, pay7_eq, pay8_eq, pay10_eq, pay11_eq, pay13_eq, pay14_eq, pay16_eq, pay17_eq, pay18_eq, pay19_eq, pay20_eq, pay21_eq, pay23_eq, pay24_eq, pay26_eq, pay27_eq, pay28_eq, pay29_eq, pay30_eq, pay31_eq, pay33_eq, pay34_eq, pay36_eq, pay37_eq, pay39_eq, pay40_eq, pay41_eq, pay42_eq, pay43_eq]
    unfold k1_pay57 k1_pay56 k1_pay55 k1_pay53
    simp only [pay46_eq, pay49_eq, pay52_eq]
    unfold fvOut normed vals halv8 Top.vals Top.beside
    simp only [Nat.reduceAdd]
    rfl
  · iexists _; isplitr; swap; (· iexact H3); ipureintro
    unfold p4_run.sl.H3_1
    rw [View.read_writes_junk_eq_canon, View.canon_cons_unit_lit _ _ _ (by decide)]
    generalize M0.view.read (Elt F) f0 = x
    generalize M1.view.read (Elt F) f1 = w
    simp only [show p4_run.sl.v30 = cols from rfl, show p4_run.sl.cst_38 (F := F) = Scalar.ofBits .f32 0xFF800000#32 from rfl, pay3_eq, pay4_eq, pay5_eq, pay6_eq, pay7_eq, pay8_eq, pay10_eq, pay11_eq, pay13_eq, pay14_eq, pay16_eq, pay17_eq, pay18_eq, pay19_eq, pay20_eq, pay21_eq, pay23_eq, pay24_eq, pay26_eq, pay27_eq, pay28_eq, pay29_eq, pay30_eq, pay31_eq, pay33_eq, pay34_eq, pay36_eq, pay37_eq, pay39_eq, pay40_eq, pay41_eq, pay42_eq, pay43_eq]
    unfold k1_pay54
    simp only [pay44_eq, pay47_eq, pay50_eq, pay51_eq, pay52_eq]
    unfold fiOut places Top.places Top.beside
    simp only [Nat.reduceAdd]
    rfl

/-! ## The proof data, at an entry valuation -/

variable (V : (c : Dev nD) → (b : Ref sig .tc) → Buf (Elt F) ((c : Thread nD τ).loc b))

/-- The block of the dots, and of the weights, that point `t` works on. -/
abbrev blkX (c : Dev nD) (t : Fin cfg1.N) : S256x256.Idx → F .f32 := ((cfg1.win 0).blk t).view.read (Elt F) (V c main_v11)
abbrev blkW (c : Dev nD) (t : Fin cfg1.N) : S256x16.Idx → F .f32 := ((cfg1.win 1).blk t).view.read (Elt F) (V c main_arg1)

/-- The waits the core may have recorded before the call. -/
def waited (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => blkX V c t
    | ⟨1, _⟩ => blkW V c t
    | ⟨2, _⟩ => fvOut (blkX V c t) (blkW V c t)
    | ⟨3, _⟩ => fiOut (blkX V c t) (blkW V c t)
  Φ _ := Pipeline.scopedRest (Ix := HIx 1) (Name := ℕ) (U := UU) (Lvl := ℕ) (Val := Elt F) spec1 c
  q _ := fullShare
  owed _ := 0
  recorded _ := waited (F := F) c

abbrev adm : (p : Fin 1) → (pcfgs (F := F) p).Adm := fun q => (cfgs q).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (t : Fin cfg1.N) (d : (cfg1.win 0).block.Idx → Elt F (cfg1.win 0).elt) : (dat V c).before 0 t d = blkX V c t :=
  ((dat V c).before_fetched 0 t (fetch1_0 t) d).trans rfl

theorem before_1 (c : Dev nD) (t : Fin cfg1.N) (d : (cfg1.win 1).block.Idx → Elt F (cfg1.win 1).elt) : (dat V c).before 1 t d = blkW V c t :=
  ((dat V c).before_fetched 1 t (fetch1_1 t) d).trans rfl

theorem owns_pt (c : Dev nD) {sp : Space} {S : Shape} {e : EltTy} (M : Memref sig .tc sp S e) (h : M.IsWhole) (X : S.Idx → Elt F e) :
    (owns (c : Thread nD τ) M fullShare X : sProp (MM F)) = iprop(∃ f : Bf F c M, ⌜M.view.read (Elt F) f = X⌝ ∗ pt c M f) := by
  unfold owns; rw [Memref.IsWhole.set_eq_univ h]

theorem body_obligation (c : Dev nD) : BodyObligation (dat V c) (defs₀ (F := F)) 𝒱₀ none Set.univ := fun t => by
  rw [bigSep_W1, bigSep_W1]
  have o0 := fun X => owns_pt (F := F) c (st1_0 t) (hstage1_0 ((cfg1.slots t 0).cast nbuf1_0)) X
  have o1 := fun X => owns_pt (F := F) c (st1_1 t) (hstage1_1 ((cfg1.slots t 1).cast nbuf1_1)) X
  have o2 := fun X => owns_pt (F := F) c (st1_2 t) (hstage1_2 ((cfg1.slots t 2).cast nbuf1_2)) X
  have o3 := fun X => owns_pt (F := F) c (st1_3 t) (hstage1_3 ((cfg1.slots t 3).cast nbuf1_3)) X
  simp only [o0, o1, o2, o3]
  rw [show (dat V c).Φ t.succ = (dat V c).Φ t.castSucc from rfl, show (dat V c).owesAt none t.succ = (dat V c).owesAt none t.castSucc from rfl]
  iintro ⟨HΦ, Howes, ⟨%d0, %f0, %hf0, H0⟩, ⟨%d1, %f1, %hf1, H1⟩, ⟨%d2, %f2, -, H2⟩, ⟨%d3, %f3, -, H3⟩⟩
  rw [before_0] at hf0
  rw [before_1] at hf1
  iapply (p4_run c (grid1.coords t) (st1_0 t) _ (st1_1 t) _ (st1_2 t) _ (st1_3 t) _ f0 f1 f2 f3 Set.univ _)
  isplitl [H0]; · iexact H0
  isplitl [H1]; · iexact H1
  isplitl [H2]; · iexact H2
  isplitl [H3]; · iexact H3
  iintro ⟨H0, H1, ⟨%g2, %hg2, H2⟩, ⟨%g3, %hg3, H3⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists g2; isplitr; swap; (· iexact H2); ipureintro; exact hg2.trans (by rw [hf0, hf1]; rfl)
  iexists g3; isplitr; swap; (· iexact H3); ipureintro; exact hg3.trans (by rw [hf0, hf1]; rfl)

/-! ## The region over the thread state -/

/-- The arrays after the call: the two results as the write-backs leave them. -/
def fvArr (c : Dev nD) : Buf (Elt F) ((c : Thread nD τ).loc main_v12_0) := (dat V c).arrAt 2 cfg1.N
def fiArr (c : Dev nD) : Buf (Elt F) ((c : Thread nD τ).loc main_v12_1) := (dat V c).arrAt 3 cfg1.N

variable (Vp : (c : Dev nD) → (b : Ref sig .tc) → Buf (Elt F) ((c : Thread nD τ).loc b))

/-- The core owes nothing and has recorded only waits of the calls before. -/
abbrev idle (c : Dev nD) : sProp (MM F) :=
  iprop(∃ W, ⌜(K (F := F)).WBelow (SparseCore.T c) W 8⌝ ∗ owes (c : Thread nD τ) (0 : CellTallies nD τ sig (HIx 1)) W)

set_option backward.isDefEq.respectTransparency.types false in
def reg (h2 : ∀ c, Vp c main_v12_0 = fvArr V c) (h3 : ∀ c, Vp c main_v12_1 = fiArr V c)
    (hne : ∀ c (b : Ref sig .tc), b ≠ main_v12_0 → b ≠ main_v12_1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v11 (by decide) (by decide)).symm
        · exact ((pdats V 0 c).arrAt_in 1 rfl _).trans (hne c main_arg1 (by decide) (by decide)).symm
        · exact (h2 c).symm
        · exact (h3 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le 8
    iexact HO

/-! ## The arrays, block by block -/

omit [FloatOps F]

/-- Row `r` of block `t`, and the point that works on the block. -/
def blkRow (t : Fin 8) (r : Fin 256) : Fin 2048 := ⟨256 * t.val + r.val, by omega⟩
def pnt (t : Fin 8) : Fin cfg1.N := Fin.cast N_1.symm t

theorem coords_pnt : ∀ t : Fin 8, (grid1.coords (pnt t) 0).val = t.val := by decide

theorem emb_0 (t : Fin 8) (r : Fin 256) (j : Fin 256) :
    ((cfg1.win 0).blk (pnt t)).view.emb (ValueIdx.ix2 r j) = ValueIdx.ix2 (blkRow t r) j := by
  funext a
  refine Fin.ext ((Pipeline.Window.rect_emb_val win1_0 (pnt t) (ValueIdx.ix2 r j) a).trans ?_)
  fin_cases a
  · show (BitVec.ofNat 32 (grid1.coords (pnt t) 0).val).toNat * 256 + r.val = 256 * t.val + r.val
    rw [coords_pnt, BitVec.toNat_ofNat]; omega
  · show 0 * 256 + j.val = j.val
    omega

theorem emb_1 (t : Fin 8) (r : Fin 256) (j : Fin 16) :
    ((cfg1.win 1).blk (pnt t)).view.emb (ValueIdx.ix2 r j) = ValueIdx.ix2 (blkRow t r) j := by
  funext a
  refine Fin.ext ((Pipeline.Window.rect_emb_val win1_1 (pnt t) (ValueIdx.ix2 r j) a).trans ?_)
  fin_cases a
  · show (BitVec.ofNat 32 (grid1.coords (pnt t) 0).val).toNat * 256 + r.val = 256 * t.val + r.val
    rw [coords_pnt, BitVec.toNat_ofNat]; omega
  · show 0 * 16 + j.val = j.val
    omega

theorem emb_2 (t : Fin 8) (r : Fin 256) (j : Fin 16) :
    ((cfg1.win 2).blk (pnt t)).view.emb (ValueIdx.ix2 r j) = ValueIdx.ix2 (blkRow t r) j := by
  funext a
  refine Fin.ext ((Pipeline.Window.rect_emb_val win1_2 (pnt t) (ValueIdx.ix2 r j) a).trans ?_)
  fin_cases a
  · show (BitVec.ofNat 32 (grid1.coords (pnt t) 0).val).toNat * 256 + r.val = 256 * t.val + r.val
    rw [coords_pnt, BitVec.toNat_ofNat]; omega
  · show 0 * 16 + j.val = j.val
    omega

theorem emb_3 (t : Fin 8) (r : Fin 256) (j : Fin 16) :
    ((cfg1.win 3).blk (pnt t)).view.emb (ValueIdx.ix2 r j) = ValueIdx.ix2 (blkRow t r) j := by
  funext a
  refine Fin.ext ((Pipeline.Window.rect_emb_val win1_3 (pnt t) (ValueIdx.ix2 r j) a).trans ?_)
  fin_cases a
  · show (BitVec.ofNat 32 (grid1.coords (pnt t) 0).val).toNat * 256 + r.val = 256 * t.val + r.val
    rw [coords_pnt, BitVec.toNat_ofNat]; omega
  · show 0 * 16 + j.val = j.val
    omega

/-- Block `t` of an array of rows of `n` entries. -/
def blockOf {α : Type} {n : ℕ} (t : Fin 8) (f : (⟨2, ![2048, n]⟩ : Shape).Idx → α) : (⟨2, ![256, n]⟩ : Shape).Idx → α :=
  fun y => f (ValueIdx.ix2 (blkRow t (y 0)) (y 1))

theorem blkX_eq (c : Dev nD) (t : Fin 8) : blkX V c (pnt t) = blockOf t (V c main_v11 : S2048x256.Idx → F .f32) := by
  funext y
  have e : y = ValueIdx.ix2 (y 0 : Fin 256) (y 1 : Fin 256) := by funext a; fin_cases a <;> rfl
  rw [e]; exact congrArg (V c main_v11) (emb_0 t (y 0) (y 1))

theorem blkW_eq (c : Dev nD) (t : Fin 8) : blkW V c (pnt t) = blockOf t (V c main_arg1 : S2048x16.Idx → F .f32) := by
  funext y
  have e : y = ValueIdx.ix2 (y 0 : Fin 256) (y 1 : Fin 16) := by funext a; fin_cases a <;> rfl
  rw [e]; exact congrArg (V c main_arg1) (emb_1 t (y 0) (y 1))

theorem pnt_surj (t : Fin cfg1.N) : ∃ t', t = pnt t' := ⟨Fin.cast N_1 t, rfl⟩

theorem blkRow_inj {t t' : Fin 8} {r r' : Fin 256} (h : blkRow t r = blkRow t' r') : t = t' := by
  have := congrArg Fin.val h; simp only [blkRow] at this; omega

theorem disj_2 (t t' : Fin cfg1.N) (_ : (cfg1.win 2).flush t = true) (_ : (cfg1.win 2).flush t' = true) (h : t ≠ t') :
    Disjoint ((cfg1.win 2).blk t).view.set ((cfg1.win 2).blk t').view.set := by
  obtain ⟨t, rfl⟩ := pnt_surj t; obtain ⟨t', rfl⟩ := pnt_surj t'
  refine Finset.disjoint_left.mpr fun i hi hi' => h ?_
  obtain ⟨y, -, rfl⟩ := Finset.mem_map.mp hi
  obtain ⟨y', -, he⟩ := Finset.mem_map.mp hi'
  have e : y = ValueIdx.ix2 (y 0 : Fin 256) (y 1 : Fin 16) := by funext a; fin_cases a <;> rfl
  have e' : y' = ValueIdx.ix2 (y' 0 : Fin 256) (y' 1 : Fin 16) := by funext a; fin_cases a <;> rfl
  have h' := (emb_2 t' (y' 0) (y' 1)).symm.trans (((congrArg ((cfg1.win 2).blk (pnt t')).view.emb e').symm.trans
    (he.trans (congrArg ((cfg1.win 2).blk (pnt t)).view.emb e))).trans (emb_2 t (y 0) (y 1)))
  rw [blkRow_inj (congrFun h' 0)]

theorem disj_3 (t t' : Fin cfg1.N) (_ : (cfg1.win 3).flush t = true) (_ : (cfg1.win 3).flush t' = true) (h : t ≠ t') :
    Disjoint ((cfg1.win 3).blk t).view.set ((cfg1.win 3).blk t').view.set := by
  obtain ⟨t, rfl⟩ := pnt_surj t; obtain ⟨t', rfl⟩ := pnt_surj t'
  refine Finset.disjoint_left.mpr fun i hi hi' => h ?_
  obtain ⟨y, -, rfl⟩ := Finset.mem_map.mp hi
  obtain ⟨y', -, he⟩ := Finset.mem_map.mp hi'
  have e : y = ValueIdx.ix2 (y 0 : Fin 256) (y 1 : Fin 16) := by funext a; fin_cases a <;> rfl
  have e' : y' = ValueIdx.ix2 (y' 0 : Fin 256) (y' 1 : Fin 16) := by funext a; fin_cases a <;> rfl
  have h' := (emb_3 t' (y' 0) (y' 1)).symm.trans (((congrArg ((cfg1.win 3).blk (pnt t')).view.emb e').symm.trans
    (he.trans (congrArg ((cfg1.win 3).blk (pnt t)).view.emb e))).trans (emb_3 t (y 0) (y 1)))
  rw [blkRow_inj (congrFun h' 0)]

/-- Row `r` of block `t` of the results. -/
theorem fvArr_apply [FloatOps F] (c : Dev nD) (t : Fin 8) (r : Fin 256) (j : Fin 16) :
    (fvArr V c : S2048x16.Idx → F .f32) (ValueIdx.ix2 (blkRow t r) j)
      = fvOut (blockOf t (V c main_v11 : S2048x256.Idx → F .f32)) (blockOf t (V c main_arg1 : S2048x16.Idx → F .f32)) (ValueIdx.ix2 r j) := by
  have h := Dat.arrAt_emb_eq_flushed (dat V c) 2 disj_2 (pnt t) (flush1_2 _) (ValueIdx.ix2 r j)
  rw [emb_2] at h
  rw [← blkX_eq, ← blkW_eq]
  exact h

theorem fiArr_apply [FloatOps F] (c : Dev nD) (t : Fin 8) (r : Fin 256) (j : Fin 16) :
    (fiArr V c : S2048x16.Idx → BitVec 32) (ValueIdx.ix2 (blkRow t r) j)
      = fiOut (blockOf t (V c main_v11 : S2048x256.Idx → F .f32)) (blockOf t (V c main_arg1 : S2048x16.Idx → F .f32)) (ValueIdx.ix2 r j) := by
  have h := Dat.arrAt_emb_eq_flushed (dat V c) 3 disj_3 (pnt t) (flush1_3 _) (ValueIdx.ix2 r j)
  rw [emb_3] at h
  rw [← blkX_eq, ← blkW_eq]
  exact h

end Cert.Proof.Dots

end
-- ==== Proof.Launch.lean ====
/-
  The launch: @main's host operations, the SparseCore call on two cores of sixteen tiles, the call after it, and the
  whole program's run.
  The index lists, the queries and the table go to the thirty-two tiles as shares, the result as blocks of rows.
-/
module

public import proofs.«01_k».proof.Proof.Tile
public import proofs.«01_k».proof.Proof.Region
public import Idealize.ShloMosaic.Lib.ShareLeaves
public import Idealize.ShloMosaic.Lib.Pipeline.Frame
public import Idealize.ShloMosaic.Lib.StableHlo.RunRead

@[expose] public section

noncomputable section

namespace Cert.Proof.Dots

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_seq after seq)
open Idealize.ShloMosaic.Tactic

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations -/

/-- @main's operations before the call: the table and the index lists from the arguments. -/
def hostOps : List (HloOp τ sig (Elt F)) :=
  [StableHlo.unary main_arg3 main_v0 ((transpose S4096x128x16 [0, 2, 1] · transposes_S4096x16x128_S4096x128x16_0_2_1) : (⟨S4096x16x128, .f32⟩ : BufTy).Contents (Elt F) → (⟨S4096x128x16, .f32⟩ : BufTy).Contents (Elt F)),
    StableHlo.reshape main_v0 main_v1 (rfl : (.f32 : EltTy) = .f32) shapeCasts_S4096x128x16_S32768x2x128,
    StableHlo.unary main_arg0 main_v2 (broadcastInDim S2048x16x1 ![0, 1] bcast_S2048x16_S2048x16x1_0_1 : (⟨S2048x16, .i32⟩ : BufTy).Contents (Elt F) → (⟨S2048x16x1, .i32⟩ : BufTy).Contents (Elt F)),
    StableHlo.nullary main_c (constantI S_ 32 8#32),
    StableHlo.unary main_c main_v3 (broadcastInDim S2048x16x1 ![] bcast_S_S2048x16x1 : (⟨S_, .i32⟩ : BufTy).Contents (Elt F) → (⟨S2048x16x1, .i32⟩ : BufTy).Contents (Elt F)),
    StableHlo.binary main_v2 main_v3 main_v4 (muli : (⟨S2048x16x1, .i32⟩ : BufTy).Contents (Elt F) → (⟨S2048x16x1, .i32⟩ : BufTy).Contents (Elt F) → (⟨S2048x16x1, .i32⟩ : BufTy).Contents (Elt F)),
    StableHlo.nullary main_v5 (iotaInDim S8 32 0),
    StableHlo.unary main_v5 main_v6 (broadcastInDim S1x1x8 ![2] bcast_S8_S1x1x8_2 : (⟨S8, .i32⟩ : BufTy).Contents (Elt F) → (⟨S1x1x8, .i32⟩ : BufTy).Contents (Elt F)),
    StableHlo.unary main_v4 main_v7 (broadcastInDim S2048x16x8 ![0, 1, 2] bcast_S2048x16x1_S2048x16x8_0_1_2 : (⟨S2048x16x1, .i32⟩ : BufTy).Contents (Elt F) → (⟨S2048x16x8, .i32⟩ : BufTy).Contents (Elt F)),
    StableHlo.unary main_v6 main_v8 (broadcastInDim S2048x16x8 ![0, 1, 2] bcast_S1x1x8_S2048x16x8_0_1_2 : (⟨S1x1x8, .i32⟩ : BufTy).Contents (Elt F) → (⟨S2048x16x8, .i32⟩ : BufTy).Contents (Elt F)),
    StableHlo.binary main_v7 main_v8 main_v9 (addi : (⟨S2048x16x8, .i32⟩ : BufTy).Contents (Elt F) → (⟨S2048x16x8, .i32⟩ : BufTy).Contents (Elt F) → (⟨S2048x16x8, .i32⟩ : BufTy).Contents (Elt F)),
    StableHlo.reshape main_v9 main_v10 (rfl : (.i32 : EltTy) = .i32) shapeCasts_S2048x16x8_S2048x128]

/-- The call after the SparseCore's, in the program's signature and in the kernel's. -/
abbrev call1 : Prog (TpuEff nD τ sig (Elt F) (ΛP (F := F)) .tc) PUnit := .op (.customCall (Pipeline.entry 0) ()) .ret

theorem main_eq (d : Dev nD) : main (F := F) d = seq hostOps >>= fun _ => (K (F := F)).run d 0 >>= fun _ => SparseCore.liftProg call1 >>= fun _ => pure ⟨⟩ := by
  rw [StableHlo.seq_bind_seqK]; rfl

variable (m : (ℓ : Loc nD τ sig) → Buf (Elt F) ℓ) (ρ : Dev nD → PrngReg)

/-- The arrays as the call finds them. -/
def VH (d : Dev nD) : Valuation τ sig (Elt F) := after hostOps fun b => m (d, b)

abbrev rI : DevRef τ sig := Proc.devRef .tc (main_v10 : Ref sig .tc)
abbrev rQ : DevRef τ sig := Proc.devRef .tc (main_arg2 : Ref sig .tc)
abbrev rT : DevRef τ sig := Proc.devRef .tc (main_v1 : Ref sig .tc)
abbrev rO : DevRef τ sig := Proc.devRef .tc (main_v11 : Ref sig .tc)

/-- The index lists, the queries and the table the call finds. -/
def vl (d : Dev nD) : S2048x128.Idx → BitVec 32 := VH m d rI
def vq (d : Dev nD) : S2048x128.Idx → F .f32 := VH m d rQ
def vt (d : Dev nD) : S32768x2x128.Idx → F .f32 := VH m d rT

/-- The dots the call leaves. -/
def res (d : Dev nD) : S2048x256.Idx → F .f32 := outv (vl m d) (vq m d) (vt m d)

/-- What the proof asks of the launch memory: every entry of the index lists names a row of the table. -/
def PreOK : Prop := ∀ (d : Dev nD) (y : S2048x128.Idx), (vl m d y).toNat < 32768

/-- The arrays after the SparseCore call, and at the end. -/
def VD (d : Dev nD) : Valuation τ sig (Elt F) := Function.update (VH m d) rO (res m d)

abbrev rV : DevRef τ sig := Proc.devRef .tc (main_v12_0 : Ref sig .tc)
abbrev rW : DevRef τ sig := Proc.devRef .tc (main_v12_1 : Ref sig .tc)

/-- The second call's operands, as its core finds them. -/
abbrev VB (d : Dev nD) (b : Ref sig .tc) : Buf (Elt F) ((SparseCore.T d : Thread nD τ).loc b) := VD m d (Proc.devRef .tc b)

def VF (d : Dev nD) : Valuation τ sig (Elt F) := Function.update (Function.update (VD m d) rV (fvArr (VB m) d)) rW (fiArr (VB m) d)

/-! ## What the call takes and gives back -/

/-- Block `b`'s share of the operands and its rows of the result, at `f`. -/
def blkRes (d : Dev nD) (b : Fin 32) (f : S2048x256.Idx → F .f32) : sProp (MM F) :=
  iprop((iLoc d ↦{ShareLeaves.leaf 5 fullShare b} vl m d) ∗ (qLoc d ↦{ShareLeaves.leaf 5 fullShare b} vq m d)
    ∗ (tLoc d ↦{ShareLeaves.leaf 5 fullShare b} vt m d) ∗ (oLoc d ↦[oSet b]{fullShare} f))

instance blkRes_storable (d : Dev nD) (b : Fin 32) (f : S2048x256.Idx → F .f32) :
    BI.Storable (upEmb : UEmb _ (MM F)) (blkRes m d b f) := by
  unfold blkRes; infer_instance

/-- The block of tile `i` of core `c`. -/
def wid (c : Fin 2) (i : Fin 16) : Fin 32 := ⟨2 * i.val + c.val, by omega⟩

theorem nCore_zero : (K (F := F)).nCore 0 = 2 := rfl
theorem nSub_zero : (K (F := F)).nSub 0 = 16 := rfl

/-- A core's blocks. -/
def coreRes (d : Dev nD) (c : Fin 2) (f : S2048x256.Idx → F .f32) : sProp (MM F) :=
  bigSep Finset.univ fun i : Fin 16 => blkRes m d (wid c i) f

instance coreRes_storable (d : Dev nD) (c : Fin 2) (f : S2048x256.Idx → F .f32) :
    BI.Storable (upEmb : UEmb _ (MM F)) (coreRes m d c f) := by
  unfold coreRes; infer_instance

/-- The result's contents when the call starts. -/
def o₀ (d : Dev nD) : S2048x256.Idx → F .f32 := VH m d rO

def P : (K (F := F)).Pay (nD := nD) (Val := Elt F) (Name := ℕ) (U := UU) where
  st := fun q d c => match q with | 0 => coreRes m d (Fin.cast nCore_zero c) (o₀ m d)
  dn := fun q d c => match q with | 0 => coreRes m d (Fin.cast nCore_zero c) (res m d)
  go := fun q d c i => match q with | 0 => blkRes m d (wid (Fin.cast nCore_zero c) (Fin.cast nSub_zero i)) (o₀ m d)
  td := fun q d c i => match q with | 0 => blkRes m d (wid (Fin.cast nCore_zero c) (Fin.cast nSub_zero i)) (res m d)
  x := fun _ _ => iprop(emp)

instance P_storable : (P (F := F) m).IsStorable where
  st q d c := match q with | 0 => (inferInstance : BI.Storable (upEmb : UEmb _ (MM F)) (coreRes m d (Fin.cast nCore_zero c) (o₀ m d)))
  dn q d c := match q with | 0 => (inferInstance : BI.Storable (upEmb : UEmb _ (MM F)) (coreRes m d (Fin.cast nCore_zero c) (res m d)))
  go q d c i := match q with
    | 0 => (inferInstance : BI.Storable (upEmb : UEmb _ (MM F)) (blkRes m d (wid (Fin.cast nCore_zero c) (Fin.cast nSub_zero i)) (o₀ m d)))
  td q d c i := match q with
    | 0 => (inferInstance : BI.Storable (upEmb : UEmb _ (MM F)) (blkRes m d (wid (Fin.cast nCore_zero c) (Fin.cast nSub_zero i)) (res m d)))

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__p3_body (coordsV c s)
          iV (Memref.isWhole_whole _) qV (Memref.isWhole_whole _) tV (Memref.isWhole_whole _) oV (Memref.isWhole_whole _)
          sI (Memref.isWhole_whole _) sQ (Memref.isWhole_whole _) sA (Memref.isWhole_whole _) sB (Memref.isWhole_whole _)
          sO (Memref.isWhole_whole _) cc0_scratch5 cc0_scratch6 cc0_scoped0 cc0_scoped1 cc0_scoped2) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (vl m d) (vq m d) (vt m d) facts (hpre d) _ (o₀ m d) O W hO).trans
    (wp_mono frame _ _ fun _ => obl_post)

theorem vecSplit : (K (F := F)).VecSplit' (P m) 0 := by
  intro d c
  show coreRes m d (Fin.cast nCore_zero c) (o₀ m d) ⊢ |={Set.univ}=> iprop(
      (bigSep Finset.univ fun i : Fin ((K (F := F)).nSub 0) => blkRes m d (wid (Fin.cast nCore_zero c) (Fin.cast nSub_zero i)) (o₀ m d))
      ∗ ((bigSep Finset.univ fun i : Fin ((K (F := F)).nSub 0) => blkRes m d (wid (Fin.cast nCore_zero c) (Fin.cast nSub_zero i)) (res m d))
          -∗ coreRes m d (Fin.cast nCore_zero c) (res m d)))
  have e : ∀ f, coreRes m d (Fin.cast nCore_zero c) f
      = bigSep Finset.univ fun i : Fin ((K (F := F)).nSub 0) => blkRes m d (wid (Fin.cast nCore_zero c) (Fin.cast nSub_zero i)) f := fun _ => rfl
  rw [e, e]
  iintro H; imodintro
  isplitl [H]; · iexact H
  iintro H; iexact H

/-! ## The whole arrays as the blocks' -/

theorem oSet_eq (b : Fin 32) : oSet b = (orow b).set := by
  show ((View.whole (main_v11_scv : Ref sig .scVector)).slice (orow b)).set = _
  rw [View.set_slice]; exact Finset.map_refl

theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem oSet_cover : (Finset.univ : Finset (Fin 32)).biUnion oSet = Finset.univ :=
  (Finset.biUnion_congr rfl fun i _ => oSet_eq i).trans (Rect.biUnion_part odiv)

theorem oPts_blocks (d : Dev nD) (f : Buf (Elt F) (oLoc d)) :
    (oLoc d ↦{fullShare} f : sProp (MM F)) = bigSep Finset.univ fun b : Fin 32 => oLoc d ↦[oSet b]{fullShare} f := by
  rw [← pointsTo_biUnion Finset.univ (ℓ := oLoc d) oSet oSet_disjoint, oSet_cover]; try rfl

theorem shares (ℓ : Loc nD τ sig) (f : Buf (Elt F) ℓ) :
    (ℓ ↦{fullShare} f : sProp (MM F)) = bigSep Finset.univ fun b : Fin 32 => ℓ ↦{ShareLeaves.leaf 5 fullShare b} f :=
  ShareLeaves.pointsTo_leaves Finset.univ f 5 fullShare

/-- The blocks, core by core. -/
def widEquiv : Fin 2 × Fin 16 ≃ Fin 32 where
  toFun p := wid p.1 p.2
  invFun b := (⟨b.val % 2, by omega⟩, ⟨b.val / 2, by omega⟩)
  left_inv p := Prod.ext (Fin.ext (by show (2 * p.2.val + p.1.val) % 2 = p.1.val; omega)) (Fin.ext (by show (2 * p.2.val + p.1.val) / 2 = p.2.val; omega))
  right_inv b := Fin.ext (by show 2 * (b.val / 2) + b.val % 2 = b.val; omega)

/-- The operands and the result whole are what the two cores take. -/
theorem cores_eq (d : Dev nD) (f : S2048x256.Idx → F .f32) :
    (bigSep Finset.univ fun c : Fin 2 => coreRes m d c f)
      = iprop((iLoc d ↦{fullShare} vl m d) ∗ (qLoc d ↦{fullShare} vq m d) ∗ (tLoc d ↦{fullShare} vt m d) ∗ (oLoc d ↦{fullShare} f)) := by
  rw [shares (iLoc d), shares (qLoc d), shares (tLoc d), oPts_blocks, ← bigSep_sep', ← bigSep_sep', ← bigSep_sep',
    bigSep_univ_equiv widEquiv, bigSep_univ_prod]
  rfl

theorem st0_eq (d : Dev nD) : (bigSep Finset.univ fun c : Fin ((K (F := F)).nCore 0) => (P m).st 0 d c)
    = iprop((iLoc d ↦{fullShare} vl m d) ∗ (qLoc d ↦{fullShare} vq m d) ∗ (tLoc d ↦{fullShare} vt m d) ∗ (oLoc d ↦{fullShare} o₀ m d)) :=
  cores_eq m d (o₀ m d)

theorem dn0_eq (d : Dev nD) : (bigSep Finset.univ fun c : Fin ((K (F := F)).nCore 0) => (P m).dn 0 d c)
    = iprop((iLoc d ↦{fullShare} vl m d) ∗ (qLoc d ↦{fullShare} vq m d) ∗ (tLoc d ↦{fullShare} vt m d) ∗ (oLoc d ↦{fullShare} res m d)) :=
  cores_eq m d (res m d)

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The second call's ghost state on core `d`. -/
def gh (d : Dev nD) : sProp (MM F) :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => gh d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HP⟩
  ihave HG := (Pipeline.fund_ghost (Pipeline.pin (pcfgs (F := F)) adm) (EP (F := F)) cellOf_inj) $$ [HP]
  · iexact HP
  imod HG with ⟨Hc, Ht⟩
  imodintro
  isplitl [HH]; · iexact HH
  isplitr []
  · unfold gh
    rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev SU : Finset (DevRef τ sig) := Pipeline.ucRefs τ sig

/-- The call's four arrays. -/
def S4 : Finset (DevRef τ sig) := {rI, rQ, rT, rO}

theorem S4_sub : S4 ⊆ SU := by
  intro b hb
  simp only [S4, Finset.mem_insert, Finset.mem_singleton] at hb
  rcases hb with rfl | rfl | rfl | rfl <;> exact Finset.mem_filter.mpr ⟨StableHlo.devRef_mem_tcRefs _, by decide⟩

theorem held_S4 (d : Dev nD) (W : Valuation τ sig (Elt F)) :
    (held (SparseCore.T d) S4 W : sProp (MM F))
      = iprop((iLoc d ↦{fullShare} W rI) ∗ (qLoc d ↦{fullShare} W rQ) ∗ (tLoc d ↦{fullShare} W rT) ∗ (oLoc d ↦{fullShare} W rO)) := by
  unfold held S4
  rw [SparseCore.bigSep_insert' (by decide), SparseCore.bigSep_insert' (by decide), SparseCore.bigSep_insert' (by decide), bigSep_singleton]

theorem VD_ne (d : Dev nD) {b : DevRef τ sig} (h : b ≠ rO) : VD m d b = VH m d b := Function.update_of_ne h _ _
theorem VD_o (d : Dev nD) : VD m d rO = res m d := Function.update_self _ _ _
theorem VF_ne (d : Dev nD) {b : DevRef τ sig} (h : b ≠ rV) (h' : b ≠ rW) : VF m d b = VD m d b :=
  (Function.update_of_ne h' _ _).trans (Function.update_of_ne h _ _)
theorem VF_v (d : Dev nD) : VF m d rV = fvArr (VB m) d := (Function.update_of_ne (by decide) _ _).trans (Function.update_self _ _ _)
theorem VF_i (d : Dev nD) : VF m d rW = fiArr (VB m) d := Function.update_self _ _ _

theorem held_rest (d : Dev nD) : (held (SparseCore.T d) (SU \ S4) (VH m d) : sProp (MM F)) = held (SparseCore.T d) (SU \ S4) (VD m d) :=
  held_congr _ fun b hb => (VD_ne m d fun e => (Finset.mem_sdiff.mp hb).2 (by rw [e]; simp [S4])).symm

theorem hostOps_sub : ∀ op ∈ (hostOps : List (HloOp τ sig (Elt F))), op.bufs ⊆ SU :=
  fun op h => Pipeline.sub_ucRefs op (by
    unfold hostOps at h
    repeat (cases h with | head => simp | tail _ h => ?_)
    exact nomatch h)

theorem hostOps_fresh : ∀ op ∈ (hostOps : List (HloOp τ sig (Elt F))), op.fresh = ∅ := by
  intro _ h; unfold hostOps at h
  repeat (cases h with | head => rfl | tail _ h => ?_)
  exact nomatch h

abbrev FIN (d : Dev nD) : sProp (MM F) := held (SparseCore.T d) SU (VF m d)

/-- What the SparseCore call hands back, beside the rest. -/
theorem mid_eq (d : Dev nD) :
    iprop(((iLoc d ↦{fullShare} vl m d) ∗ (qLoc d ↦{fullShare} vq m d) ∗ (tLoc d ↦{fullShare} vt m d) ∗ (oLoc d ↦{fullShare} res m d))
      ∗ held (SparseCore.T d) (SU \ S4) (VH m d)) = (unscopedBufs d (VB m d) : sProp (MM F)) := by
  rw [show unscopedBufs d (VB m d) = (held (SparseCore.T d) SU (VD m d) : sProp (MM F)) from Pipeline.unscopedBufs_held d (VD m d),
    held_sub_split (SparseCore.T d) S4_sub (VD m d), held_rest, held_S4, VD_o, VD_ne m d (b := rI) (by decide),
    VD_ne m d (b := rQ) (by decide), VD_ne m d (b := rT) (by decide)]
  rfl

/-- The second call, from the arrays after the first to the arrays at the end. -/
def seg := reg (VB m) (fun d b => VF m d (Proc.devRef .tc b)) (VF_v m) (VF_i m)
  (fun d _ h h' => VF_ne m d (fun e => h (Proc.devRef_injective _ e)) (fun e => h' (Proc.devRef_injective _ e)))

/-- The core's state after the first call: nothing owed, and the rest. -/
def tcRest (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp (MM F)) = iprop(idle d ∗ tcRest d) := by
  unfold SparseCore.Cfg.tcSt
  rw [(K (F := F)).Otc_end d (n := 1) le_rfl]
  rfl

theorem hmain (κ : GSem nD τ sig → ℕ) (d : Dev nD) :
    iprop((K (F := F)).ctx EH (P m) κ ∗ (K (F := F)).tcSt EH d 0 ∗ (K (F := F)).tcRes m ρ d ∗ gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) SU (fun b => m (d, b)) : sProp (MM F)) from
    Pipeline.unscopedBufs_held d fun b => m (d, b), main_eq]
  unfold gh
  iintro ⟨#Hctx, Hst, ⟨Hb, Hheld, Hts, -⟩, ⟨Hcg, Htk⟩⟩
  iapply (wp_seq 𝒱 none Set.univ d SU _ hostOps hostOps_sub hostOps_fresh fun b => m (d, b)) $$ [Hb Hheld]
  · isplitl [Hb] <;> iassumption
  iintro ⟨Hb, Hheld⟩
  ihave Hh := (Entails.of_eq (held_sub_split (SparseCore.T d) S4_sub (VH m d))) $$ [Hheld]
  · iexact Hheld
  icases Hh with ⟨H4, Hrest⟩
  rw [wp_bind]
  iapply ((K (F := F)).wp_run (D (F := F)) 𝒱 (EH := EH) (P := P m) κ d 0) $$ [Hst H4 Hrest Hb Hts Hcg Htk]
  isplitr; · iexact Hctx
  isplitl [Hst]; · iexact Hst
  isplitl [H4]
  · rw [st0_eq]
    iapply (Entails.of_eq (held_S4 d (VH m d))); iexact H4
  iintro ⟨Hst, Hdn⟩
  ihave Hdn' := (Entails.of_eq (dn0_eq m d)) $$ Hdn
  ihave Hub := (Entails.of_eq (mid_eq m d)) $$ [Hdn' Hrest]
  · isplitl [Hdn'] <;> iassumption
  ihave Hst' := (Entails.of_eq (tcSt_one d)) $$ [Hst]
  · iexact Hst
  icases Hst' with ⟨HO, Hst⟩
  ihave Hlev := ((K (F := F)).ctx_levAts (EH := EH) (P := P m) κ) $$ Hctx
  rw [wp_bind]
  iapply ((K (F := F)).wp_liftProg (D (F := F)) 𝒱 (SparseCore.T d) Set.univ none call1 _)
  iapply (Pipeline.RegionSeg.wp (pcfgs (F := F)) adm (pdats (VB m)) none cellOf_inj EP defs₀ 𝒱₀ (K (F := F)).L (K (F := F)).lev (seg m) d none
    (fun _ h => nomatch h) .ret _)
  rw [show (seg m).post d = iprop(unscopedBufs d (fun b => VF m d (Proc.devRef .tc b)) ∗ idle d) from rfl,
    show (seg m).pre d = iprop(unscopedBufs d (VB m d) ∗ idle d) from rfl]
  isplitr [Hb Hub HO Hlev Hcg Htk]
  · iintro ⟨Hb, Hub, HO⟩
    rw [wp_ret, wp_pure]
    imodintro
    imodintro
    isplitl [Hst HO]
    · iapply (Entails.of_eq (tcSt_one d).symm); isplitl [HO] <;> iassumption
    isplitl [Hub]
    · iapply (Entails.of_eq (Pipeline.unscopedBufs_held d (VF m d))); iexact Hub
    isplitl [Hb] <;> iassumption
  isplitl [Hb]; · iexact Hb
  isplitl [Hub HO]; · isplitl [Hub] <;> iassumption
  isplitl [Hlev]; · iexact Hlev
  isplitl [Hcg] <;> iassumption

def fin (d : Dev nD) (s' : Phys nD τ sig (Elt F)) : Prop := ∀ b ∈ SU, s'.mem.mem (d, b) = VF m d b

theorem hfin (d : Dev nD) (s' : Phys nD τ sig (Elt F)) : iprop(FIN m d ∗ SI s') ⊢ (⌜fin m d s'⌝ : sProp (MM F)) := by
  iintro ⟨H, HSI⟩
  unfold FIN held
  ihave %h := (SI_pointsTo_bufs_agree (c := d) (qs := fun _ => fullShare) (F := VF m d) SU) $$ [HSI H]
  · isplitl [HSI]; · iexact HSI
    iexact H
  ipureintro; exact h

/-! ## The run -/

/-- The final memory: every array of @main at its value, every semaphore at zero. -/
def QC : PUnit × MemSt nD τ sig (Elt F) → Prop := fun r => (∀ d : Dev nD, ∀ b ∈ SU, r.2.mem (d, b) = VF m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main gh (FIN m) (u₀ (F := F)) (sep_elim_left.trans (hu₀ m)) (hmain m ρ) (fin m) (hfin m) (QC m) (fun _ h hz => ⟨h, hz⟩)

end Cert.Proof.Dots

end
-- ==== Proof.Softmax.lean ====
/-
  The weighted softmax over one group of sixteen, at the extended reals: its entry as one expression of the group's dots and
  of the weight, which of real ones is real; and the second call's payloads' entries as that expression.
-/
module

public import proofs.«01_k».proof.Proof.Select
public import Mathlib.Analysis.SpecialFunctions.Pow.Real

@[expose] public section

noncomputable section

namespace Cert.Proof.Top

open Idealize.ShloMosaic

/-- The square root of the dots' length. -/
def scale : EReal := Ideal.sqrt (Ideal.ofBits .f32 0x43000000#32)

/-- A group's scaled dots' largest. -/
def peak {n : ℕ} (a : Fin n → EReal) : EReal := (Finset.univ : Finset (Fin n)).fold max ⊥ fun l => Ideal.div (a l) scale

/-- The exponential of a scaled dot past the largest. -/
def expo {n : ℕ} (a : Fin n → EReal) (l : Fin n) : EReal := Ideal.exp (Ideal.div (a l) scale - peak a)

/-- The softmax's entry. -/
def part {n : ℕ} (a : Fin n → EReal) (l : Fin n) : EReal := Ideal.div (expo a l) (∑ i : Fin n, expo a i)

/-- The weighted softmax's entry. -/
def share (a : Fin 16 → EReal) (w : EReal) (l : Fin 16) : EReal := w * part a l

/-- A real number among the extended ones. -/
def IsReal (x : EReal) : Prop := ∃ t : ℝ, x = (t : EReal)

theorem IsReal.ne_bot {x : EReal} (h : IsReal x) : x ≠ ⊥ := by
  obtain ⟨t, rfl⟩ := h; exact EReal.coe_ne_bot t

theorem IsReal.mul {x y : EReal} (hx : IsReal x) (hy : IsReal y) : IsReal (x * y) := by
  obtain ⟨s, rfl⟩ := hx; obtain ⟨t, rfl⟩ := hy
  exact ⟨s * t, (EReal.coe_mul s t).symm⟩

theorem IsReal.sub {x y : EReal} (hx : IsReal x) (hy : IsReal y) : IsReal (x - y) := by
  obtain ⟨s, rfl⟩ := hx; obtain ⟨t, rfl⟩ := hy
  exact ⟨s - t, (EReal.coe_sub s t).symm⟩

theorem IsReal.div {x y : EReal} (hx : IsReal x) (hy : IsReal y) (h0 : y ≠ 0) : IsReal (Ideal.div x y) := by
  obtain ⟨t, rfl⟩ := hy
  unfold Ideal.div
  rw [if_neg h0]
  exact hx.mul ⟨t⁻¹, (EReal.coe_inv t).symm⟩

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem scale_eq : scale = (Real.sqrt 128 : EReal) := by
  have e : Ideal.ofBits .f32 0x43000000#32 = ((128 : ℝ) : EReal) := by
    simp [Ideal.ofBits, Ideal.ieee, -EReal.coe_mul]; norm_num
  unfold scale
  rw [e]
  show (if (128 : ℝ) < 0 then (⊥ : EReal) else (Real.sqrt 128 : EReal)) = _
  rw [if_neg (by norm_num)]

theorem scale_ne : scale ≠ 0 := by
  rw [scale_eq]
  have h : (0 : ℝ) < Real.sqrt 128 := Real.sqrt_pos.mpr (by norm_num)
  exact_mod_cast h.ne'

theorem scaled_real {x : EReal} (h : IsReal x) : IsReal (Ideal.div x scale) := h.div ⟨_, scale_eq⟩ scale_ne

section Real
variable {n : ℕ} {a : Fin n → EReal}

theorem peak_real (hn : 0 < n) (h : ∀ l, IsReal (a l)) : IsReal (peak a) := by
  obtain ⟨p, hp⟩ := First.exists (fun l => Ideal.div (a l) scale) hn
  unfold peak
  rw [hp.fold]
  exact scaled_real (h p)

theorem expo_pos (h : ∀ l, IsReal (a l)) (l : Fin n) : ∃ t : ℝ, 0 < t ∧ expo a l = (t : EReal) := by
  obtain ⟨t, ht⟩ := (scaled_real (h l)).sub (peak_real l.pos h)
  refine ⟨Real.exp t, Real.exp_pos t, ?_⟩
  unfold expo
  rw [ht]
  rfl

/-- Of real dots the entry is real. -/
theorem part_real (h : ∀ l, IsReal (a l)) (l : Fin n) : IsReal (part a l) := by
  choose t ht he using expo_pos h
  refine IsReal.div ⟨t l, he l⟩ (IsReal.sum _ _ fun i => ⟨t i, he i⟩) ?_
  rw [Finset.sum_congr rfl fun i _ => he i, coe_sum]
  have : (0 : ℝ) < ∑ i : Fin n, t i := Finset.sum_pos (fun i _ => ht i) ⟨l, Finset.mem_univ _⟩
  exact_mod_cast this.ne'

end Real

/-- Of real dots and a real weight the entry is real. -/
theorem share_real {a : Fin 16 → EReal} {w : EReal} (h : ∀ l, IsReal (a l)) (hw : IsReal w) (l : Fin 16) : IsReal (share a w l) :=
  hw.mul (part_real h l)

/-- Sixteen terms added by halves. -/
theorem sum_by_halves (f : Fin 16 → EReal) :
    (((f 0 + f 8) + (f 4 + f 12)) + ((f 2 + f 10) + (f 6 + f 14)))
      + (((f 1 + f 9) + (f 5 + f 13)) + ((f 3 + f 11) + (f 7 + f 15))) = ∑ i : Fin 16, f i := by
  have e := Fin.sum_univ_add (a := 8) (b := 8) f
  rw [Fin.sum_univ_eight, Fin.sum_univ_eight] at e
  refine Eq.trans ?_ e.symm
  show _ = (f 0 + f 1 + f 2 + f 3 + f 4 + f 5 + f 6 + f 7) + (f 8 + f 9 + f 10 + f 11 + f 12 + f 13 + f 14 + f 15)
  abel

end Cert.Proof.Top

namespace Cert.Proof.Dots

open Cert.KernelIdeal Cert.KernelIdeal.Gen
open Idealize.ShloMosaic
open ValueIdx (ix1 ix2 ix3)

theorem half3 {n m : ℕ} (v : FVec Ideal (⟨3, ![256, 16, n]⟩ : Shape) .f32)
    (h0 : (⟨3, ![256, 16, n]⟩ : Shape).Slices ![0, 0, 0] ⟨3, ![256, 16, m]⟩)
    (h1 : (⟨3, ![256, 16, n]⟩ : Shape).Slices ![0, 0, m] ⟨3, ![256, 16, m]⟩) (r : Fin 256) (k : Fin 16) (l : Fin m) (l0 l1 : Fin n)
    (e0 : l0.val = l.val) (e1 : l1.val = m + l.val) :
    addf (extractStridedSlice ⟨3, ![256, 16, m]⟩ ![0, 0, 0] v h0) (extractStridedSlice ⟨3, ![256, 16, m]⟩ ![0, 0, m] v h1) (ix3 r k l)
      = (v (ix3 r k l0) + v (ix3 r k l1) : EReal) := by
  show (extractStridedSlice ⟨3, ![256, 16, m]⟩ ![0, 0, 0] v h0 (ix3 r k l) + extractStridedSlice ⟨3, ![256, 16, m]⟩ ![0, 0, m] v h1 (ix3 r k l) : EReal) = _
  rw [extractStridedSlice_apply (k := ix3 r k l0) (hk := by
      intro a; fin_cases a
      · exact (Nat.zero_add _).symm
      · exact (Nat.zero_add _).symm
      · exact e0.trans (Nat.zero_add _).symm),
    extractStridedSlice_apply (k := ix3 r k l1) (hk := by
      intro a; fin_cases a
      · exact (Nat.zero_add _).symm
      · exact (Nat.zero_add _).symm
      · exact e1)]

theorem half2 {n m : ℕ} (v : FVec Ideal (⟨2, ![256, n]⟩ : Shape) .f32)
    (h0 : (⟨2, ![256, n]⟩ : Shape).Slices ![0, 0] ⟨2, ![256, m]⟩)
    (h1 : (⟨2, ![256, n]⟩ : Shape).Slices ![0, m] ⟨2, ![256, m]⟩) (r : Fin 256) (l : Fin m) (l0 l1 : Fin n)
    (e0 : l0.val = l.val) (e1 : l1.val = m + l.val) :
    addf (extractStridedSlice ⟨2, ![256, m]⟩ ![0, 0] v h0) (extractStridedSlice ⟨2, ![256, m]⟩ ![0, m] v h1) (ix2 r l)
      = (v (ix2 r l0) + v (ix2 r l1) : EReal) := by
  show (extractStridedSlice ⟨2, ![256, m]⟩ ![0, 0] v h0 (ix2 r l) + extractStridedSlice ⟨2, ![256, m]⟩ ![0, m] v h1 (ix2 r l) : EReal) = _
  rw [extractStridedSlice_apply (k := ix2 r l0) (hk := by
      intro a; fin_cases a
      · exact (Nat.zero_add _).symm
      · exact e0.trans (Nat.zero_add _).symm),
    extractStridedSlice_apply (k := ix2 r l1) (hk := by
      intro a; fin_cases a
      · exact (Nat.zero_add _).symm
      · exact e1)]

/-- The entries over their sum. -/
theorem normed_apply (v : FVec Ideal S256x16 .f32) (r : Fin 256) (j : Fin 16) :
    normed v (ix2 r j) = Ideal.div (v (ix2 r j)) (∑ i : Fin 16, Top.line v r i) := by
  unfold normed k1_pay1
  show Ideal.div (v (ix2 r j)) (broadcastTo S256x16 _ broadcasts_S256x1_S256x16 (ix2 r j)) = _
  rw [broadcastTo_apply (k := (ix2 r (0 : Fin 1) : S256x1.Idx)) (hk := by intro a; fin_cases a <;> rfl)]
  refine congrArg (Ideal.div (v (ix2 r j))) ?_
  rw [← Top.sum_by_halves (Top.line v r)]
  unfold halv8
  refine (half2 (n := 2) (m := 1) _ _ _ r 0 0 1 rfl rfl).trans ?_
  refine congrArg₂ (· + ·) ?_ ?_
  · refine (half2 (n := 4) (m := 2) _ _ _ r 0 0 2 rfl rfl).trans ?_
    exact congrArg₂ (· + ·)
      ((half2 (n := 8) (m := 4) _ _ _ r 0 0 4 rfl rfl).trans
        (congrArg₂ (· + ·) (half2 (n := 16) (m := 8) _ _ _ r 0 0 8 rfl rfl) (half2 (n := 16) (m := 8) _ _ _ r 4 4 12 rfl rfl)))
      ((half2 (n := 8) (m := 4) _ _ _ r 2 2 6 rfl rfl).trans
        (congrArg₂ (· + ·) (half2 (n := 16) (m := 8) _ _ _ r 2 2 10 rfl rfl) (half2 (n := 16) (m := 8) _ _ _ r 6 6 14 rfl rfl)))
  · refine (half2 (n := 4) (m := 2) _ _ _ r 1 1 3 rfl rfl).trans ?_
    exact congrArg₂ (· + ·)
      ((half2 (n := 8) (m := 4) _ _ _ r 1 1 5 rfl rfl).trans
        (congrArg₂ (· + ·) (half2 (n := 16) (m := 8) _ _ _ r 1 1 9 rfl rfl) (half2 (n := 16) (m := 8) _ _ _ r 5 5 13 rfl rfl)))
      ((half2 (n := 8) (m := 4) _ _ _ r 3 3 7 rfl rfl).trans
        (congrArg₂ (· + ·) (half2 (n := 16) (m := 8) _ _ _ r 3 3 11 rfl rfl) (half2 (n := 16) (m := 8) _ _ _ r 7 7 15 rfl rfl)))

/-- The place of entry `l` of group `k` in a row. -/
def at16 (k l : Fin 16) : Fin 256 := ⟨16 * k.val + l.val, by omega⟩

/-- Group `k` of a row of dots. -/
def group {n : ℕ} (x : (⟨2, ![n, 256]⟩ : Shape).Idx → EReal) (r : Fin n) (k : Fin 16) : Fin 16 → EReal := fun l => x (ix2 r (at16 k l))

/-- The scaled dots, by group. -/
def scaled (x : FVec Ideal S256x256 .f32) : FVec Ideal S256x16x16 .f32 :=
  shapeCast S256x16x16 (divf (shapeCast S256x256 x shapeCasts_S256x256_S256x256) (broadcast S256x256 (Scalar.sqrt (Scalar.ofBits .f32 0x43000000#32))))
    shapeCasts_S256x256_S256x16x16
/-- Their exponentials. -/
def expos (x : FVec Ideal S256x256 .f32) : FVec Ideal S256x16x16 .f32 :=
  exp (subf (scaled x) (broadcastTo S256x16x16 (shapeCast S256x16x1
    (multiReduction .maximumf [2] S256x16 (scaled x) 0xFF800000#32 reduces_S256x16x16_S256x16 (.inl rfl) rfl)
    shapeCasts_S256x16_S256x16x1) broadcasts_S256x16x1_S256x16x16))

theorem scaled_apply (x : FVec Ideal S256x256 .f32) (r : Fin 256) (k l : Fin 16) :
    scaled x (ix3 r k l) = Ideal.div (group x r k l) Top.scale := by
  unfold scaled
  rw [shapeCast_apply (k := (ix2 r (at16 k l) : S256x256.Idx)) (hk := by
    rw [Shape.rowMajor_val_three, Shape.rowMajor_val_two]; show r.val * 256 + (16 * k.val + l.val) = (r.val * 16 + k.val) * 16 + l.val; omega)]
  show Ideal.div (shapeCast S256x256 x shapeCasts_S256x256_S256x256 (ix2 r (at16 k l))) Top.scale = _
  rw [shapeCast_apply (k := (ix2 r (at16 k l) : S256x256.Idx)) (hk := rfl)]
  rfl

theorem expos_apply (x : FVec Ideal S256x256 .f32) (r : Fin 256) (k l : Fin 16) :
    expos x (ix3 r k l) = Top.expo (group x r k) l := by
  unfold expos
  show Ideal.exp (scaled x (ix3 r k l) - broadcastTo S256x16x16 _ broadcasts_S256x16x1_S256x16x16 (ix3 r k l)) = _
  rw [broadcastTo_apply (k := (ix3 r k (0 : Fin 1) : S256x16x1.Idx)) (hk := by intro a; fin_cases a <;> rfl),
    shapeCast_apply (k := (ix2 r k : S256x16.Idx)) (hk := by
      rw [Shape.rowMajor_val_three, Shape.rowMajor_val_two]; show r.val * 16 + k.val = (r.val * 16 + k.val) * 1 + 0; omega), scaled_apply]
  refine congrArg (fun t => Ideal.exp (Ideal.div (group x r k l) Top.scale - t)) ?_
  refine (Ideal.multiReduction_maximumf_single _ _ _ _ _ _).trans ?_
  rw [Top.minusInf]
  have e : (scaled x ∘ reduces_S256x16x16_S256x16.lift (ix2 r k : S256x16.Idx)) = fun l => Ideal.div (group x r k l) Top.scale := by
    funext (l : Fin 16)
    refine Eq.trans ?_ (scaled_apply x r k l)
    refine congrArg (scaled x) ?_
    funext a
    fin_cases a <;> rfl
  rw [e]
  rfl

/-- The second call's weighted softmax, entry by entry. -/
theorem pay2_apply (x : FVec Ideal S256x256 .f32) (w : FVec Ideal S256x16 .f32) (r : Fin 256) (k l : Fin 16) :
    (k1_pay2 x w : FVec Ideal S256x256 .f32) (ix2 r (at16 k l)) = Top.share (group x r k) (w (ix2 r k)) l := by
  unfold k1_pay2
  rw [shapeCast_apply (k := (ix3 r k l : S256x16x16.Idx)) (hk := by
    rw [Shape.rowMajor_val_three, Shape.rowMajor_val_two]; show (r.val * 16 + k.val) * 16 + l.val = r.val * 256 + (16 * k.val + l.val); omega)]
  show (broadcastTo S256x16x16 _ broadcasts_S256x16x1_S256x16x16 (ix3 r k l) * Ideal.div (expos x (ix3 r k l))
    (broadcastTo S256x16x16 _ broadcasts_S256x16x1_S256x16x16 (ix3 r k l)) : EReal) = _
  rw [broadcastTo_apply (k := (ix3 r k (0 : Fin 1) : S256x16x1.Idx)) (hk := by intro a; fin_cases a <;> rfl),
    broadcastTo_apply (k := (ix3 r k (0 : Fin 1) : S256x16x1.Idx)) (hk := by intro a; fin_cases a <;> rfl),
    shapeCast_apply (k := (ix2 r k : S256x16.Idx)) (hk := by
      rw [Shape.rowMajor_val_three, Shape.rowMajor_val_two]; show r.val * 16 + k.val = (r.val * 16 + k.val) * 1 + 0; omega), expos_apply]
  unfold Top.share Top.part
  refine congrArg (fun t => w (ix2 r k) * Ideal.div (Top.expo (group x r k) l) t) ?_
  rw [← Top.sum_by_halves (Top.expo (group x r k))]
  simp only [← expos_apply]
  refine (half3 (n := 2) (m := 1) _ _ _ r k 0 0 1 rfl rfl).trans ?_
  refine congrArg₂ (· + ·) ?_ ?_
  · refine (half3 (n := 4) (m := 2) _ _ _ r k 0 0 2 rfl rfl).trans ?_
    exact congrArg₂ (· + ·)
      ((half3 (n := 8) (m := 4) _ _ _ r k 0 0 4 rfl rfl).trans
        (congrArg₂ (· + ·) (half3 (n := 16) (m := 8) (expos x) _ _ r k 0 0 8 rfl rfl) (half3 (n := 16) (m := 8) (expos x) _ _ r k 4 4 12 rfl rfl)))
      ((half3 (n := 8) (m := 4) _ _ _ r k 2 2 6 rfl rfl).trans
        (congrArg₂ (· + ·) (half3 (n := 16) (m := 8) (expos x) _ _ r k 2 2 10 rfl rfl) (half3 (n := 16) (m := 8) (expos x) _ _ r k 6 6 14 rfl rfl)))
  · refine (half3 (n := 4) (m := 2) _ _ _ r k 1 1 3 rfl rfl).trans ?_
    exact congrArg₂ (· + ·)
      ((half3 (n := 8) (m := 4) _ _ _ r k 1 1 5 rfl rfl).trans
        (congrArg₂ (· + ·) (half3 (n := 16) (m := 8) (expos x) _ _ r k 1 1 9 rfl rfl) (half3 (n := 16) (m := 8) (expos x) _ _ r k 5 5 13 rfl rfl)))
      ((half3 (n := 8) (m := 4) _ _ _ r k 3 3 7 rfl rfl).trans
        (congrArg₂ (· + ·) (half3 (n := 16) (m := 8) (expos x) _ _ r k 3 3 11 rfl rfl) (half3 (n := 16) (m := 8) (expos x) _ _ r k 7 7 15 rfl rfl)))

end Cert.Proof.Dots

end
-- ==== Proof.Values.lean ====
/-
  The values: the operands of the call read off the arguments, and the dots it leaves, over the extended reals, as one
  sum over the query's entries.
-/
module

public import proofs.«01_k».proof.Proof.Launch
public import proofs.«01_k».proof.Proof.Softmax
public import Idealize.ShloMosaic.Lib.ValueIdx
public import Idealize.ShloMosaic.Lib.ReduceAll
public import Idealize.ShloMosaic.Lib.WordCmp
public import Idealize.ShloMosaic.PureOps.Ideal
public import proofs.«01_k».proof.Proof.Gen.Pre_in_range
public import proofs.«01_k».proof.Pre_in_range_finite

@[expose] public section

noncomputable section

namespace Cert.Proof.Dots

open Cert.KernelIdeal Cert.KernelIdeal.Gen
open Idealize.ShloMosaic Idealize.ShloMosaic.Tactic
open Idealize.ShloMosaic.StableHlo (after)

variable {F : FTy → Type} [FloatOps F]
variable (m : (ℓ : Loc nD τ sig) → Buf (Elt F) ℓ)

/-- The arguments: the indices, the weights, the queries, the keys. -/
def a0 (d : Dev nD) : S2048x16.Idx → BitVec 32 := m (d, Proc.devRef .tc (main_arg0 : Ref sig .tc))
def aw (d : Dev nD) : S2048x16.Idx → F .f32 := m (d, Proc.devRef .tc (main_arg1 : Ref sig .tc))
def a1 (d : Dev nD) : S2048x128.Idx → F .f32 := m (d, Proc.devRef .tc (main_arg2 : Ref sig .tc))
def a2 (d : Dev nD) : S4096x16x128.Idx → F .f32 := m (d, Proc.devRef .tc (main_arg3 : Ref sig .tc))

theorem vq_eq (d : Dev nD) : vq m d = a1 m d := by
  unfold vq VH hostOps rQ
  after_reads_simp
  rfl

/-- Entry `8·k + t` of list `n` is eight times the index there, plus `t`. -/
theorem vl_apply (d : Dev nD) (n : Fin 2048) (k : Fin 16) (t : Fin 8) :
    vl m d (ValueIdx.ix2 n (⟨8 * k.val + t.val, by omega⟩ : Fin 128)) = a0 m d (ValueIdx.ix2 n k) * 8#32 + BitVec.ofNat 32 t.val := by
  unfold vl VH hostOps rI
  after_reads_simp
  refine (shapeCast_apply _ _ _ (ValueIdx.ix3 n k t) ?_).trans ?_
  · refine (Shape.rowMajor_val_three _).trans ((Shape.rowMajor_val_two _).trans ?_).symm
    show n.val * 128 + (8 * k.val + t.val) = (n.val * 16 + k.val) * 8 + t.val
    omega
  show IntOp.addi _ _ = _
  rw [broadcastInDim_apply (k := ValueIdx.ix3 n k (0 : Fin 1)) (hk := by intro a; fin_cases a <;> rfl),
    broadcastInDim_apply (k := ValueIdx.ix3 (0 : Fin 1) (0 : Fin 1) t) (hk := by intro a; fin_cases a <;> rfl),
    broadcastInDim_apply (k := ValueIdx.ix1 t) (hk := by intro a; fin_cases a; rfl)]
  show IntOp.addi (IntOp.muli _ _) _ = _
  rw [broadcastInDim_apply (k := ValueIdx.ix2 n k) (hk := by intro a; fin_cases a <;> rfl)]
  rfl

/-- Row `8·r + t` of the table holds the sixteen keys of group `r` lane by lane, entries `16·t … 16·t + 15`. -/
theorem vt_apply (d : Dev nD) (r : Fin 4096) (t : Fin 8) (h : Fin 2) (e : Fin 8) (l : Fin 16) :
    vt m d (ValueIdx.ix3 (⟨8 * r.val + t.val, by omega⟩ : Fin 32768) h (⟨16 * e.val + l.val, by omega⟩ : Fin 128))
      = a2 m d (ValueIdx.ix3 r l (⟨16 * t.val + 8 * h.val + e.val, by omega⟩ : Fin 128)) := by
  unfold vt VH hostOps rT
  after_reads_simp
  refine (shapeCast_apply _ _ _ (ValueIdx.ix3 r (⟨16 * t.val + 8 * h.val + e.val, by omega⟩ : Fin 128) l) ?_).trans ?_
  · refine (Shape.rowMajor_val_three _).trans ((Shape.rowMajor_val_three _).trans ?_).symm
    show ((8 * r.val + t.val) * 2 + h.val) * 128 + (16 * e.val + l.val) = (r.val * 128 + (16 * t.val + 8 * h.val + e.val)) * 16 + l.val
    omega
  exact transpose_apply _ _ _ _ _ (by intro b; fin_cases b <;> rfl)

/-- Every index names a group of keys. -/
def Idx0 : Prop := ∀ (d : Dev nD) (y : S2048x16.Idx), (a0 m d y).toNat < 4096

theorem vl_toNat (h : Idx0 m) (d : Dev nD) (n : Fin 2048) (k : Fin 16) (t : Fin 8) :
    (vl m d (ValueIdx.ix2 n (⟨8 * k.val + t.val, by omega⟩ : Fin 128))).toNat = 8 * (a0 m d (ValueIdx.ix2 n k)).toNat + t.val := by
  rw [vl_apply]
  have := h d (ValueIdx.ix2 n k)
  rw [BitVec.toNat_add, BitVec.toNat_mul, BitVec.toNat_ofNat, BitVec.toNat_ofNat]
  have := t.isLt
  omega

theorem preOK_of (h : Idx0 m) : PreOK m := by
  intro d y
  have key : ∀ (n : Fin 2048) (c : Fin 128), (vl m d (ValueIdx.ix2 n c)).toNat < 32768 := by
    intro n c
    have e : c = ⟨8 * (⟨c.val / 8, by omega⟩ : Fin 16).val + (⟨c.val % 8, by omega⟩ : Fin 8).val, by
      show 8 * (c.val / 8) + c.val % 8 < 128; omega⟩ := Fin.ext (by show c.val = 8 * (c.val / 8) + c.val % 8; omega)
    rw [e, vl_toNat m h]
    have := h d (ValueIdx.ix2 n (⟨c.val / 8, by omega⟩ : Fin 16))
    show _ + c.val % 8 < 32768
    omega
  have e : y = ValueIdx.ix2 (y 0 : Fin 2048) (y 1 : Fin 128) := by funext a; fin_cases a <;> rfl
  rw [e]; exact key (y 0) (y 1)

section Pre
variable {x : S2048x16.Idx → BitVec 32}

/-- The shapes of the second predicate fit. -/
theorem finite_facts : Cert.Pre_in_range_finite.Facts where
  bcast_S_S2048x16 := by decide
  reducesTo_S2048x16_S_d0_1 := by decide
  h_S_ := by decide
  bcast_S_S2048x128 := by decide
  reducesTo_S2048x128_S_d0_1 := by decide
  bcast_S_S4096x16x128 := by decide
  reducesTo_S4096x16x128_S_d0_1_2 := by decide

theorem andi_one {a b : BitVec 1} (h : IntOp.andi a b = 1#1) : a = 1#1 ∧ b = 1#1 := by
  revert a b; decide

theorem one_idx : Subsingleton Cert.Pre_in_range.S_.Idx := ⟨fun _ _ => funext fun i => i.elim0⟩

theorem one_idx' : Subsingleton Cert.Pre_in_range_finite.S_.Idx := ⟨fun _ _ => funext fun i => i.elim0⟩

/-- A word that passes both comparisons is below 4096. -/
theorem toNat_of_bit {b : BitVec 32} (h : IntOp.andi (IntOp.cmpi .sge b 0#32) (IntOp.cmpi .slt b (BitVec.ofNat 32 4096)) = 1#1) : b.toNat < 4096 := by
  rw [WordCmp.andi_sge_zero_slt_ofNat (by decide), WordCmp.ofBool_decide_eq_one_iff] at h
  exact h

/-- What the precondition says of the indices. -/
theorem toNat_of_pre [hP : Cert.Pre_in_range.Facts] {w : S2048x16.Idx → F .f32} {q : S2048x128.Idx → F .f32}
    {k : S4096x16x128.Idx → F .f32} (h : Cert.Pre_in_range.fn (F := F) x w q k = fun _ => 1#1) (y : S2048x16.Idx) : (x y).toNat < 4096 := by
  have h0 := congrFun h (fun a => a.elim0)
  have := one_idx
  exact toNat_of_bit (Host.reduce_andi_all _ _ _ _ _ h0 y)

/-- The same of the one that asks for finite arguments too. -/
theorem toNat_of_finite [hP : Cert.Pre_in_range_finite.Facts] {w : S2048x16.Idx → F .f32} {q : S2048x128.Idx → F .f32} {k : S4096x16x128.Idx → F .f32}
    (h : Cert.Pre_in_range_finite.fn (F := F) x w q k = fun _ => 1#1) (y : S2048x16.Idx) : (x y).toNat < 4096 := by
  have h0 := andi_one (congrFun h (fun a => a.elim0))
  have := one_idx'
  exact toNat_of_bit (Host.reduce_andi_all _ _ _ _ _ h0.1 y)

/-- An extended real whose magnitude is below infinity is real. -/
theorem real_of_lt {t : EReal} (h : FloatOps.cmpf (F := Ideal) (φ := .f32) .olt (max t (-t) : EReal) (FloatOps.ofBits .f32 0x7F800000#32) = 1#1) :
    Top.IsReal t := by
  have e : (FloatOps.ofBits (F := Ideal) .f32 0x7F800000#32 : EReal) = ⊤ := by
    show Ideal.ofBits .f32 0x7F800000#32 = ⊤
    simp [Ideal.ofBits, Ideal.ieee]
  rw [e] at h
  have h' : max t (-t) < ⊤ := by
    by_contra hn
    have : FloatOps.cmpf (F := Ideal) (φ := .f32) .olt (max t (-t) : EReal) (⊤ : EReal) = BitVec.ofBool (decide (max t (-t) < ⊤)) := rfl
    rw [this, decide_eq_false hn] at h
    exact absurd h (by decide)
  rw [max_lt_iff] at h'
  induction t using EReal.rec with
  | bot => exact absurd h'.2 (by simp)
  | top => exact absurd h'.1 (by simp)
  | coe r => exact ⟨r, rfl⟩

/-- What it says of the weights, the queries and the keys, over the extended reals. -/
theorem real_of_finite [hP : Cert.Pre_in_range_finite.Facts] {w : S2048x16.Idx → Ideal .f32} {q : S2048x128.Idx → Ideal .f32} {k : S4096x16x128.Idx → Ideal .f32}
    (h : Cert.Pre_in_range_finite.fn (F := Ideal) x w q k = fun _ => 1#1) :
    (∀ y, Top.IsReal (w y)) ∧ (∀ y, Top.IsReal (q y)) ∧ ∀ y, Top.IsReal (k y) := by
  have h0 := andi_one (congrFun h (fun a => a.elim0))
  have h1 := andi_one h0.2
  have h2 := andi_one h1.1
  have := one_idx'
  exact ⟨fun y => real_of_lt (Host.reduce_andi_all _ _ _ _ _ h2.1 y), fun y => real_of_lt (Host.reduce_andi_all _ _ _ _ _ h2.2 y),
    fun y => real_of_lt (Host.reduce_andi_all _ _ _ _ _ h1.2 y)⟩

end Pre

/-- The group of keys that index `k` of row `n` names. -/
def grp (h : Idx0 m) (d : Dev nD) (n : Fin 2048) (k : Fin 16) : Fin 4096 := ⟨(a0 m d (ValueIdx.ix2 n k)).toNat, h d _⟩

theorem rowNo_vl (h : Idx0 m) (d : Dev nD) (n : Fin 2048) (k : Fin 16) (t : Fin 8) :
    rowNo (vl m d (ValueIdx.ix2 n (⟨8 * k.val + t.val, by omega⟩ : Fin 128)))
      = ⟨8 * (grp m h d n k).val + t.val, by have := (grp m h d n k).isLt; omega⟩ := by
  apply Fin.ext
  show (vl m d _).toNat % 32768 = 8 * (a0 m d (ValueIdx.ix2 n k)).toNat + t.val
  rw [vl_toNat m h]
  have := h d (ValueIdx.ix2 n k)
  omega

/-- Entry `16·k + l` of row `n` of what the call leaves. -/
theorem outv_apply (vl : S2048x128.Idx → BitVec 32) (vq : S2048x128.Idx → F .f32) (vt : S32768x2x128.Idx → F .f32)
    (n : Fin 2048) (k l : Fin 16) :
    outv vl vq vt (ValueIdx.ix2 n (⟨16 * k.val + l.val, by omega⟩ : Fin 256))
      = dotNest FloatOps.addf fun t h e =>
          FloatOps.mulf (vt (ValueIdx.ix3 (rowNo (vl (ValueIdx.ix2 n (⟨8 * k.val + t.val, by omega⟩ : Fin 128)))) h (⟨16 * e.val + l.val, by omega⟩ : Fin 128)))
            (vq (ValueIdx.ix2 n (⟨16 * t.val + 8 * h.val + e.val, by omega⟩ : Fin 128))) := by
  have hk : (16 * k.val + l.val) / 16 = k.val := by omega
  have hl : (16 * k.val + l.val) % 16 = l.val := by omega
  have hn : (⟨64 * (n.val / 64) + n.val % 64, by omega⟩ : Fin 2048) = n := Fin.ext (by show 64 * (n.val / 64) + n.val % 64 = n.val; omega)
  have e1 : ∀ t : Fin 8, (⟨8 * ((16 * k.val + l.val) / 16) + t.val, by omega⟩ : Fin 128) = ⟨8 * k.val + t.val, by omega⟩ := fun t =>
    Fin.ext (by show 8 * ((16 * k.val + l.val) / 16) + t.val = _; rw [hk])
  have e2 : ∀ e : Fin 8, (⟨16 * e.val + (16 * k.val + l.val) % 16, by omega⟩ : Fin 128) = ⟨16 * e.val + l.val, by omega⟩ := fun e =>
    Fin.ext (by show 16 * e.val + (16 * k.val + l.val) % 16 = _; rw [hl])
  refine Eq.trans (b := dotNest FloatOps.addf fun t h e =>
    FloatOps.mulf (vt (ValueIdx.ix3 (rowNo (vl (ValueIdx.ix2 (⟨64 * (n.val / 64) + n.val % 64, by omega⟩ : Fin 2048)
        (⟨8 * ((16 * k.val + l.val) / 16) + t.val, by omega⟩ : Fin 128)))) h (⟨16 * e.val + (16 * k.val + l.val) % 16, by omega⟩ : Fin 128)))
      (vq (ValueIdx.ix2 (⟨64 * (n.val / 64) + n.val % 64, by omega⟩ : Fin 2048) (⟨16 * t.val + 8 * h.val + e.val, by omega⟩ : Fin 128)))) rfl ?_
  simp only [e1, e2, hn]

/-- Entry `16·k + l` of row `n` of the result: the query of row `n` with key `l` of the `k`-th group, in the kernel's order. -/
theorem res_apply (h : Idx0 m) (d : Dev nD) (n : Fin 2048) (k l : Fin 16) :
    res m d (ValueIdx.ix2 n (⟨16 * k.val + l.val, by omega⟩ : Fin 256))
      = dotNest FloatOps.addf fun t h' e =>
          FloatOps.mulf (a2 m d (ValueIdx.ix3 (grp m h d n k) l (⟨16 * t.val + 8 * h'.val + e.val, by omega⟩ : Fin 128)))
            (a1 m d (ValueIdx.ix2 n (⟨16 * t.val + 8 * h'.val + e.val, by omega⟩ : Fin 128))) := by
  unfold res
  rw [outv_apply]
  simp only [rowNo_vl m h, vt_apply, vq_eq]

/-- A sum over the hundred and twenty-eight entries, dealt sixteen by sixteen in two halves. -/
theorem sum_dealt {X : Type} [AddCommMonoid X] (f : Fin 128 → X) :
    ∑ t : Fin 8, ∑ h : Fin 2, ∑ e : Fin 8, f ⟨16 * t.val + 8 * h.val + e.val, by omega⟩ = ∑ j, f j := by
  rw [← (finProdFinEquiv : Fin 16 × Fin 8 ≃ Fin 128).sum_comp, Fintype.sum_prod_type,
    ← (finProdFinEquiv : Fin 8 × Fin 2 ≃ Fin 16).sum_comp, Fintype.sum_prod_type]
  refine Finset.sum_congr rfl fun t _ => Finset.sum_congr rfl fun h _ => Finset.sum_congr rfl fun e _ => congrArg f (Fin.ext ?_)
  show 16 * t.val + 8 * h.val + e.val = e.val + 8 * (h.val + 2 * t.val)
  omega

/-- Over the extended reals the result is the dots. -/
theorem res_ideal (m : (ℓ : Loc nD τ sig) → Buf (Elt Ideal) ℓ) (h : Idx0 m) (d : Dev nD) (n : Fin 2048) (k l : Fin 16) :
    res m d (ValueIdx.ix2 n (⟨16 * k.val + l.val, by omega⟩ : Fin 256))
      = ∑ j : Fin 128, FloatOps.mulf (F := Ideal) (a2 m d (ValueIdx.ix3 (grp m h d n k) l j)) (a1 m d (ValueIdx.ix2 n j)) := by
  rw [res_apply m h]
  refine (dotNest_eq_sum _).trans ?_
  exact sum_dealt fun j : Fin 128 => FloatOps.mulf (F := Ideal) (a2 m d (ValueIdx.ix3 (grp m h d n k) l j)) (a1 m d (ValueIdx.ix2 n j))

end Cert.Proof.Dots

end
-- ==== Proof.Reference.lean ====
/-
  The reference's value: its dots are the sums of the products of a query with one of the keys that the indices take, its
  weighted softmax one expression of a group's dots and weight, its results the row's entries at the places a stable sort
  puts first, over their sum, and those places.
-/
module

public import proofs.«01_k».proof.Proof.Gen.ReferenceIdeal.Run
public import proofs.«01_k».proof.Proof.Softmax
public import Idealize.ShloMosaic.Lib.ValueIdx
public import Idealize.ShloMosaic.Lib.KernelVsHost
public import Idealize.ShloMosaic.Lib.ReduceAll
public import Idealize.ShloMosaic.Lib.WordCmp
public import Idealize.ShloMosaic.Lib.Pipeline.Value
public import Idealize.ShloMosaic.Lib.Pointwise.Contract
public import Idealize.ShloMosaic.PureOps.Ideal

@[expose] public section

noncomputable section

namespace Cert.Proof.Ref

open Cert.ReferenceIdeal Cert.ReferenceIdeal.Gen
open Idealize.ShloMosaic

variable {F : FTy → Type} [FloatOps F]

/-- The indices, a negative one counted from the end. -/
def wrap (x : IVec S2048x16 32) : IVec S2048x16 32 :=
  (select (cmpi .slt x (broadcastInDim S2048x16 ![] bcast_S_S2048x16 (constantI S_ 32 0#32))) (addi x (broadcastInDim S2048x16 ![] bcast_S_S2048x16 (constantI S_ 32 4096#32))) x)

/-- The keys the indices take, an index out of range taking none. -/
def took (x : IVec S2048x16 32) (k : FVec F S4096x16x128 .f32) : FVec F S2048x16x16x128 .f32 :=
  (select (broadcastInDim S2048x16x16x128 ![0, 1] bcast_S2048x16_S2048x16x16x128_0_1 (Host.reduce IntOp.andi (andi (cmpi .sge (broadcastInDim S2048x16x1 ![0, 1] bcast_S2048x16_S2048x16x1_0_1 (wrap x)) (broadcastInDim S2048x16x1 ![] bcast_S_S2048x16x1 (constantI S_ 32 0#32))) (cmpi .sle (broadcastInDim S2048x16x1 ![0, 1] bcast_S2048x16_S2048x16x1_0_1 (wrap x)) (broadcastInDim S2048x16x1 ![0, 1, 2] bcast_S1x1x1_S2048x16x1_0_1_2 (broadcastInDim S1x1x1 ![2] bcast_S1_S1x1x1_2 (constantI S1 32 4095#32))))) (constantI S_ 1 1#1) reducesTo_S2048x16x1_S2048x16_d2 h_S_)) (Host.gather gather_S4096x16x128_S2048x16x1_S2048x16x16x128_23_0_n_n_0_2_116128 k (broadcastInDim S2048x16x1 ![0, 1] bcast_S2048x16_S2048x16x1_0_1 (wrap x))) (broadcastInDim S2048x16x16x128 ![] bcast_S_S2048x16x16x128 (constant S_ .f32 0x7FC00000#32)))

/-- The dots of every query with the keys taken. -/
def dots (x : IVec S2048x16 32) (q : FVec F S2048x128 .f32) (k : FVec F S4096x16x128 .f32) : FVec F S2048x16x16 .f32 :=
  shapeCast S2048x16x16 (transpose S2048x16x1x16 [0, 2, 1, 3] (Host.dotGeneral dot_S2048x1x128_S2048x16x128x16_S2048x1x16x16_2_2_1_13_0_0 none (shapeCast S2048x1x128 (broadcastInDim S2048x1x1x128 ![0, 1, 3] bcast_S2048x1x128_S2048x1x1x128_0_1_3 (broadcastInDim S2048x1x128 ![0, 2] bcast_S2048x128_S2048x1x128_0_2 q)) shapeCasts_S2048x1x1x128_S2048x1x128) (transpose S2048x16x128x16 [0, 1, 3, 2] (took x k) transposes_S2048x16x16x128_S2048x16x128x16_0_1_3_2)) transposes_S2048x1x16x16_S2048x16x1x16_0_2_1_3) shapeCasts_S2048x16x1x16_S2048x16x16

/-- A value of each group, given to its sixteen entries. -/
def spread (v : FVec F S2048x16 .f32) : FVec F S2048x16x16 .f32 :=
  broadcastInDim S2048x16x16 ![0, 1, 2] bcast_S2048x16x1_S2048x16x16_0_1_2 (broadcastInDim S2048x16x1 ![0, 1] bcast_S2048x16_S2048x16x1_0_1 v)

/-- The dots over the square root of their length. -/
def scaled (a : FVec F S2048x16x16 .f32) : FVec F S2048x16x16 .f32 :=
  Host.divf a (broadcastInDim S2048x16x16 ![] bcast_S_S2048x16x16 (Host.sqrt (constant S_ .f32 0x43000000#32)))

/-- Each group's largest. -/
def peaks (a : FVec F S2048x16x16 .f32) : FVec F S2048x16 .f32 :=
  maximumf (broadcastInDim S2048x16 ![] bcast_S_S2048x16 (constant S_ .f32 0xFF800000#32)) (Host.reduce FloatOps.maximumf (scaled a) (constant S_ .f32 0xFF800000#32) reducesTo_S2048x16x16_S2048x16_d2 h_S_)

/-- The exponentials past each group's largest, and their sums. -/
def expos (a : FVec F S2048x16x16 .f32) : FVec F S2048x16x16 .f32 := Host.exp (subf (scaled a) (spread (peaks a)))
def sums (a : FVec F S2048x16x16 .f32) : FVec F S2048x16 .f32 :=
  Host.reduceAdd (expos a) (constant S_ .f32 0x00000000#32) reducesTo_S2048x16x16_S2048x16_d2 h_S_

/-- The weighted softmax, a row for each query. -/
def attn (a : FVec F S2048x16x16 .f32) (w : FVec F S2048x16 .f32) : FVec F S2048x256 .f32 :=
  shapeCast S2048x256 (mulf (spread w) (Host.divf (expos a) (spread (sums a)))) shapeCasts_S2048x16x16_S2048x256

/-- The sixteen largest of each row and their places. -/
def best (a : FVec F S2048x256 .f32) : FVec F S2048x16 .f32 := (Host.topK S2048x16 1 (FloatOps.cmpfTotal .gt) a sliceFits_S2048x256_S2048x16).1
def where16 (a : FVec F S2048x256 .f32) : IVec S2048x16 32 := (Host.topK S2048x16 1 (FloatOps.cmpfTotal .gt) a sliceFits_S2048x256_S2048x16).2

/-- Sixteen entries over their sum. -/
def totals (v : FVec F S2048x16 .f32) : FVec F S2048x16 .f32 :=
  broadcastInDim S2048x16 ![0, 1] bcast_S2048x1_S2048x16_0_1 (broadcastInDim S2048x1 ![0] bcast_S2048_S2048x1_0 (Host.reduceAdd v (constant S_ .f32 0x00000000#32) reducesTo_S2048x16_S2048_d1 h_S_))
def overSum (v : FVec F S2048x16 .f32) : FVec F S2048x16 .f32 := Host.divf v (totals v)

/-- The run's results are these. -/
theorem out0_eq (m : (ℓ : Loc nD τ sig) → Buf (Elt F) ℓ) (c : Dev nD) :
    Value.res_out0 m c = overSum (best (attn (dots (m ((c.tc : Thread nD τ).loc main_arg0)) (m ((c.tc : Thread nD τ).loc main_arg2)) (m ((c.tc : Thread nD τ).loc main_arg3)))
      (m ((c.tc : Thread nD τ).loc main_arg1)))) := rfl
theorem out1_eq (m : (ℓ : Loc nD τ sig) → Buf (Elt F) ℓ) (c : Dev nD) :
    Value.res_out1 m c = where16 (attn (dots (m ((c.tc : Thread nD τ).loc main_arg0)) (m ((c.tc : Thread nD τ).loc main_arg2)) (m ((c.tc : Thread nD τ).loc main_arg3)))
      (m ((c.tc : Thread nD τ).loc main_arg1))) := rfl

theorem wrap_apply (x : IVec S2048x16 32) (hx : ∀ y, (x y).toNat < 4096) (y : S2048x16.Idx) : wrap x y = x y := by
  have h : IntOp.cmpi .slt (x y) 0#32 = 0#1 := by
    rw [WordCmp.cmpi_slt_zero, decide_eq_false (by have := hx y; omega)]; rfl
  show Scalar.select (IntOp.cmpi .slt (x y) 0#32) _ _ = _
  rw [h]; rfl

theorem gather_apply (k : FVec F S4096x16x128 .f32) (i : IVec S2048x16x1 32) (n : Fin 2048) (kk l : Fin 16) (j : Fin 128) (r : Fin 4096)
    (hr : (i (ValueIdx.ix3 n kk (0 : Fin 1))).toNat = r.val) :
    Host.gather gather_S4096x16x128_S2048x16x1_S2048x16x16x128_23_0_n_n_0_2_116128 k i (ValueIdx.ix4 n kk l j) = k (ValueIdx.ix3 r l j) := by
  unfold Host.gather
  have hri : (i (ValueIdx.ix3 n kk (0 : Fin 1))).toInt.toNat = r.val := by
    rw [WordCmp.toInt_eq_toNat_of_lt_half (by have := r.isLt; omega), hr]; rfl
  congr 1
  funext a
  refine Fin.ext ?_
  show GatherDims.start _ _ i a + GatherDims.batchCoord _ _ a + GatherDims.offCoord _ _ a = _
  rw [GatherDims.batchCoord_eq_zero _ _ _ (by exact List.not_mem_nil)]
  have hsi : ∀ p, GatherDims.siIdx gather_S4096x16x128_S2048x16x1_S2048x16x16x128_23_0_n_n_0_2_116128 (ValueIdx.ix4 n kk l j) p = ValueIdx.ix3 n kk (0 : Fin 1) := by
    intro p; funext b; refine Fin.ext ?_; fin_cases b
    · rfl
    · rfl
    · have := p.isLt; change p.val < 1 at this; show p.val = 0; omega
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S4096x16x128_S2048x16x1_S2048x16x16x128_23_0_n_n_0_2_116128.startIndexMap from List.mem_singleton.mpr rfl), hsi, hri]
    have := r.isLt
    show min r.val (4096 - 1) + 0 + 0 = r.val
    omega
  · unfold GatherDims.start
    rw [dif_neg (show (1 : Fin 3) ∉ gather_S4096x16x128_S2048x16x1_S2048x16x16x128_23_0_n_n_0_2_116128.startIndexMap by decide)]
    exact (Nat.zero_add _).trans rfl
  · unfold GatherDims.start
    rw [dif_neg (show (2 : Fin 3) ∉ gather_S4096x16x128_S2048x16x1_S2048x16x16x128_23_0_n_n_0_2_116128.startIndexMap by decide)]
    exact (Nat.zero_add _).trans rfl

theorem took_apply (x : IVec S2048x16 32) (hx : ∀ y, (x y).toNat < 4096) (k : FVec F S4096x16x128 .f32) (n : Fin 2048) (kk l : Fin 16) (j : Fin 128) :
    took x k (ValueIdx.ix4 n kk l j) = k (ValueIdx.ix3 (⟨(x (ValueIdx.ix2 n kk)).toNat, hx _⟩ : Fin 4096) l j) := by
  have hb : ∀ z : S2048x16x1.Idx, broadcastInDim S2048x16x1 ![0, 1] bcast_S2048x16_S2048x16x1_0_1 (wrap x) z = x (ValueIdx.ix2 (z 0 : Fin 2048) (z 1 : Fin 16)) := by
    intro z
    rw [broadcastInDim_apply (k := (ValueIdx.ix2 (z 0 : Fin 2048) (z 1 : Fin 16) : S2048x16.Idx)) (hk := by intro a; fin_cases a <;> rfl), wrap_apply x hx]
  have hc : ∀ y, Host.reduce IntOp.andi (andi (cmpi .sge (broadcastInDim S2048x16x1 ![0, 1] bcast_S2048x16_S2048x16x1_0_1 (wrap x)) (broadcastInDim S2048x16x1 ![] bcast_S_S2048x16x1 (constantI S_ 32 0#32))) (cmpi .sle (broadcastInDim S2048x16x1 ![0, 1] bcast_S2048x16_S2048x16x1_0_1 (wrap x)) (broadcastInDim S2048x16x1 ![0, 1, 2] bcast_S1x1x1_S2048x16x1_0_1_2 (broadcastInDim S1x1x1 ![2] bcast_S1_S1x1x1_2 (constantI S1 32 4095#32))))) (constantI S_ 1 1#1) reducesTo_S2048x16x1_S2048x16_d2 h_S_ y = 1#1 := by
    intro y
    refine Host.reduce_andi_one _ _ _ _ _ rfl fun z => ?_
    show IntOp.andi (IntOp.cmpi .sge (broadcastInDim S2048x16x1 ![0, 1] bcast_S2048x16_S2048x16x1_0_1 (wrap x) z) 0#32)
      (IntOp.cmpi .sle (broadcastInDim S2048x16x1 ![0, 1] bcast_S2048x16_S2048x16x1_0_1 (wrap x) z) 4095#32) = 1#1
    rw [hb]
    have h := hx (ValueIdx.ix2 (z 0 : Fin 2048) (z 1 : Fin 16))
    generalize x (ValueIdx.ix2 (z 0 : Fin 2048) (z 1 : Fin 16)) = w at h
    rw [WordCmp.cmpi_sge_zero, decide_eq_true (by omega : w.toNat < 2 ^ (32 - 1)), WordCmp.cmpi_sle_eq,
      WordCmp.toInt_eq_toNat_of_lt_half (by omega : w.toNat < 2 ^ (32 - 1)), decide_eq_true (by
        show (w.toNat : ℤ) ≤ (4095#32).toInt
        rw [show (4095#32).toInt = 4095 from by decide]; omega)]
    rfl
  unfold took
  rw [ValueIdx.select_apply, broadcastInDim_apply (k := (ValueIdx.ix2 n kk : S2048x16.Idx)) (hk := by intro a; fin_cases a <;> rfl), hc,
    ValueIdx.select_one]
  exact gather_apply _ _ _ _ _ _ ⟨(x (ValueIdx.ix2 n kk)).toNat, hx _⟩ (congrArg BitVec.toNat (hb (ValueIdx.ix3 n kk (0 : Fin 1))))

theorem dots_apply (x : IVec S2048x16 32) (hx : ∀ y, (x y).toNat < 4096) (q : FVec Ideal S2048x128 .f32) (k : FVec Ideal S4096x16x128 .f32)
    (n : Fin 2048) (kk l : Fin 16) :
    dots x q k (ValueIdx.ix3 n kk l)
      = ∑ j : Fin 128, FloatOps.mulf (F := Ideal) (q (ValueIdx.ix2 n j)) (k (ValueIdx.ix3 (⟨(x (ValueIdx.ix2 n kk)).toNat, hx _⟩ : Fin 4096) l j)) := by
  unfold dots
  rw [shapeCast_apply (k := (ValueIdx.ix4 n kk (0 : Fin 1) l : S2048x16x1x16.Idx)) (hk := by
      rw [Shape.rowMajor_val_four, Shape.rowMajor_val_three]; show ((n.val * 16 + kk.val) * 1 + 0) * 16 + l.val = (n.val * 16 + kk.val) * 16 + l.val; omega),
    transpose_apply (k := (ValueIdx.ix4 n (0 : Fin 1) kk l : S2048x1x16x16.Idx)) (hk := by intro b; fin_cases b <;> rfl)]
  simp only [Host.dotGeneral]
  rw [Ideal.dotGeneral_def, Ideal.matmul_apply₁_of _ rfl (K := 128) rfl _ _ _ _ (fun j : Fin 128 => (ValueIdx.ix3 n (0 : Fin 1) j : S2048x1x128.Idx))
    (fun j : Fin 128 => (ValueIdx.ix4 n kk j l : S2048x16x128x16.Idx)) (by intro j; funext a; fin_cases a <;> rfl) (by intro j; funext a; fin_cases a <;> rfl)]
  refine (zero_add _).trans (Finset.sum_congr rfl fun j _ => ?_)
  rw [shapeCast_apply (k := (ValueIdx.ix4 n (0 : Fin 1) (0 : Fin 1) j : S2048x1x1x128.Idx)) (hk := by
      rw [Shape.rowMajor_val_four, Shape.rowMajor_val_three]; show ((n.val * 1 + 0) * 1 + 0) * 128 + j.val = (n.val * 1 + 0) * 128 + j.val; omega),
    broadcastInDim_apply (k := (ValueIdx.ix3 n (0 : Fin 1) j : S2048x1x128.Idx)) (hk := by intro a; fin_cases a <;> rfl),
    broadcastInDim_apply (k := (ValueIdx.ix2 n j : S2048x128.Idx)) (hk := by intro a; fin_cases a <;> rfl),
    transpose_apply (k := (ValueIdx.ix4 n kk l j : S2048x16x16x128.Idx)) (hk := by intro b; fin_cases b <;> rfl), took_apply x hx]
  rfl

section Entries
variable (a : FVec Ideal S2048x16x16 .f32) (n : Fin 2048) (kk l : Fin 16)

theorem scaled_apply : scaled a (ValueIdx.ix3 n kk l) = Ideal.div (a (ValueIdx.ix3 n kk l)) Top.scale := rfl

theorem reduces_last : S2048x16x16.Reduces [2] S2048x16 := by decide

theorem lift_last (n : Fin 2048) (kk l : Fin 16) : reduces_last.lift (ValueIdx.ix2 n kk : S2048x16.Idx) l = ValueIdx.ix3 n kk l := by
  funext b; fin_cases b <;> rfl

theorem spread_apply (v : FVec Ideal S2048x16 .f32) : spread v (ValueIdx.ix3 n kk l) = v (ValueIdx.ix2 n kk) := by
  unfold spread
  rw [broadcastInDim_apply (k := (ValueIdx.ix3 n kk (0 : Fin 1) : S2048x16x1.Idx)) (hk := by intro a; fin_cases a <;> rfl),
    broadcastInDim_apply (k := (ValueIdx.ix2 n kk : S2048x16.Idx)) (hk := by intro a; fin_cases a <;> rfl)]

theorem reduced_apply : Host.reduce FloatOps.maximumf (scaled a) (constant S_ .f32 0xFF800000#32) reducesTo_S2048x16x16_S2048x16_d2 h_S_ (ValueIdx.ix2 n kk)
    = Top.peak fun l => a (ValueIdx.ix3 n kk l) := by
  refine (congrFun (hostReduce_maximumf_eq_multiReduction (scaled a) 0xFF800000#32 _ _ reduces_last (.inl rfl) rfl) _).trans ?_
  refine (Ideal.multiReduction_maximumf_single _ _ _ _ _ _).trans ?_
  rw [Top.minusInf]
  have e : (scaled a ∘ reduces_last.lift (ValueIdx.ix2 n kk : S2048x16.Idx)) = fun l => Ideal.div (a (ValueIdx.ix3 n kk l)) Top.scale := by
    funext (l : Fin 16)
    exact (congrArg (scaled a) (lift_last n kk l)).trans (scaled_apply a n kk l)
  rw [e]
  rfl

theorem peaks_apply : peaks a (ValueIdx.ix2 n kk) = Top.peak fun l => a (ValueIdx.ix3 n kk l) := by
  unfold peaks
  show max (FloatOps.ofBits (F := Ideal) .f32 0xFF800000#32 : EReal) (Host.reduce FloatOps.maximumf (scaled a) (constant S_ .f32 0xFF800000#32) reducesTo_S2048x16x16_S2048x16_d2 h_S_ (ValueIdx.ix2 n kk)) = _
  rw [Top.minusInf, reduced_apply]
  exact max_eq_right bot_le

theorem expos_apply : expos a (ValueIdx.ix3 n kk l) = Top.expo (fun l => a (ValueIdx.ix3 n kk l)) l := by
  unfold expos
  show Ideal.exp (scaled a (ValueIdx.ix3 n kk l) - spread (peaks a) (ValueIdx.ix3 n kk l)) = _
  rw [spread_apply, peaks_apply, scaled_apply]
  rfl

theorem sums_apply : sums a (ValueIdx.ix2 n kk) = ∑ l : Fin 16, Top.expo (fun l => a (ValueIdx.ix3 n kk l)) l := by
  unfold sums
  refine (Ideal.hostReduceAdd_single _ reduces_last _ _ _).trans ?_
  refine Eq.trans (b := (0 : EReal) + _) (congrArg (· + _) Ideal.ofBits_zero_f32) ((zero_add _).trans (Finset.sum_congr rfl fun (l : Fin 16) _ => ?_))
  exact (congrArg (expos a) (lift_last n kk l)).trans (expos_apply a n kk l)

theorem attn_apply (w : FVec Ideal S2048x16 .f32) : attn a w (ValueIdx.ix2 n (Dots.at16 kk l))
    = Top.share (fun l => a (ValueIdx.ix3 n kk l)) (w (ValueIdx.ix2 n kk)) l := by
  unfold attn
  rw [shapeCast_apply (k := (ValueIdx.ix3 n kk l : S2048x16x16.Idx)) (hk := by
      rw [Shape.rowMajor_val_three, Shape.rowMajor_val_two]; show (n.val * 16 + kk.val) * 16 + l.val = n.val * 256 + (16 * kk.val + l.val); omega)]
  show (spread w (ValueIdx.ix3 n kk l) * Ideal.div (expos a (ValueIdx.ix3 n kk l)) (spread (sums a) (ValueIdx.ix3 n kk l)) : EReal) = _
  rw [spread_apply, spread_apply, sums_apply, expos_apply]
  rfl

end Entries

/-- Rows of `w` entries, one for each query. -/
abbrev Sq (w : ℕ) : Shape := ⟨2, ![2048, w]⟩

section Ranked
variable {w : ℕ} (a : FVec Ideal (Sq w) .f32) (n : Fin 2048)

theorem before_eq : (fun k k' : Fin w => FloatOps.cmpfTotal (F := Ideal) (φ := .f32) .gt (Top.line a n k) (Top.line a n k') == 1#1)
    = fun k k' => decide (Top.line a n k' < Top.line a n k) := by
  funext k k'
  show (BitVec.ofBool (decide (Top.line a n k' < Top.line a n k)) == 1#1) = _
  cases decide (Top.line a n k' < Top.line a n k) <;> rfl

theorem along_eq (c k : Fin w) : Shape.Idx.along (ValueIdx.ix2 n c : (Sq w).Idx) 1 k = ValueIdx.ix2 n k := by
  funext b
  match b with
  | ⟨0, _⟩ => rfl
  | ⟨1, _⟩ => rfl

/-- The rows sorted, with their places. -/
def ranked (a : FVec Ideal (Sq w) .f32) : ((Sq w).Idx → Ideal .f32) × ((Sq w).Idx → BitVec 32) :=
  Host.sort2 (Sq w) 1 (fun l r => FloatOps.cmpfTotal (F := Ideal) (φ := .f32) .gt l.1 r.1) a
    (fun i => if hd : 1 < (Sq w).rank then iotaInDim (Sq w) 32 ⟨1, hd⟩ i else 0#32)

theorem order_eq (c : Fin w) :
    sortedFrom (fun k k' : Fin w => FloatOps.cmpfTotal (F := Ideal) (φ := .f32) .gt (a (Shape.Idx.along (ValueIdx.ix2 n c : (Sq w).Idx) 1 k))
      (a (Shape.Idx.along (ValueIdx.ix2 n c : (Sq w).Idx) 1 k')) == 1#1) c
      = sortedFrom (fun k k' => decide (Top.line a n k' < Top.line a n k)) c := by
  rw [← before_eq]
  refine congrArg (fun B => sortedFrom B c) (funext fun k => funext fun k' => ?_)
  rw [along_eq, along_eq]
  rfl

theorem number_eq : (fun i : (Sq w).Idx => if hd : 1 < (Sq w).rank then iotaInDim (Sq w) 32 ⟨1, hd⟩ i else 0#32)
    = fun i => BitVec.ofNat 32 (i 1).val := funext fun _ => dif_pos (show 1 < 2 by decide)

theorem ranked_apply (c : Fin w) : (ranked a).1 (ValueIdx.ix2 n c)
      = Top.line a n (sortedFrom (fun k k' => decide (Top.line a n k' < Top.line a n k)) c)
    ∧ (ranked a).2 (ValueIdx.ix2 n c)
      = BitVec.ofNat 32 (sortedFrom (fun k k' => decide (Top.line a n k' < Top.line a n k)) c).val := by
  rw [← order_eq]
  unfold ranked Host.sort2
  rw [dif_pos (show 1 < 2 by decide), number_eq]
  refine ⟨congrArg a (along_eq n c _), ?_⟩
  refine (congrArg (fun i : (Sq w).Idx => BitVec.ofNat 32 (i 1).val) (along_eq n c _)).trans ?_
  rfl

variable (hw : 16 ≤ w) (hs : (Sq w).Slices (fun _ => 0) (Sq 16)) (j : Fin 16)
include hw

theorem topK_fst : (Host.topK (Sq 16) 1 (FloatOps.cmpfTotal (F := Ideal) (φ := .f32) .gt) a hs).1 (ValueIdx.ix2 n j)
    = Top.line a n (sortedFrom (fun k k' => decide (Top.line a n k' < Top.line a n k)) (j.castLE hw)) := by
  refine Eq.trans ?_ (ranked_apply a n (j.castLE hw)).1
  show extractStridedSlice (Sq 16) (fun _ => 0) (ranked a).1 hs (ValueIdx.ix2 n j) = _
  exact extractStridedSlice_apply _ _ _ _ _ (by intro b; fin_cases b <;> exact (Nat.zero_add _).symm)

theorem topK_snd : (Host.topK (Sq 16) 1 (FloatOps.cmpfTotal (F := Ideal) (φ := .f32) .gt) a hs).2 (ValueIdx.ix2 n j)
    = BitVec.ofNat 32 (sortedFrom (fun k k' => decide (Top.line a n k' < Top.line a n k)) (j.castLE hw)).val := by
  refine Eq.trans ?_ (ranked_apply a n (j.castLE hw)).2
  show extractStridedSlice (Sq 16) (fun _ => 0) (ranked a).2 hs (ValueIdx.ix2 n j) = _
  exact extractStridedSlice_apply _ _ _ _ _ (by intro b; fin_cases b <;> exact (Nat.zero_add _).symm)

end Ranked

section Best
variable (a : FVec Ideal S2048x256 .f32) (n : Fin 2048) (j : Fin 16)

theorem best_apply : best a (ValueIdx.ix2 n j)
    = Top.line a n (sortedFrom (fun k k' => decide (Top.line a n k' < Top.line a n k)) (j.castLE (by omega))) :=
  topK_fst a n (by omega) _ j

theorem where16_apply : where16 a (ValueIdx.ix2 n j)
    = BitVec.ofNat 32 (sortedFrom (fun k k' => decide (Top.line a n k' < Top.line a n k)) (j.castLE (by omega))).val :=
  topK_snd a n (by omega) _ j

theorem reduces_row : S2048x16.Reduces [1] S2048 := by decide

theorem totals_apply (v : FVec Ideal S2048x16 .f32) : totals v (ValueIdx.ix2 n j) = ∑ i : Fin 16, Top.line v n i := by
  unfold totals
  rw [broadcastInDim_apply (k := (ValueIdx.ix2 n (0 : Fin 1) : S2048x1.Idx)) (hk := by intro a; fin_cases a <;> rfl),
    broadcastInDim_apply (k := (ValueIdx.ix1 n : S2048.Idx)) (hk := by intro a; fin_cases a; rfl)]
  refine (Ideal.hostReduceAdd_single _ reduces_row _ _ _).trans ?_
  refine Eq.trans (b := (0 : EReal) + _) (congrArg (· + _) Ideal.ofBits_zero_f32) ((zero_add _).trans (Finset.sum_congr rfl fun (i : Fin 16) _ => ?_))
  refine congrArg v ?_
  funext b
  fin_cases b <;> rfl

theorem overSum_apply (v : FVec Ideal S2048x16 .f32) :
    overSum v (ValueIdx.ix2 n j) = Ideal.div (v (ValueIdx.ix2 n j)) (∑ i : Fin 16, Top.line v n i) := by
  rw [← totals_apply n j]
  rfl

end Best

end Cert.Proof.Ref

end
-- ==== Proof.Results.lean ====
/-
  The results beside the reference's, over the extended reals: the rows of weighted softmax agree, and so do the sixteen
  entries and places taken of each.
-/
module

public import proofs.«01_k».proof.Proof.Values
public import proofs.«01_k».proof.Proof.Reference

@[expose] public section

noncomputable section

namespace Cert.Proof.Dots

open Cert.KernelIdeal Cert.KernelIdeal.Gen
open Idealize.ShloMosaic Idealize.ShloMosaic.Tactic

section Read
variable {F : FTy → Type} [FloatOps F] (m : (ℓ : Loc nD τ sig) → Buf (Elt F) ℓ)

theorem VB_dots (d : Dev nD) : VB m d main_v11 = res m d := VD_o m d

theorem VB_weights (d : Dev nD) : VB m d main_arg1 = aw m d :=
  (VD_ne m d (b := Proc.devRef .tc (main_arg1 : Ref sig .tc)) (by decide)).trans (by unfold VH hostOps; after_reads_simp; rfl)

end Read

variable (m : (ℓ : Loc nD τ sig) → Buf (Elt Ideal) ℓ)

/-- The float arguments are real. -/
def Real0 : Prop := ∀ d : Dev nD, (∀ y, Top.IsReal (aw m d y)) ∧ (∀ y, Top.IsReal (a1 m d y)) ∧ ∀ y, Top.IsReal (a2 m d y)

/-- The reference's weighted softmax of the arguments. -/
def refRows (d : Dev nD) : S2048x256.Idx → EReal := Ref.attn (F := Ideal) (Ref.dots (a0 m d) (a1 m d) (a2 m d)) (aw m d)

/-- The second call's, of a block. -/
def blkRows (d : Dev nD) (t : Fin 8) : S256x256.Idx → EReal :=
  k1_pay2 (F := Ideal) (blockOf t (res m d : S2048x256.Idx → Ideal .f32)) (blockOf t (aw m d))

theorem place_split (c : Fin 256) : ∃ k l : Fin 16, c = at16 k l :=
  ⟨⟨c.val / 16, by omega⟩, ⟨c.val % 16, by omega⟩, Fin.ext (by show c.val = 16 * (c.val / 16) + c.val % 16; omega)⟩

variable {m}

theorem group_eq (h : Idx0 m) (d : Dev nD) (t : Fin 8) (r : Fin 256) (k : Fin 16) :
    group (blockOf t (res m d : S2048x256.Idx → Ideal .f32)) r k
      = fun l => Ref.dots (F := Ideal) (a0 m d) (a1 m d) (a2 m d) (ValueIdx.ix3 (blkRow t r) k l) := by
  funext l
  show (res m d : S2048x256.Idx → Ideal .f32) (ValueIdx.ix2 (blkRow t r) (at16 k l)) = _
  refine (res_ideal m h d (blkRow t r) k l).trans ?_
  refine Eq.trans ?_ (Ref.dots_apply _ (h d) _ _ _ _ _).symm
  exact Finset.sum_congr rfl fun j _ => mul_comm (G := EReal) _ _

theorem rows_eq (h : Idx0 m) (d : Dev nD) (t : Fin 8) (r : Fin 256) : Top.line (blkRows m d t) r = Top.line (refRows m d) (blkRow t r) := by
  funext c
  obtain ⟨k, l, rfl⟩ := place_split c
  refine (pay2_apply _ _ r k l).trans ?_
  rw [group_eq h]
  exact (Ref.attn_apply _ (blkRow t r) k l _).symm

theorem rows_ne_bot (h : Idx0 m) (hr : Real0 m) (d : Dev nD) (n : Fin 2048) (c : Fin 256) : Top.line (refRows m d) n c ≠ ⊥ := by
  obtain ⟨k, l, rfl⟩ := place_split c
  have e : Top.line (refRows m d) n (at16 k l) = _ := Ref.attn_apply _ n k l _
  rw [e]
  refine (Top.share_real (fun l => ?_) ((hr d).1 _) l).ne_bot
  rw [Ref.dots_apply _ (h d)]
  exact Top.IsReal.sum _ _ fun j => ((hr d).2.1 _).mul ((hr d).2.2 _)

theorem row_split (n : Fin 2048) : ∃ (t : Fin 8) (r : Fin 256), n = blkRow t r :=
  ⟨⟨n.val / 256, by omega⟩, ⟨n.val % 256, by omega⟩, Fin.ext (by show n.val = 256 * (n.val / 256) + n.val % 256; omega)⟩

theorem vals_eq (h : Idx0 m) (hr : Real0 m) (d : Dev nD) (t : Fin 8) (r : Fin 256) :
    Top.line (vals (F := Ideal) (blkRows m d t)) r = Top.line (Ref.best (F := Ideal) (refRows m d)) (blkRow t r) := by
  funext j
  refine (Top.vals_apply wide _ r (by omega) (fun q => by rw [rows_eq h]; exact rows_ne_bot h hr d _ q) j).trans ?_
  rw [rows_eq h]
  exact (Ref.best_apply _ _ _).symm

/-- The places. -/
theorem places_eq (h : Idx0 m) (hr : Real0 m) (d : Dev nD) :
    (fiArr (VB m) d : S2048x16.Idx → BitVec 32) = Ref.where16 (F := Ideal) (refRows m d) := by
  funext y
  obtain ⟨t, r, e⟩ := row_split (y 0)
  have ey : y = ValueIdx.ix2 (blkRow t r) (y 1 : Fin 16) := by
    funext b
    match b with
    | ⟨0, _⟩ => exact e
    | ⟨1, _⟩ => rfl
  rw [ey]
  refine (fiArr_apply _ _ _ _ _).trans ?_
  rw [VB_dots, VB_weights]
  refine (Top.places_apply wide (blkRows m d t) r (by omega) (fun q => by rw [rows_eq h]; exact rows_ne_bot h hr d _ q) (y 1)).trans ?_
  rw [rows_eq h]
  exact (Ref.where16_apply _ _ _).symm

/-- The entries over their sum. -/
theorem entries_eq (h : Idx0 m) (hr : Real0 m) (d : Dev nD) :
    (fvArr (VB m) d : S2048x16.Idx → EReal) = Ref.overSum (F := Ideal) (Ref.best (refRows m d)) := by
  funext y
  obtain ⟨t, r, e⟩ := row_split (y 0)
  have ey : y = ValueIdx.ix2 (blkRow t r) (y 1 : Fin 16) := by
    funext b
    match b with
    | ⟨0, _⟩ => exact e
    | ⟨1, _⟩ => rfl
  rw [ey]
  refine (fvArr_apply _ _ _ _ _).trans ?_
  rw [VB_dots, VB_weights]
  refine (normed_apply (vals (F := Ideal) (blkRows m d t)) r (y 1)).trans ?_
  refine Eq.trans ?_ (Ref.overSum_apply _ _ _).symm
  rw [vals_eq h hr]
  exact congrArg (fun s => Ideal.div s _) (congrFun (vals_eq h hr d t r) (y 1))

end Cert.Proof.Dots

end
-- ==== Proof.FirstSelect.lean ====
/-
  The first level's selection as plain functions of the blocks it reads: the exponentials over their sum, and sixteen rounds
  over rows of 4096 entries.
-/
module

public import proofs.«01_k».proof.Proof.Select
public import proofs.«01_k».proof.Proof.Gen.FirstIdeal.Frame
public import Idealize.ShloMosaic.Lib.Pipeline.ValueKit.Basic

@[expose] public section

noncomputable section

namespace Cert.Proof.Lead

open Cert.FirstIdeal Cert.FirstIdeal.Gen
open Idealize.ShloMosaic

variable {F : FTy → Type} [FloatOps F]

/-- The rounds' shapes fit at 4096 entries a row. -/
theorem wide : Top.Wide 4096 where
  number := iota_S256x4096_d1_w32
  reduce := reduces_S256x4096_S256
  column := shapeCasts_S256_S256x1
  spread := broadcasts_S256x1_S256x4096
  beside := concatenates_S256x1_S256x1_S256x1_S256x1_S256x1_S256x1_S256x1_S256x1_S256x1_S256x1_S256x1_S256x1_S256x1_S256x1_S256x1_S256x1_S256x16_d1
  small := by decide

/-- The rounds at 4096 entries a row. -/
abbrev cols : IVec S256x4096 32 := Top.cols wide
abbrev topv (x : FVec F S256x4096 .f32) : FVec F S256x1 .f32 := Top.topv wide x
abbrev firsts (x : FVec F S256x4096 .f32) : IVec S256x4096 32 := Top.firsts wide x
abbrev topi (x : FVec F S256x4096 .f32) : IVec S256x1 32 := Top.topi wide x
abbrev first (x : FVec F S256x4096 .f32) : IVec S256x4096 32 := Top.first wide x
abbrev cur (x : FVec F S256x4096 .f32) (n : ℕ) : FVec F S256x4096 .f32 := Top.cur wide x n
abbrev vals (x : FVec F S256x4096 .f32) : FVec F S256x16 .f32 := Top.vals wide x
abbrev places (x : FVec F S256x4096 .f32) : IVec S256x16 32 := Top.places wide x

/-! ## The printed values are these -/

section
variable (x : Vec F S256x4096 .f32) (s : Vec F S256x1 .f32) (a : FVec F S256x4096 .f32) (n : ℕ)

theorem pay8_eq : k1_pay8 x s = topv (cur (k1_pay7 x s) 0) := rfl
theorem pay9_eq : k1_pay9 x s = topi (cur (k1_pay7 x s) 0) := by unfold k1_pay9; rw [pay8_eq]; rfl
theorem pay10_eq : k1_pay10 x s = cur (k1_pay7 x s) 1 := by unfold k1_pay10; rw [pay9_eq]; rfl
theorem pay11_eq : k1_pay11 x s = topv (cur (k1_pay7 x s) 1) := by unfold k1_pay11; rw [pay10_eq]; rfl
theorem pay12_eq : k1_pay12 x s = topi (cur (k1_pay7 x s) 1) := by unfold k1_pay12; rw [pay11_eq, pay10_eq]; rfl
theorem pay13_eq : k1_pay13 x s = cur (k1_pay7 x s) 2 := by unfold k1_pay13; rw [pay12_eq, pay10_eq]; rfl
theorem pay14_eq : k1_pay14 x s = topv (cur (k1_pay7 x s) 2) := by unfold k1_pay14; rw [pay13_eq]; rfl
theorem pay15_eq : k1_pay15 x s = topi (cur (k1_pay7 x s) 2) := by unfold k1_pay15; rw [pay14_eq, pay13_eq]; rfl
theorem pay16_eq : k1_pay16 x s = cur (k1_pay7 x s) 3 := by unfold k1_pay16; rw [pay15_eq, pay13_eq]; rfl
theorem pay17_eq : k1_pay17 (cur a n) = topv (cur a n) := rfl
theorem pay18_eq : k1_pay18 cols (cur a n) = topi (cur a n) := by unfold k1_pay18; rw [pay17_eq]; rfl
theorem pay19_eq : k1_pay19 cols (cur a n) = cur a (n + 1) := by unfold k1_pay19; rw [pay18_eq]; rfl
theorem pay20_eq : k1_pay20 cols (cur a n) = topv (cur a (n + 1)) := by unfold k1_pay20; rw [pay19_eq]; rfl
theorem pay21_eq : k1_pay21 cols (cur a n) = topi (cur a (n + 1)) := by unfold k1_pay21; rw [pay20_eq, pay19_eq]; rfl
theorem pay22_eq : k1_pay22 cols (cur a n) = cur a (n + 2) := by unfold k1_pay22; rw [pay21_eq, pay19_eq]; rfl
theorem pay23_eq : k1_pay23 cols (cur a n) = topv (cur a (n + 2)) := by unfold k1_pay23; rw [pay22_eq]; rfl
theorem pay24_eq : k1_pay24 cols (cur a n) = topi (cur a (n + 2)) := by unfold k1_pay24; rw [pay23_eq, pay22_eq]; rfl
theorem pay25_eq : k1_pay25 cols (cur a n) = cur a (n + 3) := by unfold k1_pay25; rw [pay24_eq, pay22_eq]; rfl
theorem pay26_eq : k1_pay26 cols (cur a n) = topv (cur a (n + 3)) := by unfold k1_pay26; rw [pay25_eq]; rfl
theorem pay27_eq : k1_pay27 cols (cur a n) = topi (cur a (n + 3)) := by unfold k1_pay27; rw [pay26_eq, pay25_eq]; rfl
theorem pay28_eq : k1_pay28 cols (cur a n) = first (cur a (n + 3)) := by unfold k1_pay28; rw [pay27_eq]; rfl
theorem pay29_eq : k1_pay29 cols (cur a n) (first (cur a n)) = cur a (n + 1) := rfl
theorem pay30_eq : k1_pay30 cols (cur a n) (first (cur a n)) = topv (cur a (n + 1)) := by unfold k1_pay30; rw [pay29_eq]; rfl
theorem pay31_eq : k1_pay31 cols (cur a n) (first (cur a n)) = topi (cur a (n + 1)) := by unfold k1_pay31; rw [pay30_eq, pay29_eq]; rfl
theorem pay32_eq : k1_pay32 cols (cur a n) (first (cur a n)) = cur a (n + 2) := by unfold k1_pay32; rw [pay31_eq, pay29_eq]; rfl
theorem pay33_eq : k1_pay33 cols (cur a n) (first (cur a n)) = topv (cur a (n + 2)) := by unfold k1_pay33; rw [pay32_eq]; rfl
theorem pay34_eq : k1_pay34 cols (cur a n) (first (cur a n)) = topi (cur a (n + 2)) := by unfold k1_pay34; rw [pay33_eq, pay32_eq]; rfl
theorem pay35_eq : k1_pay35 cols (cur a n) (first (cur a n)) = cur a (n + 3) := by unfold k1_pay35; rw [pay34_eq, pay32_eq]; rfl
theorem pay36_eq : k1_pay36 cols (cur a n) (first (cur a n)) = topv (cur a (n + 3)) := by unfold k1_pay36; rw [pay35_eq]; rfl
theorem pay37_eq : k1_pay37 cols (cur a n) (first (cur a n)) = topi (cur a (n + 3)) := by unfold k1_pay37; rw [pay36_eq, pay35_eq]; rfl
theorem pay38_eq : k1_pay38 cols (cur a n) (first (cur a n)) = cur a (n + 4) := by unfold k1_pay38; rw [pay37_eq, pay35_eq]; rfl
theorem pay39_eq : k1_pay39 cols (cur a n) (first (cur a n)) = topv (cur a (n + 4)) := by unfold k1_pay39; rw [pay38_eq]; rfl
theorem pay40_eq : k1_pay40 cols (cur a n) (first (cur a n)) = firsts (cur a (n + 4)) := by unfold k1_pay40; rw [pay39_eq, pay38_eq]; rfl
theorem pay41_eq : k1_pay41 (firsts (cur a n)) = topi (cur a n) := rfl
theorem pay42_eq : k1_pay42 cols (cur a n) (firsts (cur a n)) = cur a (n + 1) := by unfold k1_pay42; rw [pay41_eq]; rfl
theorem pay43_eq : k1_pay43 cols (cur a n) (firsts (cur a n)) = topv (cur a (n + 1)) := by unfold k1_pay43; rw [pay42_eq]; rfl
theorem pay44_eq : k1_pay44 cols (cur a n) (firsts (cur a n)) = topi (cur a (n + 1)) := by unfold k1_pay44; rw [pay43_eq, pay42_eq]; rfl
theorem pay45_eq : k1_pay45 cols (cur a n) (firsts (cur a n)) = cur a (n + 2) := by unfold k1_pay45; rw [pay44_eq, pay42_eq]; rfl
theorem pay46_eq : k1_pay46 cols (cur a n) (firsts (cur a n)) = topv (cur a (n + 2)) := by unfold k1_pay46; rw [pay45_eq]; rfl
theorem pay47_eq : k1_pay47 cols (cur a n) (firsts (cur a n)) = topi (cur a (n + 2)) := by unfold k1_pay47; rw [pay46_eq, pay45_eq]; rfl
theorem pay48_eq : k1_pay48 cols (cur a n) (firsts (cur a n)) = cur a (n + 3) := by unfold k1_pay48; rw [pay47_eq, pay45_eq]; rfl
theorem pay49_eq : k1_pay49 cols (cur a n) (firsts (cur a n)) = topv (cur a (n + 3)) := by unfold k1_pay49; rw [pay48_eq]; rfl
theorem pay50_eq : k1_pay50 cols (cur a n) (firsts (cur a n)) = topi (cur a (n + 3)) := by unfold k1_pay50; rw [pay49_eq, pay48_eq]; rfl
theorem pay51_eq : k1_pay51 cols (cur a n) (firsts (cur a n)) = cur a (n + 4) := by unfold k1_pay51; rw [pay50_eq, pay48_eq]; rfl
theorem pay52_eq : k1_pay52 cols (cur a n) (firsts (cur a n)) = topv (cur a (n + 4)) := by unfold k1_pay52; rw [pay51_eq]; rfl
theorem pay1_eq : k1_pay1 cols (cur a (n + 4)) (k1_pay53 cols (cur a n) (firsts (cur a n))) = topi (cur a (n + 4)) := by unfold k1_pay53; rw [pay52_eq]; rfl
theorem pay2_eq : k1_pay2 cols (cur a n) (topi (cur a n)) = cur a (n + 1) := rfl
theorem pay3_eq : k1_pay3 (cur a n) = topv (cur a n) := rfl
theorem pay4_eq : k1_pay4 cols (cur a n) (topv (cur a n)) = firsts (cur a n) := rfl
end

theorem cols_eq (x : Vec F S256x4096 .f32) (s : Vec F S256x1 .f32) : k1_pay54 x s = cols := rfl

theorem ld0 (x : Vec F S256x4096 .f32) : View.ld x r1_0 = x := View.ld_unit_lit _ _ (by decide)
theorem ld1 (s : Vec F S256x1 .f32) : View.ld s r1_1 = s := View.ld_unit_lit _ _ (by decide)

section
variable (x : Vec F S256x4096 .f32) (s : Vec F S256x1 .f32)

/-- The values that the body keeps between its stretches. -/
theorem pay55_eq : k1_pay55 x s = cur (k1_pay7 x s) 3 := by
  unfold k1_pay55; rw [ld0, ld1, pay16_eq]
theorem pay56_eq : k1_pay56 x s = cur (k1_pay7 x s) 6 := by
  unfold k1_pay56; rw [cols_eq, pay55_eq, pay25_eq]
theorem pay57_eq : k1_pay57 x s = first (cur (k1_pay7 x s) 6) := by
  unfold k1_pay57; rw [cols_eq, pay55_eq, pay28_eq]
theorem pay58_eq : k1_pay58 x s = cur (k1_pay7 x s) 10 := by
  unfold k1_pay58; rw [cols_eq, pay56_eq, pay57_eq, pay38_eq]
theorem pay59_eq : k1_pay59 x s = firsts (cur (k1_pay7 x s) 10) := by
  unfold k1_pay59; rw [cols_eq, pay56_eq, pay57_eq, pay40_eq]
theorem pay60_eq : k1_pay60 x s = cur (k1_pay7 x s) 14 := by
  unfold k1_pay60; rw [cols_eq, pay58_eq, pay59_eq, pay51_eq]
theorem pay61_eq : k1_pay61 x s = topi (cur (k1_pay7 x s) 14) := by
  unfold k1_pay61; rw [cols_eq, pay58_eq, pay59_eq, pay60_eq]; exact pay1_eq _ 10
theorem pay62_eq : k1_pay62 x s = cur (k1_pay7 x s) 15 := by
  unfold k1_pay62; rw [cols_eq, pay60_eq, pay61_eq, pay2_eq]
theorem pay63_eq : k1_pay63 x s = topv (cur (k1_pay7 x s) 15) := by
  unfold k1_pay63; rw [pay62_eq, pay3_eq]

/-- What the body leaves of a block of exponentials and their sums: the places, -/
theorem out_places : out1_2 x s = places (k1_pay7 x s) := by
  unfold out1_2
  rw [View.canon_cons_unit_lit _ _ _ (by decide)]
  simp only [ld0, ld1, cols_eq, pay55_eq, pay56_eq, pay57_eq, pay58_eq, pay59_eq, pay61_eq, pay62_eq, pay63_eq, pay8_eq, pay9_eq, pay11_eq, pay12_eq, pay14_eq, pay15_eq, pay16_eq, pay17_eq, pay18_eq, pay20_eq, pay21_eq, pay23_eq, pay24_eq, pay25_eq, pay26_eq, pay27_eq, pay28_eq, pay30_eq, pay31_eq, pay33_eq, pay34_eq, pay36_eq, pay37_eq, pay38_eq, pay39_eq, pay40_eq, pay41_eq, pay43_eq, pay44_eq, pay46_eq, pay47_eq, pay49_eq, pay50_eq, pay51_eq, pay52_eq, pay1_eq, pay2_eq, pay3_eq, pay4_eq]
  unfold k1_pay5 places Top.places Top.beside
  simp only [Nat.reduceAdd]
  rfl

/-- and the entries over their sum. -/
theorem out_entries : out1_3 x s = Dots.normed (vals (k1_pay7 x s)) := by
  unfold out1_3
  rw [View.canon_cons_unit_lit _ _ _ (by decide)]
  simp only [ld0, ld1, cols_eq, pay55_eq, pay56_eq, pay57_eq, pay58_eq, pay59_eq, pay61_eq, pay62_eq, pay63_eq, pay8_eq, pay9_eq, pay11_eq, pay12_eq, pay14_eq, pay15_eq, pay16_eq, pay17_eq, pay18_eq, pay20_eq, pay21_eq, pay23_eq, pay24_eq, pay25_eq, pay26_eq, pay27_eq, pay28_eq, pay30_eq, pay31_eq, pay33_eq, pay34_eq, pay36_eq, pay37_eq, pay38_eq, pay39_eq, pay40_eq, pay41_eq, pay43_eq, pay44_eq, pay46_eq, pay47_eq, pay49_eq, pay50_eq, pay51_eq, pay52_eq, pay1_eq, pay2_eq, pay3_eq, pay4_eq]
  unfold k1_pay6 Dots.normed vals Dots.halv8 Top.vals Top.beside
  simp only [Nat.reduceAdd]
  rfl

end

end Cert.Proof.Lead

end
-- ==== Proof.FirstDots.lean ====
/-
  The first level's blocks over the extended reals: a row of the hidden vectors against the weights' columns, and its first
  half against the keys, whose exponentials past the row's largest the first call leaves and the second takes over their sum.
-/
module

public import proofs.«01_k».proof.Proof.FirstSelect
public import proofs.«01_k».proof.Proof.Softmax
public import Idealize.ShloMosaic.Lib.Pointwise.Contract
public import Idealize.ShloMosaic.PureOps.Ideal

@[expose] public section

noncomputable section

namespace Cert.Proof.Lead

open Cert.FirstIdeal Cert.FirstIdeal.Gen
open Idealize.ShloMosaic

/-- A row's product with a column of the weights, and the column's bias. -/
def proj {n : ℕ} (x : (⟨2, ![n, 1024]⟩ : Shape).Idx → EReal) (w : (⟨2, ![1024, 256]⟩ : Shape).Idx → EReal) (b : Fin 256 → EReal)
    (r : Fin n) (c : Fin 256) : EReal := (∑ j : Fin 1024, x (ValueIdx.ix2 r j) * w (ValueIdx.ix2 j c)) + b c

/-- The two halves of the columns. -/
def lo (j : Fin 128) : Fin 256 := ⟨j.val, by omega⟩
def hi (j : Fin 128) : Fin 256 := ⟨128 + j.val, by omega⟩

/-- A row's dots with the keys. -/
def logits {n : ℕ} (x : (⟨2, ![n, 1024]⟩ : Shape).Idx → EReal) (w : (⟨2, ![1024, 256]⟩ : Shape).Idx → EReal) (b : Fin 256 → EReal)
    (key : (⟨2, ![4096, 128]⟩ : Shape).Idx → EReal) (r : Fin n) (c : Fin 4096) : EReal :=
  ∑ j : Fin 128, proj x w b r (lo j) * key (ValueIdx.ix2 c j)

section First
variable (x : FVec Ideal S256x1024 .f32) (w : FVec Ideal S1024x256 .f32) (b : FVec Ideal S1x256 .f32) (key : FVec Ideal S4096x128 .f32)

/-- The bias as a function of the column. -/
def bias (b : (⟨2, ![1, 256]⟩ : Shape).Idx → EReal) (c : Fin 256) : EReal := b (ValueIdx.ix2 (0 : Fin 1) c)

theorem pay1_apply (r c : Fin 256) : (k0_pay1 x w b : FVec Ideal S256x256 .f32) (ValueIdx.ix2 r c) = proj x w (bias b) r c := by
  unfold k0_pay1
  show (matmul dot_S256x1024_S1024x256_S256x256_1_0_0_1_n_n none x w (constant S256x256 .f32 0x00000000#32) (ValueIdx.ix2 r c)
    + broadcastTo S256x256 (shapeCast S1x256 b shapeCasts_S1x256_S1x256) broadcasts_S1x256_S256x256 (ValueIdx.ix2 r c) : EReal) = _
  rw [broadcastTo_apply (k := (ValueIdx.ix2 (0 : Fin 1) c : S1x256.Idx)) (hk := by intro a; fin_cases a <;> rfl), shapeCast_apply (k := (ValueIdx.ix2 (0 : Fin 1) c : S1x256.Idx)) (hk := rfl)]
  refine congrArg (· + b (ValueIdx.ix2 (0 : Fin 1) c)) ?_
  refine (Ideal.matmul_apply₁_of _ rfl (K := 1024) rfl _ _ _ _ (fun j : Fin 1024 => (ValueIdx.ix2 r j : S256x1024.Idx))
    (fun j : Fin 1024 => (ValueIdx.ix2 j c : S1024x256.Idx)) (by intro j; funext a; fin_cases a <;> rfl) (by intro j; funext a; fin_cases a <;> rfl)).trans ?_
  exact Eq.trans (b := (0 : EReal) + _) (congrArg (· + _) Ideal.ofBits_zero_f32) (zero_add _)

/-- The queries left for the second level. -/
theorem pay2_apply (r : Fin 256) (j : Fin 128) : (k0_pay2 x w b : FVec Ideal S256x128 .f32) (ValueIdx.ix2 r j) = proj x w (bias b) r (hi j) := by
  unfold k0_pay2
  rw [← pay1_apply]
  exact extractStridedSlice_apply _ _ _ _ _ (by
    intro a
    fin_cases a
    · exact (Nat.zero_add _).symm
    · rfl)

/-- The first level's queries. -/
def query : FVec Ideal S256x128 .f32 := extractStridedSlice S256x128 ![0, 0] (k0_pay1 x w b) slices_S256x256_o0_0_S256x128

theorem query_apply (r : Fin 256) (j : Fin 128) : query x w b (ValueIdx.ix2 r j) = proj x w (bias b) r (lo j) := by
  unfold query
  rw [← pay1_apply]
  exact extractStridedSlice_apply _ _ _ _ _ (by intro a; fin_cases a <;> exact (Nat.zero_add _).symm)

/-- The scaled dots. -/
def scaled : FVec Ideal S256x4096 .f32 :=
  divf (matmul dot_S256x128_S4096x128_S256x4096_1_1_0_0_n_n none (query x w b) key (constant S256x4096 .f32 0x00000000#32))
    (broadcast S256x4096 (Scalar.sqrt (Scalar.ofBits .f32 0x43000000#32)))

theorem scaled_apply (r : Fin 256) (c : Fin 4096) : scaled x w b key (ValueIdx.ix2 r c) = Ideal.div (logits x w (bias b) key r c) Top.scale := by
  unfold scaled
  show Ideal.div (matmul dot_S256x128_S4096x128_S256x4096_1_1_0_0_n_n none (query x w b) key (constant S256x4096 .f32 0x00000000#32) (ValueIdx.ix2 r c)) Top.scale = _
  refine congrArg (Ideal.div · Top.scale) ?_
  refine (Ideal.matmul_apply₁_of _ rfl (K := 128) rfl _ _ _ _ (fun j : Fin 128 => (ValueIdx.ix2 r j : S256x128.Idx))
    (fun j : Fin 128 => (ValueIdx.ix2 c j : S4096x128.Idx)) (by intro j; funext a; fin_cases a <;> rfl) (by intro j; funext a; fin_cases a <;> rfl)).trans ?_
  refine Eq.trans (b := (0 : EReal) + _) (congrArg (· + _) Ideal.ofBits_zero_f32) ((zero_add _).trans (Finset.sum_congr rfl fun j _ => ?_))
  exact congrArg (· * key (ValueIdx.ix2 c j)) (query_apply x w b r j)

/-- The exponentials past each row's largest. -/
theorem pay3_apply (r : Fin 256) (c : Fin 4096) :
    (k0_pay3 x w b key : FVec Ideal S256x4096 .f32) (ValueIdx.ix2 r c) = Top.expo (logits x w (bias b) key r) c := by
  unfold k0_pay3
  show Ideal.exp (scaled x w b key (ValueIdx.ix2 r c) - broadcastTo S256x4096 (shapeCast S256x1
    (multiReduction .maximumf [1] S256 (scaled x w b key) 0xFF800000#32 reduces_S256x4096_S256 (.inl rfl) rfl) shapeCasts_S256_S256x1)
    broadcasts_S256x1_S256x4096 (ValueIdx.ix2 r c)) = _
  unfold Top.expo Top.peak
  refine congrArg Ideal.exp (congrArg₂ (· - ·) (scaled_apply x w b key r c) ?_)
  refine (Top.spread_apply _ _ r c).trans ((Top.max_apply _ _ _ r).trans ?_)
  exact congrArg (Finset.fold max ⊥ · Finset.univ) (funext fun c => scaled_apply x w b key r c)

end First

/-- The second call's rows: entries over the sum given. -/
theorem pay7_apply (x : FVec Ideal S256x4096 .f32) (s : FVec Ideal S256x1 .f32) (r : Fin 256) (c : Fin 4096) :
    (k1_pay7 x s : FVec Ideal S256x4096 .f32) (ValueIdx.ix2 r c) = Ideal.div (x (ValueIdx.ix2 r c)) (s (ValueIdx.ix2 r (0 : Fin 1))) := by
  unfold k1_pay7
  show Ideal.div (shapeCast S256x4096 x shapeCasts_S256x4096_S256x4096 (ValueIdx.ix2 r c))
    (broadcastTo S256x4096 (shapeCast S256x1 s shapeCasts_S256x1_S256x1) broadcasts_S256x1_S256x4096 (ValueIdx.ix2 r c)) = _
  rw [shapeCast_apply (k := (ValueIdx.ix2 r c : S256x4096.Idx)) (hk := rfl)]
  refine congrArg (Ideal.div _) ((Top.spread_apply _ _ r c).trans ?_)
  exact shapeCast_apply _ _ _ _ rfl

end Cert.Proof.Lead

end
-- ==== Proof.FirstArrays.lean ====
/-
  The first level's arrays: each call's blocks are rows of its arrays, so that the exponentials, their sums, the queries, the
  places and the entries are read row by row from the arguments.
-/
module

public import proofs.«01_k».proof.Proof.FirstDots
public import proofs.«01_k».proof.Proof.Region
public import Idealize.ShloMosaic.Lib.KernelVsHost

@[expose] public section

noncomputable section

namespace Cert.Proof.Lead

open Cert.FirstIdeal Cert.FirstIdeal.Gen
open Idealize.ShloMosaic Idealize.ShloMosaic.TcCoe Idealize.ShloMosaic.Tactic
open Idealize.ShloMosaic.Pipeline (Dat Cfg Window)
open Dots (blkRow blockOf)

/-! ## Where a block's rows sit -/

/-- The point that works on block `t`, in each call. -/
def pnt0 (t : Fin 8) : Fin cfg0.N := Fin.cast N_0.symm t
def pnt1 (t : Fin 8) : Fin cfg1.N := Fin.cast N_1.symm t

theorem coords_pnt0 : ∀ t : Fin 8, (grid0.coords (pnt0 t) 0).val = t.val := by decide
theorem coords_pnt1 : ∀ t : Fin 8, (grid1.coords (pnt1 t) 0).val = t.val := by decide

/-- A block at block-row `g` begins 256 rows past the one before. -/
theorem start_row {g t r : ℕ} (h : g = t) (ht : t < 8) : (BitVec.ofNat 32 g).toNat * 256 + r = 256 * t + r := by
  rw [h, BitVec.toNat_ofNat]; omega

theorem emb0_0 (t : Fin 8) (r : Fin 256) (j : Fin 1024) :
    ((cfg0.win 0).blk (pnt0 t)).view.emb (ValueIdx.ix2 r j) = ValueIdx.ix2 (blkRow t r) j := by
  funext a
  refine Fin.ext ((Pipeline.Window.rect_emb_val win0_0 (pnt0 t) (ValueIdx.ix2 r j) a).trans ?_)
  fin_cases a
  · exact start_row (coords_pnt0 t) t.isLt
  · show 0 * 1024 + j.val = j.val
    omega

theorem emb0_4 (t : Fin 8) (r : Fin 256) (j : Fin 4096) :
    ((cfg0.win 4).blk (pnt0 t)).view.emb (ValueIdx.ix2 r j) = ValueIdx.ix2 (blkRow t r) j := by
  funext a
  refine Fin.ext ((Pipeline.Window.rect_emb_val win0_4 (pnt0 t) (ValueIdx.ix2 r j) a).trans ?_)
  fin_cases a
  · exact start_row (coords_pnt0 t) t.isLt
  · show 0 * 4096 + j.val = j.val
    omega

theorem emb0_5 (t : Fin 8) (r : Fin 256) (j : Fin 128) :
    ((cfg0.win 5).blk (pnt0 t)).view.emb (ValueIdx.ix2 r j) = ValueIdx.ix2 (blkRow t r) j := by
  funext a
  refine Fin.ext ((Pipeline.Window.rect_emb_val win0_5 (pnt0 t) (ValueIdx.ix2 r j) a).trans ?_)
  fin_cases a
  · exact start_row (coords_pnt0 t) t.isLt
  · show 0 * 128 + j.val = j.val
    omega

theorem emb1_0 (t : Fin 8) (r : Fin 256) (j : Fin 4096) :
    ((cfg1.win 0).blk (pnt1 t)).view.emb (ValueIdx.ix2 r j) = ValueIdx.ix2 (blkRow t r) j := by
  funext a
  refine Fin.ext ((Pipeline.Window.rect_emb_val win1_0 (pnt1 t) (ValueIdx.ix2 r j) a).trans ?_)
  fin_cases a
  · exact start_row (coords_pnt1 t) t.isLt
  · show 0 * 4096 + j.val = j.val
    omega

theorem emb1_1 (t : Fin 8) (r : Fin 256) (j : Fin 1) :
    ((cfg1.win 1).blk (pnt1 t)).view.emb (ValueIdx.ix2 r j) = ValueIdx.ix2 (blkRow t r) j := by
  funext a
  refine Fin.ext ((Pipeline.Window.rect_emb_val win1_1 (pnt1 t) (ValueIdx.ix2 r j) a).trans ?_)
  fin_cases a
  · exact start_row (coords_pnt1 t) t.isLt
  · show 0 * 1 + j.val = j.val
    omega

theorem emb1_2 (t : Fin 8) (r : Fin 256) (j : Fin 16) :
    ((cfg1.win 2).blk (pnt1 t)).view.emb (ValueIdx.ix2 r j) = ValueIdx.ix2 (blkRow t r) j := by
  funext a
  refine Fin.ext ((Pipeline.Window.rect_emb_val win1_2 (pnt1 t) (ValueIdx.ix2 r j) a).trans ?_)
  fin_cases a
  · exact start_row (coords_pnt1 t) t.isLt
  · show 0 * 16 + j.val = j.val
    omega

theorem emb1_3 (t : Fin 8) (r : Fin 256) (j : Fin 16) :
    ((cfg1.win 3).blk (pnt1 t)).view.emb (ValueIdx.ix2 r j) = ValueIdx.ix2 (blkRow t r) j := by
  funext a
  refine Fin.ext ((Pipeline.Window.rect_emb_val win1_3 (pnt1 t) (ValueIdx.ix2 r j) a).trans ?_)
  fin_cases a
  · exact start_row (coords_pnt1 t) t.isLt
  · show 0 * 16 + j.val = j.val
    omega

/-- Blocks of rows at different points share no element. -/
theorem rows_disjoint {n : ℕ} (e e' : (⟨2, ![256, n]⟩ : Shape).Idx ↪ (⟨2, ![2048, n]⟩ : Shape).Idx) {t t' : Fin 8} (h : t ≠ t')
    (he : ∀ r j, e (ValueIdx.ix2 r j) = ValueIdx.ix2 (blkRow t r) j) (he' : ∀ r j, e' (ValueIdx.ix2 r j) = ValueIdx.ix2 (blkRow t' r) j) :
    Disjoint (Finset.univ.map e) (Finset.univ.map e') := by
  have split : ∀ y : (⟨2, ![256, n]⟩ : Shape).Idx, y = ValueIdx.ix2 (y 0 : Fin 256) (y 1 : Fin n) := fun y => by
    funext a
    match a with
    | ⟨0, _⟩ => rfl
    | ⟨1, _⟩ => rfl
  refine Finset.disjoint_left.mpr fun i hi hi' => h ?_
  obtain ⟨y, -, rfl⟩ := Finset.mem_map.mp hi
  obtain ⟨y', -, hy⟩ := Finset.mem_map.mp hi'
  have hz := (he' (y' 0) (y' 1)).symm.trans ((congrArg e' (split y')).symm.trans ((hy.trans (congrArg e (split y))).trans (he (y 0) (y 1))))
  exact (Dots.blkRow_inj (congrFun hz 0)).symm

theorem disj0_4 (t t' : Fin cfg0.N) (_ : (cfg0.win 4).flush t = true) (_ : (cfg0.win 4).flush t' = true) (h : t ≠ t') :
    Disjoint ((cfg0.win 4).blk t).view.set ((cfg0.win 4).blk t').view.set :=
  rows_disjoint (n := 4096) _ _ (t := Fin.cast N_0 t) (t' := Fin.cast N_0 t') (fun e => h (Fin.cast_injective _ e)) (emb0_4 _) (emb0_4 _)

theorem disj0_5 (t t' : Fin cfg0.N) (_ : (cfg0.win 5).flush t = true) (_ : (cfg0.win 5).flush t' = true) (h : t ≠ t') :
    Disjoint ((cfg0.win 5).blk t).view.set ((cfg0.win 5).blk t').view.set :=
  rows_disjoint (n := 128) _ _ (t := Fin.cast N_0 t) (t' := Fin.cast N_0 t') (fun e => h (Fin.cast_injective _ e)) (emb0_5 _) (emb0_5 _)

theorem disj1_2 (t t' : Fin cfg1.N) (_ : (cfg1.win 2).flush t = true) (_ : (cfg1.win 2).flush t' = true) (h : t ≠ t') :
    Disjoint ((cfg1.win 2).blk t).view.set ((cfg1.win 2).blk t').view.set :=
  rows_disjoint (n := 16) _ _ (t := Fin.cast N_1 t) (t' := Fin.cast N_1 t') (fun e => h (Fin.cast_injective _ e)) (emb1_2 _) (emb1_2 _)

theorem disj1_3 (t t' : Fin cfg1.N) (_ : (cfg1.win 3).flush t = true) (_ : (cfg1.win 3).flush t' = true) (h : t ≠ t') :
    Disjoint ((cfg1.win 3).blk t).view.set ((cfg1.win 3).blk t').view.set :=
  rows_disjoint (n := 16) _ _ (t := Fin.cast N_1 t) (t' := Fin.cast N_1 t') (fun e => h (Fin.cast_injective _ e)) (emb1_3 _) (emb1_3 _)

/-! ## The blocks read -/

section Blocks
variable {F : FTy → Type} [FloatOps F] (V : (c : Dev nD) → (b : Ref sig .tc) → Buf (Elt F) ((c : Thread nD τ).loc b)) (c : Dev nD) (t : Fin 8)

/-- The index of a row and a column. -/
theorem split2 {k n : ℕ} (y : (⟨2, ![k, n]⟩ : Shape).Idx) : y = ValueIdx.ix2 (y 0 : Fin k) (y 1 : Fin n) := by
  funext a
  match a with
  | ⟨0, _⟩ => rfl
  | ⟨1, _⟩ => rfl

theorem blk_hidden : (iblk0 V c 0 (pnt0 t) : S256x1024.Idx → F .f32) = blockOf t (V c main_arg0 : S2048x1024.Idx → F .f32) := by
  funext y
  rw [split2 y]; exact congrArg (V c main_arg0) (emb0_0 t (y 0) (y 1))

theorem blk_expos : (iblk1 V c 0 (pnt1 t) : S256x4096.Idx → F .f32) = blockOf t (V c main_v1_0 : S2048x4096.Idx → F .f32) := by
  funext y
  rw [split2 y]; exact congrArg (V c main_v1_0) (emb1_0 t (y 0) (y 1))

theorem blk_sums : (iblk1 V c 1 (pnt1 t) : S256x1.Idx → F .f32) = blockOf t (V c main_v3 : S2048x1.Idx → F .f32) := by
  funext y
  rw [split2 y]; exact congrArg (V c main_v3) (emb1_1 t (y 0) (y 1))

/-- The weights, the bias and the keys are read whole. -/
theorem blk_weights (p : Fin cfg0.N) : (iblk0 V c 1 p : S1024x256.Idx → F .f32) = V c main_arg1 := by
  funext y
  refine congrArg (V c main_arg1) (funext fun a => Fin.ext ((Pipeline.Window.rect_emb_val win0_1 p y a).trans ?_))
  fin_cases a
  · show 0 * 1024 + (y 0).val = (y 0).val
    omega
  · show 0 * 256 + (y 1).val = (y 1).val
    omega

theorem blk_bias (p : Fin cfg0.N) : (iblk0 V c 2 p : S1x256.Idx → F .f32) = V c main_v0 := by
  funext y
  refine congrArg (V c main_v0) (funext fun a => Fin.ext ((Pipeline.Window.rect_emb_val win0_2 p y a).trans ?_))
  fin_cases a
  · show 0 * 1 + (y 0).val = (y 0).val
    omega
  · show 0 * 256 + (y 1).val = (y 1).val
    omega

theorem blk_keys (p : Fin cfg0.N) : (iblk0 V c 3 p : S4096x128.Idx → F .f32) = V c main_arg3 := by
  funext y
  refine congrArg (V c main_arg3) (funext fun a => Fin.ext ((Pipeline.Window.rect_emb_val win0_3 p y a).trans ?_))
  fin_cases a
  · show 0 * 4096 + (y 0).val = (y 0).val
    omega
  · show 0 * 128 + (y 1).val = (y 1).val
    omega

/-! ## The arrays left, row by row -/

theorem out_expos (x : Vec F S256x1024 .f32) (w : Vec F S1024x256 .f32) (b : Vec F S1x256 .f32) (k : Vec F S4096x128 .f32) :
    out0_4 x w b k = k0_pay3 x w b k := by
  unfold out0_4
  rw [View.canon_cons_unit_lit _ _ _ (by decide)]
  exact congr (congr (congr (congrArg k0_pay3 (View.ld_unit_lit _ _ (by decide))) (View.ld_unit_lit _ _ (by decide)))
    (View.ld_unit_lit _ _ (by decide))) (View.ld_unit_lit _ _ (by decide))

theorem out_queries (x : Vec F S256x1024 .f32) (w : Vec F S1024x256 .f32) (b : Vec F S1x256 .f32) (k : Vec F S4096x128 .f32) :
    out0_5 x w b k = k0_pay2 x w b := by
  unfold out0_5
  rw [View.canon_cons_unit_lit _ _ _ (by decide)]
  exact congr (congr (congrArg k0_pay2 (View.ld_unit_lit _ _ (by decide))) (View.ld_unit_lit _ _ (by decide)))
    (View.ld_unit_lit _ _ (by decide))

theorem expos_arr (r : Fin 256) (j : Fin 4096) : ((dat0 V c).arrAt 4 cfg0.N : S2048x4096.Idx → F .f32) (ValueIdx.ix2 (blkRow t r) j)
    = k0_pay3 (blockOf t (V c main_arg0 : S2048x1024.Idx → F .f32)) (V c main_arg1 : S1024x256.Idx → F .f32)
        (V c main_v0 : S1x256.Idx → F .f32) (V c main_arg3 : S4096x128.Idx → F .f32) (ValueIdx.ix2 r j) := by
  have h := Dat.arrAt_emb_eq_flushed (dat0 V c) 4 disj0_4 (pnt0 t) (flush0_4 _) (ValueIdx.ix2 r j)
  rw [emb0_4] at h
  rw [← blk_hidden, ← blk_weights V c (pnt0 t), ← blk_bias V c (pnt0 t), ← blk_keys V c (pnt0 t), ← out_expos]
  exact h.trans (congrFun (after0_4 V c (pnt0 t)) (ValueIdx.ix2 r j))

theorem queries_arr (r : Fin 256) (j : Fin 128) : ((dat0 V c).arrAt 5 cfg0.N : S2048x128.Idx → F .f32) (ValueIdx.ix2 (blkRow t r) j)
    = k0_pay2 (blockOf t (V c main_arg0 : S2048x1024.Idx → F .f32)) (V c main_arg1 : S1024x256.Idx → F .f32)
        (V c main_v0 : S1x256.Idx → F .f32) (ValueIdx.ix2 r j) := by
  have h := Dat.arrAt_emb_eq_flushed (dat0 V c) 5 disj0_5 (pnt0 t) (flush0_5 _) (ValueIdx.ix2 r j)
  rw [emb0_5] at h
  rw [← blk_hidden, ← blk_weights V c (pnt0 t), ← blk_bias V c (pnt0 t), ← out_queries _ _ _ (iblk0 V c 3 (pnt0 t))]
  exact h.trans (congrFun (after0_5 V c (pnt0 t)) (ValueIdx.ix2 r j))

/-- The rows the second call takes its places of. -/
def taken : FVec F S256x4096 .f32 :=
  k1_pay7 (blockOf t (V c main_v1_0 : S2048x4096.Idx → F .f32)) (blockOf t (V c main_v3 : S2048x1.Idx → F .f32))

theorem places_arr (r : Fin 256) (j : Fin 16) : ((dat1 V c).arrAt 2 cfg1.N : S2048x16.Idx → BitVec 32) (ValueIdx.ix2 (blkRow t r) j)
    = places (taken V c t) (ValueIdx.ix2 r j) := by
  have h := Dat.arrAt_emb_eq_flushed (dat1 V c) 2 disj1_2 (pnt1 t) (flush1_2 _) (ValueIdx.ix2 r j)
  rw [emb1_2] at h
  unfold taken
  rw [← blk_expos, ← blk_sums, ← out_places]
  exact h.trans (congrFun (after1_2 V c (pnt1 t)) (ValueIdx.ix2 r j))

theorem entries_arr (r : Fin 256) (j : Fin 16) : ((dat1 V c).arrAt 3 cfg1.N : S2048x16.Idx → F .f32) (ValueIdx.ix2 (blkRow t r) j)
    = Dots.normed (vals (taken V c t)) (ValueIdx.ix2 r j) := by
  have h := Dat.arrAt_emb_eq_flushed (dat1 V c) 3 disj1_3 (pnt1 t) (flush1_3 _) (ValueIdx.ix2 r j)
  rw [emb1_3] at h
  unfold taken
  rw [← blk_expos, ← blk_sums, ← out_entries]
  exact h.trans (congrFun (after1_3 V c (pnt1 t)) (ValueIdx.ix2 r j))

end Blocks

end Cert.Proof.Lead

end
-- ==== Proof.FirstRun.lean ====
/-
  The first level's run: from any memory every execution ends with the buffers at what the two calls and the operations
  between leave, read here from the arguments. Over the extended reals the rows taken are the softmax of the dots.
-/
module

public import proofs.«01_k».proof.Proof.FirstArrays
public import proofs.«01_k».proof.Proof.Results

@[expose] public section

noncomputable section

namespace Cert.Proof.Lead

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Dots (blkRow blockOf)

section Run
variable {F : FTy → Type} [FloatOps F] (m : (ℓ : Loc nD τ sig) → Buf (Elt F) ℓ) (ρ : Dev nD → PrngReg)

/-- The launch's ghost state. -/
abbrev ghost : UR sig nD τ := initOf (Pipeline.cells cfgs cellOf_inj) (Pipeline.launchToks cfgs cellOf_inj)

/-- It is held through the embedding. -/
theorem own_ghost : (ownU ghost : sProp (MT nD τ sig Unit (Elt F) ℕ (UR sig nD τ) ℕ)) ⊢ BI.own (emb₁ ghost) := .rfl

set_option backward.isDefEq.respectTransparency.types false in
/-- Every execution ends, each buffer at the last boundary's contents. -/
theorem run_all : θ_run defs (onTc (τ := τ) (main (F := F))) ⟨m, fun _ => 0, ρ⟩
    (fun r => ∀ c : Dev nD, ∀ b ∈ Pipeline.ucRefs τ sig, r.2.mem (c, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := ghost)
    (hu₀ := by
      rw [BI.bigSep_emp_const]
      iintro Hu
      imodintro
      isplitl [Hu]
      · iapply (own_ghost (F := F))
        iexact Hu
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W4 m ρ c) s')
      isplitl [Hbufs] <;> iassumption)
    (hQ := fun _ h _ => h)

variable (c : Dev nD)

/-- The arguments: the hidden vectors, the weights, the bias and the keys. -/
abbrev hid : S2048x1024.Idx → F .f32 := m ((c : Thread nD τ).loc main_arg0)
abbrev wts : S1024x256.Idx → F .f32 := m ((c : Thread nD τ).loc main_arg1)
abbrev bia : S256.Idx → F .f32 := m ((c : Thread nD τ).loc main_arg2)
abbrev kys : S4096x128.Idx → F .f32 := m ((c : Thread nD τ).loc main_arg3)

/-- The exponentials and the queries, as the first call leaves them. -/
def exposOf : S2048x4096.Idx → F .f32 := (dat0 (V1 m ρ) c).arrAt 4 cfg0.N
def queriesOf : S2048x128.Idx → F .f32 := (dat0 (V1 m ρ) c).arrAt 5 cfg0.N
/-- The places and the entries, as the second leaves them. -/
def placesOf : S2048x16.Idx → BitVec 32 := (dat1 (V3 m ρ) c).arrAt 2 cfg1.N
def entriesOf : S2048x16.Idx → F .f32 := (dat1 (V3 m ρ) c).arrAt 3 cfg1.N

theorem V1_hid : (V1 m ρ c main_arg0 : S2048x1024.Idx → F .f32) = hid m c := W1_args m ρ c main_arg0 (by decide)
theorem V1_wts : (V1 m ρ c main_arg1 : S1024x256.Idx → F .f32) = wts m c := W1_args m ρ c main_arg1 (by decide)
theorem V1_kys : (V1 m ρ c main_arg3 : S4096x128.Idx → F .f32) = kys m c := W1_args m ρ c main_arg3 (by decide)
theorem V1_bia : (V1 m ρ c main_v0 : S1x256.Idx → F .f32) = shapeCast S1x256 (bia m c) shapeCasts_S256_S1x256 := by
  show StableHlo.after hostOps0 (W0 m ρ c) (Proc.devRef .tc main_v0) = _
  unfold hostOps0
  after_reads_simp
  rfl

theorem V3_expos : (V3 m ρ c main_v1_0 : S2048x4096.Idx → F .f32) = exposOf m ρ c :=
  (W3_of m ρ c main_v1_0 (by decide)).trans (W2_arr m ρ c 4)

theorem V3_sums : (V3 m ρ c main_v3 : S2048x1.Idx → F .f32) = broadcastInDim S2048x1 ![0] bcast_S2048_S2048x1_0
    (Host.reduceAdd (exposOf m ρ c) (constant S_ .f32 0x00000000#32) reducesTo_S2048x4096_S2048_d1 h_S_) := by
  show StableHlo.after hostOps1 (W2 m ρ c) (Proc.devRef .tc main_v3) = _
  unfold hostOps1
  after_reads_simp
  unfold exposOf
  rw [← W2_arr m ρ c 4]

/-- The run read at the results and at the arguments. -/
theorem run_read : θ_run defs (onTc (τ := τ) (main (F := F))) ⟨m, fun _ => 0, ρ⟩ (fun r => ∀ c : Dev nD,
      r.2.mem ((c.tc : Thread nD τ).loc main_v4_0) = placesOf m ρ c
      ∧ r.2.mem ((c.tc : Thread nD τ).loc main_v4_1) = entriesOf m ρ c
      ∧ r.2.mem ((c.tc : Thread nD τ).loc main_v1_1) = queriesOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    have k := fun a ha hs => (h c _ (mem_uc a hs)).trans (W4_args m ρ c a ha)
    exact ⟨(h c _ (mem_uc main_v4_0 (by decide))).trans (W4_arr m ρ c 2),
      (h c _ (mem_uc main_v4_1 (by decide))).trans (W4_arr m ρ c 3),
      (h c _ (mem_uc main_v1_1 (by decide))).trans ((W4_of_ne m ρ c main_v1_1 (by decide)).trans
        ((W3_of m ρ c main_v1_1 (by decide)).trans (W2_arr m ρ c 5))),
      k main_arg0 (by decide) (by decide), k main_arg1 (by decide) (by decide), k main_arg2 (by decide) (by decide),
      k main_arg3 (by decide) (by decide)⟩) (run_all m ρ)

end Run

/-! ## The rows over the extended reals -/

section Rows
variable (m : (ℓ : Loc nD τ sig) → Buf (Elt Ideal) ℓ) (ρ : Dev nD → PrngReg) (c : Dev nD)

/-- The dots of each query with the keys. -/
def dots (n : Fin 2048) : Fin 4096 → EReal := logits (hid m c) (wts m c) (fun j => bia m c (ValueIdx.ix1 j)) (kys m c) n

theorem bias_eq : bias (V1 m ρ c main_v0 : S1x256.Idx → Ideal .f32) = fun j => (bia m c (ValueIdx.ix1 j) : EReal) := by
  rw [V1_bia]
  funext j
  exact shapeCast_apply _ _ _ _ (by rw [Shape.rowMajor_val_one, Shape.rowMajor_val_two]; show j.val = 0 * 256 + j.val; omega)

theorem exposOf_apply (n : Fin 2048) (j : Fin 4096) : exposOf m ρ c (ValueIdx.ix2 n j) = Top.expo (dots m c n) j := by
  obtain ⟨t, r, rfl⟩ := Dots.row_split n
  refine (expos_arr (V1 m ρ) c t r j).trans ((pay3_apply _ _ _ _ r j).trans ?_)
  rw [bias_eq, V1_hid, V1_wts, V1_kys]
  rfl

theorem queriesOf_apply (n : Fin 2048) (j : Fin 128) : queriesOf m ρ c (ValueIdx.ix2 n j)
    = proj (hid m c) (wts m c) (fun j => bia m c (ValueIdx.ix1 j)) n (hi j) := by
  obtain ⟨t, r, rfl⟩ := Dots.row_split n
  refine (queries_arr (V1 m ρ) c t r j).trans ((pay2_apply _ _ _ r j).trans ?_)
  rw [bias_eq, V1_hid, V1_wts]
  rfl

theorem reduces_row : S2048x4096.Reduces [1] S2048 := by decide

theorem sums_apply (n : Fin 2048) : (V3 m ρ c main_v3 : S2048x1.Idx → Ideal .f32) (ValueIdx.ix2 n (0 : Fin 1))
    = ∑ j : Fin 4096, Top.expo (dots m c n) j := by
  rw [V3_sums, broadcastInDim_apply (k := (ValueIdx.ix1 n : S2048.Idx)) (hk := by intro a; fin_cases a; rfl)]
  refine (Ideal.hostReduceAdd_single _ reduces_row _ _ _).trans ?_
  refine Eq.trans (b := (0 : EReal) + _) (congrArg (· + _) Ideal.ofBits_zero_f32) ((zero_add _).trans (Finset.sum_congr rfl fun (j : Fin 4096) _ => ?_))
  refine Eq.trans (congrArg (exposOf m ρ c) ?_) (exposOf_apply m ρ c n j)
  funext b
  match b with
  | ⟨0, _⟩ => rfl
  | ⟨1, _⟩ => rfl

/-- The rows the second call works on are the softmax of the dots. -/
theorem taken_line (t : Fin 8) (r : Fin 256) : Top.line (taken (V3 m ρ) c t) r = Top.part (dots m c (blkRow t r)) := by
  funext j
  unfold taken
  refine (pay7_apply _ _ r j).trans ?_
  rw [V3_expos]
  exact congrArg₂ Ideal.div (exposOf_apply m ρ c (blkRow t r) j) (sums_apply m ρ c (blkRow t r))

end Rows

end Cert.Proof.Lead

end
-- ==== Proof.FirstReference.lean ====
/-
  The first level's reference: its projection a product and a bias, its dots the sums over the first half of the columns, its
  rows their softmax, its results the sixteen entries at the places a stable sort puts first over their sum, those places,
  and the second half of the columns.
-/
module

public import proofs.«01_k».proof.Proof.Gen.FirstReferenceIdeal.Run
public import proofs.«01_k».proof.Proof.FirstRun

@[expose] public section

noncomputable section

namespace Cert.Proof.LeadRef

open Cert.FirstReferenceIdeal Cert.FirstReferenceIdeal.Gen
open Idealize.ShloMosaic

section Defs
variable {F : FTy → Type} [FloatOps F]

/-- The projection, its columns in two halves. -/
def halves (x : FVec F S2048x1024 .f32) (w : FVec F S1024x256 .f32) (b : FVec F S256 .f32) : FVec F S2048x2x128 .f32 :=
  shapeCast S2048x2x128 (addf (Host.dotGeneral dot_S2048x1024_S1024x256_S2048x256_1_0_0_1_n_n none x w) (broadcastInDim S2048x256 ![0, 1] bcast_S1x256_S2048x256_0_1 (broadcastInDim S1x256 ![1] bcast_S256_S1x256_1 b))) shapeCasts_S2048x256_S2048x2x128

/-- The queries of the two levels. -/
def query (p : FVec F S2048x2x128 .f32) : FVec F S2048x128 .f32 :=
  shapeCast S2048x128 (extractStridedSlice S2048x1x128 ![0, 0, 0] p slices_S2048x2x128_S2048x1x128_0_0_0) shapeCasts_S2048x1x128_S2048x128
def second (p : FVec F S2048x2x128 .f32) : FVec F S2048x128 .f32 :=
  shapeCast S2048x128 (extractStridedSlice S2048x1x128 ![0, 1, 0] p slices_S2048x2x128_S2048x1x128_0_1_0) shapeCasts_S2048x1x128_S2048x128

/-- The dots of the queries with the keys. -/
def dots (q : FVec F S2048x128 .f32) (k : FVec F S4096x128 .f32) : FVec F S2048x4096 .f32 :=
  shapeCast S2048x4096 (Host.dotGeneral dot_S2048x1x128_S128x4096_S2048x1x4096_2_0_01_1_n_n none (broadcastInDim S2048x1x128 ![0, 2] bcast_S2048x128_S2048x1x128_0_2 q) (transpose S128x4096 [1, 0] k transposes_S4096x128_S128x4096_1_0)) shapeCasts_S2048x1x4096_S2048x4096

/-- A value of each row, given to all its entries. -/
def spread (v : FVec F S2048 .f32) : FVec F S2048x4096 .f32 :=
  broadcastInDim S2048x4096 ![0, 1] bcast_S2048x1_S2048x4096_0_1 (broadcastInDim S2048x1 ![0] bcast_S2048_S2048x1_0 v)

/-- The dots over the square root of their length, each row's largest, the exponentials past it, and their sums. -/
def scaled (a : FVec F S2048x4096 .f32) : FVec F S2048x4096 .f32 :=
  Host.divf a (broadcastInDim S2048x4096 ![] bcast_S_S2048x4096 (Host.sqrt (constant S_ .f32 0x43000000#32)))
def tops (a : FVec F S2048x4096 .f32) : FVec F S2048 .f32 :=
  Host.reduce FloatOps.maximumf (scaled a) (constant S_ .f32 0xFF800000#32) reducesTo_S2048x4096_S2048_d1 h_S_
def floor : FVec F S2048 .f32 := broadcastInDim S2048 ![] bcast_S_S2048 (constant S_ .f32 0xFF800000#32)
def peaks (a : FVec F S2048x4096 .f32) : FVec F S2048 .f32 := maximumf floor (tops a)
def expos (a : FVec F S2048x4096 .f32) : FVec F S2048x4096 .f32 := Host.exp (subf (scaled a) (spread (peaks a)))
def sums (a : FVec F S2048x4096 .f32) : FVec F S2048 .f32 :=
  Host.reduceAdd (expos a) (constant S_ .f32 0x00000000#32) reducesTo_S2048x4096_S2048_d1 h_S_

/-- The softmax. -/
def soft (a : FVec F S2048x4096 .f32) : FVec F S2048x4096 .f32 := Host.divf (expos a) (spread (sums a))

/-- The sixteen largest of each row and their places. -/
def best (a : FVec F S2048x4096 .f32) : FVec F S2048x16 .f32 := (Host.topK S2048x16 1 (FloatOps.cmpfTotal .gt) a sliceFits_S2048x4096_S2048x16).1
def where16 (a : FVec F S2048x4096 .f32) : IVec S2048x16 32 := (Host.topK S2048x16 1 (FloatOps.cmpfTotal .gt) a sliceFits_S2048x4096_S2048x16).2

variable (m : (ℓ : Loc nD τ sig) → Buf (Elt F) ℓ) (c : Dev nD)

/-- The run's rows and its results. -/
abbrev halvesOf : FVec F S2048x2x128 .f32 :=
  halves (m ((c.tc : Thread nD τ).loc main_arg0)) (m ((c.tc : Thread nD τ).loc main_arg1)) (m ((c.tc : Thread nD τ).loc main_arg2))
abbrev rowsOf : FVec F S2048x4096 .f32 := soft (dots (query (halvesOf m c)) (m ((c.tc : Thread nD τ).loc main_arg3)))

theorem out0_eq : Value.res_out0 m c = where16 (rowsOf m c) := rfl
theorem out1_eq : Value.res_out1 m c = Ref.overSum (best (rowsOf m c)) := rfl

end Defs

section Entries
variable (x : FVec Ideal S2048x1024 .f32) (w : FVec Ideal S1024x256 .f32) (b : FVec Ideal S256 .f32) (n : Fin 2048)

theorem halves_apply (u : Fin 2) (j : Fin 128) (l : Fin 256) (hl : l.val = 128 * u.val + j.val) :
    halves x w b (ValueIdx.ix3 n u j) = Lead.proj x w (fun k => b (ValueIdx.ix1 k)) n l := by
  unfold halves
  rw [shapeCast_apply (k := (ValueIdx.ix2 n l : S2048x256.Idx)) (hk := by
      rw [Shape.rowMajor_val_three, Shape.rowMajor_val_two]
      show n.val * 256 + l.val = (n.val * 2 + u.val) * 128 + j.val
      omega)]
  show (Host.dotGeneral dot_S2048x1024_S1024x256_S2048x256_1_0_0_1_n_n none x w (ValueIdx.ix2 n l)
    + broadcastInDim S2048x256 ![0, 1] bcast_S1x256_S2048x256_0_1 (broadcastInDim S1x256 ![1] bcast_S256_S1x256_1 b) (ValueIdx.ix2 n l) : EReal) = _
  rw [broadcastInDim_apply (k := (ValueIdx.ix2 (0 : Fin 1) l : S1x256.Idx)) (hk := by intro a; fin_cases a <;> rfl),
    broadcastInDim_apply (k := (ValueIdx.ix1 l : S256.Idx)) (hk := by intro a; fin_cases a; rfl)]
  refine congrArg (· + b (ValueIdx.ix1 l)) ?_
  simp only [Host.dotGeneral]
  rw [Ideal.dotGeneral_def, Ideal.matmul_apply₁_of _ rfl (K := 1024) rfl _ _ _ _ (fun j : Fin 1024 => (ValueIdx.ix2 n j : S2048x1024.Idx))
    (fun j : Fin 1024 => (ValueIdx.ix2 j l : S1024x256.Idx)) (by intro j; funext a; fin_cases a <;> rfl) (by intro j; funext a; fin_cases a <;> rfl)]
  exact zero_add _

theorem query_apply (j : Fin 128) : query (halves x w b) (ValueIdx.ix2 n j) = Lead.proj x w (fun k => b (ValueIdx.ix1 k)) n (Lead.lo j) := by
  rw [← halves_apply x w b n (0 : Fin 2) j (Lead.lo j) (by show j.val = 128 * 0 + j.val; omega)]
  unfold query
  rw [shapeCast_apply (k := (ValueIdx.ix3 n (0 : Fin 1) j : S2048x1x128.Idx)) (hk := by
      rw [Shape.rowMajor_val_three, Shape.rowMajor_val_two]
      show (n.val * 1 + 0) * 128 + j.val = n.val * 128 + j.val
      omega)]
  exact extractStridedSlice_apply _ _ _ _ _ (by intro a; fin_cases a <;> exact (Nat.zero_add _).symm)

theorem second_apply (j : Fin 128) : second (halves x w b) (ValueIdx.ix2 n j) = Lead.proj x w (fun k => b (ValueIdx.ix1 k)) n (Lead.hi j) := by
  rw [← halves_apply x w b n (1 : Fin 2) j (Lead.hi j) (by show 128 + j.val = 128 * 1 + j.val; omega)]
  unfold second
  rw [shapeCast_apply (k := (ValueIdx.ix3 n (0 : Fin 1) j : S2048x1x128.Idx)) (hk := by
      rw [Shape.rowMajor_val_three, Shape.rowMajor_val_two]
      show (n.val * 1 + 0) * 128 + j.val = n.val * 128 + j.val
      omega)]
  exact extractStridedSlice_apply _ _ _ _ _ (by
    intro a
    fin_cases a
    · exact (Nat.zero_add _).symm
    · rfl
    · exact (Nat.zero_add _).symm)

theorem dots_apply (k : FVec Ideal S4096x128 .f32) (c : Fin 4096) : dots (query (halves x w b)) k (ValueIdx.ix2 n c)
    = Lead.logits x w (fun l => b (ValueIdx.ix1 l)) k n c := by
  unfold dots
  rw [shapeCast_apply (k := (ValueIdx.ix3 n (0 : Fin 1) c : S2048x1x4096.Idx)) (hk := by
      rw [Shape.rowMajor_val_three, Shape.rowMajor_val_two]
      show (n.val * 1 + 0) * 4096 + c.val = n.val * 4096 + c.val
      omega)]
  simp only [Host.dotGeneral]
  rw [Ideal.dotGeneral_def, Ideal.matmul_apply₁_of _ rfl (K := 128) rfl _ _ _ _ (fun j : Fin 128 => (ValueIdx.ix3 n (0 : Fin 1) j : S2048x1x128.Idx))
    (fun j : Fin 128 => (ValueIdx.ix2 j c : S128x4096.Idx)) (by intro j; funext a; fin_cases a <;> rfl) (by intro j; funext a; fin_cases a <;> rfl)]
  refine (zero_add _).trans (Finset.sum_congr rfl fun j _ => ?_)
  rw [broadcastInDim_apply (k := (ValueIdx.ix2 n j : S2048x128.Idx)) (hk := by intro a; fin_cases a <;> rfl), query_apply,
    transpose_apply (k := (ValueIdx.ix2 c j : S4096x128.Idx)) (hk := by intro a; fin_cases a <;> rfl)]

end Entries

section Soft
variable (a : FVec Ideal S2048x4096 .f32) (n : Fin 2048) (c : Fin 4096)

theorem scaled_apply : scaled a (ValueIdx.ix2 n c) = Ideal.div (a (ValueIdx.ix2 n c)) Top.scale := rfl

theorem lift_row : Lead.reduces_row.lift (ValueIdx.ix1 n : S2048.Idx) c = ValueIdx.ix2 n c := by
  funext b
  match b with
  | ⟨0, _⟩ => rfl
  | ⟨1, _⟩ => rfl

theorem spread_apply (v : FVec Ideal S2048 .f32) : spread v (ValueIdx.ix2 n c) = v (ValueIdx.ix1 n) := by
  unfold spread
  rw [broadcastInDim_apply (k := (ValueIdx.ix2 n (0 : Fin 1) : S2048x1.Idx)) (hk := by intro a; fin_cases a <;> rfl),
    broadcastInDim_apply (k := (ValueIdx.ix1 n : S2048.Idx)) (hk := by intro a; fin_cases a; rfl)]

theorem tops_apply : tops a (ValueIdx.ix1 n) = Top.peak (Top.line a n) := by
  refine (congrFun (hostReduce_maximumf_eq_multiReduction (scaled a) 0xFF800000#32 _ _ Lead.reduces_row (.inl rfl) rfl) _).trans ?_
  refine (Ideal.multiReduction_maximumf_single _ _ _ _ _ _).trans ?_
  rw [Top.minusInf]
  have e : (scaled a ∘ Lead.reduces_row.lift (ValueIdx.ix1 n : S2048.Idx)) = fun c => Ideal.div (Top.line a n c) Top.scale := by
    funext (c : Fin 4096)
    exact (congrArg (scaled a) (lift_row n c)).trans (scaled_apply a n c)
  rw [e]
  rfl

theorem floor_apply (i : S2048.Idx) : (floor : FVec Ideal S2048 .f32) i = (⊥ : EReal) :=
  Eq.trans (b := (FloatOps.ofBits (F := Ideal) .f32 0xFF800000#32 : EReal)) rfl Top.minusInf

theorem peaks_apply : peaks a (ValueIdx.ix1 n) = Top.peak (Top.line a n) := by
  have e : ∀ (u v : FVec Ideal S2048 .f32) (i : S2048.Idx), maximumf u v i = (max (u i) (v i) : EReal) := fun _ _ _ => rfl
  exact (e floor (tops a) _).trans ((congrArg₂ max (floor_apply _) (tops_apply a n)).trans (max_eq_right bot_le))

theorem expos_apply : expos a (ValueIdx.ix2 n c) = Top.expo (Top.line a n) c := by
  unfold expos
  show Ideal.exp (scaled a (ValueIdx.ix2 n c) - spread (peaks a) (ValueIdx.ix2 n c)) = _
  rw [spread_apply, peaks_apply, scaled_apply]
  rfl

theorem sums_apply : sums a (ValueIdx.ix1 n) = ∑ c : Fin 4096, Top.expo (Top.line a n) c := by
  unfold sums
  refine (Ideal.hostReduceAdd_single _ Lead.reduces_row _ _ _).trans ?_
  refine Eq.trans (b := (0 : EReal) + _) (congrArg (· + _) Ideal.ofBits_zero_f32) ((zero_add _).trans (Finset.sum_congr rfl fun (c : Fin 4096) _ => ?_))
  exact (congrArg (expos a) (lift_row n c)).trans (expos_apply a n c)

theorem soft_apply : soft a (ValueIdx.ix2 n c) = Top.part (Top.line a n) c := by
  unfold soft
  show Ideal.div (expos a (ValueIdx.ix2 n c)) (spread (sums a) (ValueIdx.ix2 n c)) = _
  rw [spread_apply, sums_apply, expos_apply]
  rfl

theorem best_apply (j : Fin 16) : best a (ValueIdx.ix2 n j)
    = Top.line a n (sortedFrom (fun k k' => decide (Top.line a n k' < Top.line a n k)) (j.castLE (by omega))) :=
  Ref.topK_fst a n (by omega) _ j

theorem where16_apply (j : Fin 16) : where16 a (ValueIdx.ix2 n j)
    = BitVec.ofNat 32 (sortedFrom (fun k k' => decide (Top.line a n k' < Top.line a n k)) (j.castLE (by omega))).val :=
  Ref.topK_snd a n (by omega) _ j

end Soft

end Cert.Proof.LeadRef

end
-- ==== Proof.FirstResults.lean ====
/-
  The first level's results beside its reference's, over the extended reals: the rows are one softmax, real where the
  arguments are, so the places and entries taken of each agree; the queries agree as they stand.
-/
module

public import proofs.«01_k».proof.Proof.FirstReference
public import proofs.«01_k».proof.Pre_finite

@[expose] public section

noncomputable section

namespace Cert.Proof.Top

theorem IsReal.add {x y : EReal} (hx : IsReal x) (hy : IsReal y) : IsReal (x + y) := by
  obtain ⟨s, rfl⟩ := hx; obtain ⟨t, rfl⟩ := hy
  exact ⟨s + t, (EReal.coe_add s t).symm⟩

end Cert.Proof.Top

namespace Cert.Proof.Lead

open Cert.FirstIdeal Cert.FirstIdeal.Gen
open Idealize.ShloMosaic
open Dots (blkRow)

/-- The shapes of the predicate fit. -/
theorem finite_facts : Cert.Pre_finite.Facts where
  bcast_S_S2048x1024 := by decide
  reducesTo_S2048x1024_S_d0_1 := by decide
  h_S_ := by decide
  bcast_S_S1024x256 := by decide
  reducesTo_S1024x256_S_d0_1 := by decide
  bcast_S_S256 := by decide
  reducesTo_S256_S_d0 := by decide
  bcast_S_S4096x128 := by decide
  reducesTo_S4096x128_S_d0_1 := by decide

theorem one_idx : Subsingleton Cert.Pre_finite.S_.Idx := ⟨fun _ _ => funext fun i => i.elim0⟩

/-- What the predicate says of the arguments. -/
theorem real_of_finite [hP : Cert.Pre_finite.Facts] {x : S2048x1024.Idx → Ideal .f32} {w : S1024x256.Idx → Ideal .f32}
    {b : S256.Idx → Ideal .f32} {k : S4096x128.Idx → Ideal .f32} (h : Cert.Pre_finite.fn (F := Ideal) x w b k = fun _ => 1#1) :
    (∀ y, Top.IsReal (x y)) ∧ (∀ y, Top.IsReal (w y)) ∧ (∀ y, Top.IsReal (b y)) ∧ ∀ y, Top.IsReal (k y) := by
  have h0 := Dots.andi_one (congrFun h (fun a => a.elim0))
  have h1 := Dots.andi_one h0.1
  have h2 := Dots.andi_one h1.1
  have := one_idx
  exact ⟨fun y => Dots.real_of_lt (Host.reduce_andi_all _ _ _ _ _ h2.1 y), fun y => Dots.real_of_lt (Host.reduce_andi_all _ _ _ _ _ h2.2 y),
    fun y => Dots.real_of_lt (Host.reduce_andi_all _ _ _ _ _ h1.2 y), fun y => Dots.real_of_lt (Host.reduce_andi_all _ _ _ _ _ h0.2 y)⟩

variable (m : (ℓ : Loc nD τ sig) → Buf (Elt Ideal) ℓ) (ρ : Dev nD → PrngReg) (c : Dev nD)

/-- The arguments are real. -/
def Real0 : Prop := ∀ c : Dev nD, (∀ y, Top.IsReal (hid m c y)) ∧ (∀ y, Top.IsReal (wts m c y)) ∧ (∀ y, Top.IsReal (bia m c y)) ∧ ∀ y, Top.IsReal (kys m c y)

/-- The reference's projection and its softmax, of the arguments. -/
def refHalves : FVec Ideal Cert.FirstReferenceIdeal.S2048x2x128 .f32 := LeadRef.halves (F := Ideal) (hid m c) (wts m c) (bia m c)
def refRows : S2048x4096.Idx → EReal := LeadRef.soft (F := Ideal) (LeadRef.dots (LeadRef.query (refHalves m c)) (kys m c))

variable {m}

theorem dots_real (hr : Real0 m) (n : Fin 2048) (j : Fin 4096) : Top.IsReal (dots m c n j) := by
  unfold dots logits proj
  exact Top.IsReal.sum _ _ fun _ => ((Top.IsReal.sum _ _ fun _ => ((hr c).1 _).mul ((hr c).2.1 _)).add ((hr c).2.2.1 _)).mul ((hr c).2.2.2 _)

theorem refRows_line (n : Fin 2048) : Top.line (refRows m c) n = Top.part (dots m c n) := by
  funext j
  refine (LeadRef.soft_apply _ n j).trans (congrArg (fun a => Top.part a j) ?_)
  funext i
  exact LeadRef.dots_apply _ _ _ n _ i

theorem rows_eq (t : Fin 8) (r : Fin 256) : Top.line (taken (V3 m ρ) c t) r = Top.line (refRows m c) (blkRow t r) :=
  (taken_line m ρ c t r).trans (refRows_line c _).symm

theorem rows_ne_bot (hr : Real0 m) (t : Fin 8) (r : Fin 256) (q : Fin 4096) : Top.line (taken (V3 m ρ) c t) r q ≠ ⊥ := by
  rw [taken_line]
  exact (Top.part_real (dots_real c hr _) q).ne_bot

theorem vals_eq (hr : Real0 m) (t : Fin 8) (r : Fin 256) :
    Top.line (vals (F := Ideal) (taken (V3 m ρ) c t)) r = Top.line (LeadRef.best (F := Ideal) (refRows m c)) (blkRow t r) := by
  funext j
  refine (Top.vals_apply wide _ r (by omega) (rows_ne_bot ρ c hr t r) j).trans ?_
  rw [rows_eq]
  exact (LeadRef.best_apply _ _ _).symm

/-- The places. -/
theorem places_eq (hr : Real0 m) : placesOf m ρ c = LeadRef.where16 (F := Ideal) (refRows m c) := by
  funext y
  obtain ⟨t, r, e⟩ := Dots.row_split (y 0)
  have ey : y = ValueIdx.ix2 (blkRow t r) (y 1 : Fin 16) := by
    funext b
    match b with
    | ⟨0, _⟩ => exact e
    | ⟨1, _⟩ => rfl
  rw [ey]
  refine (places_arr (V3 m ρ) c t r (y 1)).trans ?_
  refine (Top.places_apply wide _ r (by omega) (rows_ne_bot ρ c hr t r) (y 1)).trans ?_
  rw [rows_eq]
  exact (LeadRef.where16_apply _ _ _).symm

/-- The entries over their sum. -/
theorem entries_eq (hr : Real0 m) : entriesOf m ρ c = Ref.overSum (F := Ideal) (LeadRef.best (refRows m c)) := by
  funext y
  obtain ⟨t, r, e⟩ := Dots.row_split (y 0)
  have ey : y = ValueIdx.ix2 (blkRow t r) (y 1 : Fin 16) := by
    funext b
    match b with
    | ⟨0, _⟩ => exact e
    | ⟨1, _⟩ => rfl
  rw [ey]
  refine (entries_arr (V3 m ρ) c t r (y 1)).trans ?_
  refine (Dots.normed_apply (vals (F := Ideal) (taken (V3 m ρ) c t)) r (y 1)).trans ?_
  refine Eq.trans ?_ (Ref.overSum_apply _ _ _).symm
  rw [vals_eq ρ c hr]
  exact congrArg (fun s => Ideal.div s _) (congrFun (vals_eq ρ c hr t r) (y 1))

/-- The second level's queries. -/
theorem queries_eq : queriesOf m ρ c = LeadRef.second (F := Ideal) (refHalves m c) := by
  funext y
  have ey : y = ValueIdx.ix2 (y 0 : Fin 2048) (y 1 : Fin 128) := by
    funext b
    match b with
    | ⟨0, _⟩ => rfl
    | ⟨1, _⟩ => rfl
  rw [ey]
  exact (queriesOf_apply m ρ c (y 0) (y 1)).trans (LeadRef.second_apply _ _ _ (y 0) (y 1)).symm

end Cert.Proof.Lead

end
-- ==== Proof.lean ====
/-
  The certificate, of two programs. The first level's chooses, of every query, sixteen of the 4096 keys by the softmax of their
  dots. The second level's: the SparseCore call computes the dots of every query with the keys its indices take, and the second call
  the weighted softmax of the groups of dots, its sixteen largest entries over their sum, and their places. Each
  program's frames are one run's, over any float values; its value claim is that run over the extended reals beside its
  reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Gen.KernelIdeal.Launch
public import proofs.«01_k».proof.Proof.Gen.KernelIdeal.Points
public import proofs.«01_k».proof.Proof.Results
public import proofs.«01_k».proof.Proof.Gen.First.Frame
public import proofs.«01_k».proof.Proof.Gen.FirstIdeal.Frame
public import proofs.«01_k».proof.Proof.Gen.FirstReferenceIdeal.Run
public import proofs.«01_k».proof.Proof.FirstResults
public import Idealize.ShloMosaic.Adequacy
public import Idealize.ShloMosaic.Init

@[expose] public section

noncomputable section

namespace Cert.Proof

open Idealize.ShloMosaic Idealize.SL.Sem

section Run

open Cert.KernelIdeal Dots

variable {F : FTy → Type} [FloatOps F] (m : (ℓ : Loc nD τ sig) → Buf (Elt F) ℓ)

/-- No operation before the calls writes an argument, nor does a call. -/
theorem args_kept (d : Dev nD) : ∀ b ∈ ({Proc.devRef .tc (main_arg0 : Ref sig .tc), Proc.devRef .tc (main_arg1 : Ref sig .tc),
    Proc.devRef .tc (main_arg2 : Ref sig .tc), Proc.devRef .tc (main_arg3 : Ref sig .tc)} : Finset (DevRef τ sig)), b ∈ SU ∧ VF m d b = m (d, b) := by
  intro b hb
  simp only [Finset.mem_insert, Finset.mem_singleton] at hb
  rcases hb with rfl | rfl | rfl | rfl <;>
    exact ⟨Finset.mem_filter.mpr ⟨StableHlo.devRef_mem_tcRefs _, by decide⟩, (VF_ne m d (by decide) (by decide)).trans
      ((VD_ne m d (by decide)).trans (by unfold VH hostOps; after_reads_simp))⟩

/-- The run, its final memory read at the results and at the arguments. -/
theorem run_read [∀ e, Nonempty (Elt F e)] (ρ : Dev nD → PrngReg) (h : Idx0 m) :
    θ_run (Cert.KernelIdeal.defs (F := F)) (Cert.KernelIdeal.threads (F := F)) ⟨m, fun _ => 0, ρ⟩ (fun r => (∀ c : Dev nD,
        r.2.mem ((c.tc : Thread nD τ).loc main_v12_0) = fvArr (VB m) c
        ∧ r.2.mem ((c.tc : Thread nD τ).loc main_v12_1) = fiArr (VB m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run _ _ _).mono (fun r hr => ⟨fun c => ?_, hr.2⟩) (run_main m ρ (preOK_of m h))
  have k := args_kept m c
  exact ⟨(hr.1 c rV (Finset.mem_filter.mpr ⟨StableHlo.devRef_mem_tcRefs _, by decide⟩)).trans (VF_v m c),
    (hr.1 c rW (Finset.mem_filter.mpr ⟨StableHlo.devRef_mem_tcRefs _, by decide⟩)).trans (VF_i m c),
    (hr.1 c _ (k _ (by simp)).1).trans (k _ (by simp)).2, (hr.1 c _ (k _ (by simp)).1).trans (k _ (by simp)).2,
    (hr.1 c _ (k _ (by simp)).1).trans (k _ (by simp)).2, (hr.1 c _ (k _ (by simp)).1).trans (k _ (by simp)).2⟩

end Run

/-- The words' program and the extended reals' have the same bodies. -/
theorem bodies_eq : Cert.Kernel.defs₀ (F := Bits) = Cert.KernelIdeal.defs₀ := by
  funext p l a
  cases p with
  | tc => match l, a with
    | 0, _ => rfl
    | 1, (_, _) => rfl
  | scScalar c => match l, a with
    | 0, _ => rfl
    | 1, (_, _) => rfl
  | scVector c s => match l, a with
    | 0, _ => rfl
    | 1, (_, _) => rfl

theorem defs_eq : Cert.Kernel.defs (F := Bits) = Cert.KernelIdeal.defs :=
  congrArg (fun b => Cert.KernelIdeal.sc.defs (Pipeline.defs Cert.KernelIdeal.pcfgs b)) bodies_eq

/-- The kernel terminates over words with its arguments unchanged and every counter back at zero. -/
theorem frame_kernel : Cert.quiescent_Kernel (hKernel := Cert.Kernel.Gen.facts) (hPre_in_range := Cert.Pre_in_range.Gen.facts) := fun m ρ h => by
  rw [defs_eq]
  exact (θ_run Cert.KernelIdeal.defs _ _).mono (fun _ hr => ⟨fun c => (hr.1 c).2.2, hr.2⟩)
    (run_read (F := Bits) m ρ fun d => Dots.toNat_of_pre (hP := Cert.Pre_in_range.Gen.facts) (h d))

/-- The same over the extended reals. -/
theorem frame_ideal : Cert.quiescent_KernelIdeal (hKernelIdeal := Cert.KernelIdeal.Gen.facts) (hPre_in_range := Cert.Pre_in_range.Gen.facts) := fun m ρ h =>
  (θ_run Cert.KernelIdeal.defs _ _).mono (fun _ hr => ⟨fun c => (hr.1 c).2.2, hr.2⟩)
    (run_read (F := Ideal) m ρ fun d => Dots.toNat_of_pre (hP := Cert.Pre_in_range.Gen.facts) (h d))

/-- And where the value claim is made. -/
theorem frame_ideal_finite : Cert.quiescent_KernelIdeal_pre_in_range_finite (hKernelIdeal := Cert.KernelIdeal.Gen.facts)
    (hPre_in_range_finite := Dots.finite_facts) := fun m ρ h =>
  (θ_run Cert.KernelIdeal.defs _ _).mono (fun _ hr => ⟨fun c => (hr.1 c).2.2, hr.2⟩)
    (run_read (F := Ideal) m ρ fun d => Dots.toNat_of_finite (hP := Dots.finite_facts) (h d))

/-- The reference's frame: host operations only, and no semaphore. -/
theorem frame_reference : Cert.quiescent_ReferenceIdeal (hReferenceIdeal := Cert.ReferenceIdeal.Gen.facts) :=
  fun m ρ _ => (θ_run Cert.ReferenceIdeal.defs _ _).mono (fun r h => ⟨fun c => (h c).2.2, sem_eq_zero_of_no_sems (by decide) r.2⟩)
    (Cert.ReferenceIdeal.Value.run m ρ)

/-- Over the extended reals the kernel's results are the reference's. -/
theorem algebraic : Cert.algebraic_KernelIdeal_ReferenceIdeal_pre_in_range_finite (hKernelIdeal := Cert.KernelIdeal.Gen.facts)
    (hReferenceIdeal := Cert.ReferenceIdeal.Gen.facts) (hPre_in_range_finite := Dots.finite_facts) := fun m ρ m' ρ' hpre hargs => by
  have h : Dots.Idx0 m := fun d => Dots.toNat_of_finite (hP := Dots.finite_facts) (hpre d)
  have real : Dots.Real0 m := fun d => Dots.real_of_finite (hP := Dots.finite_facts) (hpre d)
  refine ⟨fun c => Dots.fvArr (Dots.VB m) c, fun c => Dots.fiArr (Dots.VB m) c,
    (θ_run Cert.KernelIdeal.defs _ _).mono (fun _ hr => hr.1) (run_read m ρ h),
    (θ_run Cert.ReferenceIdeal.defs _ _).mono (fun _ hr c => ⟨(hr c).1.trans ?_, (hr c).2.1.trans ?_, (hr c).2.2⟩)
      (Cert.ReferenceIdeal.Value.run m' ρ')⟩
  · refine (Ref.out0_eq m' c).trans ?_
    rw [(hargs c).1, (hargs c).2.1, (hargs c).2.2.1, (hargs c).2.2.2]
    exact (Dots.entries_eq h real c).symm
  · refine (Ref.out1_eq m' c).trans ?_
    rw [(hargs c).1, (hargs c).2.1, (hargs c).2.2.1, (hargs c).2.2.2]
    exact (Dots.places_eq h real c).symm

/-- The first level's frame, over words and over the extended reals, and its reference's. -/
theorem frame_first : Cert.quiescent_First (hFirst := Cert.First.Gen.facts) := fun m ρ _ => Cert.First.Gen.frame m ρ

theorem frame_first_ideal : Cert.quiescent_FirstIdeal (hFirstIdeal := Cert.FirstIdeal.Gen.facts) := fun m ρ _ => Cert.FirstIdeal.Gen.frame m ρ

theorem frame_first_reference : Cert.quiescent_FirstReferenceIdeal (hFirstReferenceIdeal := Cert.FirstReferenceIdeal.Gen.facts) :=
  fun m ρ _ => (θ_run Cert.FirstReferenceIdeal.defs _ _).mono (fun r h => ⟨fun c => (h c).2.2.2, sem_eq_zero_of_no_sems (by decide) r.2⟩)
    (Cert.FirstReferenceIdeal.Value.run m ρ)

/-- Over the extended reals the first level's results are its reference's. -/
theorem algebraic_first : Cert.algebraic_FirstIdeal_FirstReferenceIdeal_pre_finite (hFirstIdeal := Cert.FirstIdeal.Gen.facts)
    (hFirstReferenceIdeal := Cert.FirstReferenceIdeal.Gen.facts) (hPre_finite := Lead.finite_facts) := fun m ρ m' ρ' hpre hargs => by
  have real : Lead.Real0 m := fun d => Lead.real_of_finite (hP := Lead.finite_facts) (hpre d)
  refine ⟨fun c => Lead.placesOf m ρ c, fun c => Lead.entriesOf m ρ c, fun c => Lead.queriesOf m ρ c, Lead.run_read m ρ,
    (θ_run Cert.FirstReferenceIdeal.defs _ _).mono (fun _ hr c => ⟨(hr c).1.trans ?_, (hr c).2.1.trans ?_, (hr c).2.2.1.trans ?_, (hr c).2.2.2⟩)
      (Cert.FirstReferenceIdeal.Value.run m' ρ')⟩
  · refine (LeadRef.out0_eq m' c).trans ?_
    unfold LeadRef.rowsOf LeadRef.halvesOf
    rw [(hargs c).1, (hargs c).2.1, (hargs c).2.2.1, (hargs c).2.2.2]
    exact (Lead.places_eq ρ c real).symm
  · refine (LeadRef.out1_eq m' c).trans ?_
    unfold LeadRef.rowsOf LeadRef.halvesOf
    rw [(hargs c).1, (hargs c).2.1, (hargs c).2.2.1, (hargs c).2.2.2]
    exact (Lead.entries_eq ρ c real).symm
  · refine Eq.trans (b := LeadRef.second (LeadRef.halvesOf m' c)) rfl ?_
    unfold LeadRef.halvesOf
    rw [(hargs c).1, (hargs c).2.1, (hargs c).2.2.1]
    exact (Lead.queries_eq ρ c).symm

/-- The claims together. -/
theorem claim : Cert.Claim := ⟨Cert.Kernel.Gen.facts, Cert.KernelIdeal.Gen.facts, Cert.ReferenceIdeal.Gen.facts, Cert.First.Gen.facts,
  Cert.FirstIdeal.Gen.facts, Cert.FirstReferenceIdeal.Gen.facts, Cert.Pre_in_range.Gen.facts, Dots.finite_facts, Lead.finite_facts,
  frame_kernel, frame_ideal, frame_ideal_finite, frame_reference, fun m ρ _ => frame_reference m ρ trivial, frame_first, frame_first_ideal,
  fun m ρ _ => frame_first_ideal m ρ trivial, frame_first_reference, fun m ρ _ => frame_first_reference m ρ trivial,
  trivial, algebraic, trivial, algebraic_first⟩

end Cert.Proof

end
